-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_proper_bounds [hPre_proper_bounds : Cert.Pre_proper_bounds.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_proper_bounds.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_proper_bounds [hPre_proper_bounds : Cert.Pre_proper_bounds.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_proper_bounds.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Reference4Ideal_zero_bounds [hPre_zero_bounds : Cert.Pre_zero_bounds.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_zero_bounds.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_zero_bounds [hPre_zero_bounds : Cert.Pre_zero_bounds.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_zero_bounds.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_proper_bounds [hKernel4Ideal : Cert.Kernel4Ideal.Facts] [hPre_proper_bounds : Cert.Pre_proper_bounds.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_proper_bounds m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_proper_bounds [hReference4Ideal : Cert.Reference4Ideal.Facts] [hPre_proper_bounds : Cert.Pre_proper_bounds.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_proper_bounds m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_zero_bounds [hReference4Ideal : Cert.Reference4Ideal.Facts] [hPre_zero_bounds : Cert.Pre_zero_bounds.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_zero_bounds m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_zero_bounds [hKernel6Ideal : Cert.Kernel6Ideal.Facts] [hPre_zero_bounds : Cert.Pre_zero_bounds.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_zero_bounds m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def preserves_Kernel_KernelIdeal : Prop :=
  IdealRules.named_const.Statement Cert.KernelIdeal.κ "scale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v55)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v55) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_proper_bounds [hKernel4Ideal : Cert.Kernel4Ideal.Facts] [hReference4Ideal : Cert.Reference4Ideal.Facts] [hPre_proper_bounds : Cert.Pre_proper_bounds.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_proper_bounds m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v56_0)) (v1 : (c : Dev Cert.Kernel5Ideal.nD) → Buf (Elt Ideal) ((c.tc : Thread Cert.Kernel5Ideal.nD Cert.Kernel5Ideal.τ).loc Cert.Kernel5Ideal.main_v56_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v56_0) = v0 c
          ∧ r.2.mem ((c.tc : Thread Cert.Kernel5Ideal.nD Cert.Kernel5Ideal.τ).loc Cert.Kernel5Ideal.main_v56_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v96) = v0 c
          ∧ r.2.mem ((c.tc : Thread Cert.Reference5Ideal.nD Cert.Reference5Ideal.τ).loc Cert.Reference5Ideal.main_v98) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference4Ideal_pre_zero_bounds [hKernel6Ideal : Cert.Kernel6Ideal.Facts] [hReference4Ideal : Cert.Reference4Ideal.Facts] [hPre_zero_bounds : Cert.Pre_zero_bounds.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel6Ideal_zero_bounds m →
    (∀ c : Dev Cert.Kernel6Ideal.nD,
      m' ((c.tc : Thread Cert.Reference4Ideal.nD Cert.Reference4Ideal.τ).loc Cert.Reference4Ideal.main_arg0) = m ((c.tc : Thread Cert.Kernel6Ideal.nD Cert.Kernel6Ideal.τ).loc Cert.Kernel6Ideal.main_arg0)
      ∧ m' ((c.tc : Thread Cert.Reference4Ideal.nD Cert.Reference4Ideal.τ).loc Cert.Reference4Ideal.main_arg1) = m ((c.tc : Thread Cert.Kernel6Ideal.nD Cert.Kernel6Ideal.τ).loc Cert.Kernel6Ideal.main_arg1)
      ∧ m' ((c.tc : Thread Cert.Reference4Ideal.nD Cert.Reference4Ideal.τ).loc Cert.Reference4Ideal.main_arg2) = m ((c.tc : Thread Cert.Kernel6Ideal.nD Cert.Kernel6Ideal.τ).loc Cert.Kernel6Ideal.main_arg2)
      ∧ m' ((c.tc : Thread Cert.Reference4Ideal.nD Cert.Reference4Ideal.τ).loc Cert.Reference4Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hPre_finite_scores : Cert.Pre_finite_scores.Facts) (hPre_proper_bounds : Cert.Pre_proper_bounds.Facts) (hPre_zero_bounds : Cert.Pre_zero_bounds.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_proper_bounds (hKernel4Ideal := hKernel4Ideal) (hPre_proper_bounds := hPre_proper_bounds)
    ∧ quiescent_Reference4Ideal (hReference4Ideal := hReference4Ideal)
    ∧ quiescent_Reference4Ideal_pre_proper_bounds (hReference4Ideal := hReference4Ideal) (hPre_proper_bounds := hPre_proper_bounds)
    ∧ quiescent_Reference4Ideal_pre_zero_bounds (hReference4Ideal := hReference4Ideal) (hPre_zero_bounds := hPre_zero_bounds)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_zero_bounds (hKernel6Ideal := hKernel6Ideal) (hPre_zero_bounds := hPre_zero_bounds)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_proper_bounds (hKernel4Ideal := hKernel4Ideal) (hReference4Ideal := hReference4Ideal) (hPre_proper_bounds := hPre_proper_bounds)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference4Ideal_pre_zero_bounds (hKernel6Ideal := hKernel6Ideal) (hReference4Ideal := hReference4Ideal) (hPre_zero_bounds := hPre_zero_bounds)
-- ==== Pre_finite_scores.lean ====
abbrev S8x4096x13856 : Shape := ⟨3, ![8, 4096, 13856]⟩
abbrev S8x256x13856 : Shape := ⟨3, ![8, 256, 13856]⟩
abbrev S8 : Shape := ⟨1, ![8]⟩
abbrev S8x4096x1280 : Shape := ⟨3, ![8, 4096, 1280]⟩
abbrev S8x256x1280 : Shape := ⟨3, ![8, 256, 1280]⟩
abbrev S_ : Shape := ⟨0, ![]⟩

class Facts : Prop where
  slices_S8x4096x13856_S8x4096x1280_0_0_8224 : S8x4096x13856.Slices ![0, 0, 8224] S8x4096x1280
  slices_S8x256x13856_S8x256x1280_0_0_8224 : S8x256x13856.Slices ![0, 0, 8224] S8x256x1280
  bcast_S_S8x4096x1280 : S_.BroadcastsInDim S8x4096x1280 (![] : Fin 0 → Fin S8x4096x1280.rank)
  reducesTo_S8x4096x1280_S_d0_1_2 : S8x4096x1280.ReducesTo [0, 1, 2] S_
  h_S_ : 0 < S_.numel
  bcast_S_S8x256x1280 : S_.BroadcastsInDim S8x256x1280 (![] : Fin 0 → Fin S8x256x1280.rank)
  reducesTo_S8x256x1280_S_d0_1_2 : S8x256x1280.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x13856 .f32) (main_arg1 : FVec F S8x256x13856 .f32) (main_arg2 : FVec F S8 .f32) : IVec S_ 1 :=
  let main_v0 : FVec F S8x4096x1280 .f32 := (extractStridedSlice S8x4096x1280 ![0, 0, 8224] · slices_S8x4096x13856_S8x4096x1280_0_0_8224) main_arg0
  let main_v1 : FVec F S8x256x1280 .f32 := (extractStridedSlice S8x256x1280 ![0, 0, 8224] · slices_S8x256x13856_S8x256x1280_0_0_8224) main_arg1
  let main_v2 : FVec F S8x4096x1280 .f32 := Host.absf main_v0
  let main_cst : FVec F S_ .f32 := constant S_ .f32 0x7F800000#32
  let main_v3 : FVec F S8x4096x1280 .f32 := broadcastInDim S8x4096x1280 ![] bcast_S_S8x4096x1280 main_cst
  let main_v4 : IVec S8x4096x1280 1 := cmpf .olt main_v2 main_v3
  let main_c : IVec S_ 1 := constantI S_ 1 1#1
  let main_v5 : IVec S_ 1 := (fun x v => Host.reduce IntOp.andi x v reducesTo_S8x4096x1280_S_d0_1_2 h_S_) main_v4 main_c
  let main_v6 : FVec F S8x256x1280 .f32 := Host.absf main_v1
  let main_cst_0 : FVec F S_ .f32 := constant S_ .f32 0x7F800000#32
  let main_v7 : FVec F S8x256x1280 .f32 := broadcastInDim S8x256x1280 ![] bcast_S_S8x256x1280 main_cst_0
  let main_v8 : IVec S8x256x1280 1 := cmpf .olt main_v6 main_v7
  let main_c_1 : IVec S_ 1 := constantI S_ 1 1#1
  let main_v9 : IVec S_ 1 := (fun x v => Host.reduce IntOp.andi x v reducesTo_S8x256x1280_S_d0_1_2 h_S_) main_v8 main_c_1
  let main_v10 : IVec S_ 1 := andi main_v5 main_v9
  let main_v11 : FVec F S8 .f32 := Host.absf main_arg2
  let main_cst_2 : FVec F S_ .f32 := constant S_ .f32 0x7F800000#32
  let main_v12 : FVec F S8 .f32 := broadcastInDim S8 ![] bcast_S_S8 main_cst_2
  let main_v13 : IVec S8 1 := cmpf .olt main_v11 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v10 main_v14
  main_v15
-- ==== Pre_proper_bounds.lean ====
abbrev S8x4096x1024 : Shape := ⟨3, ![8, 4096, 1024]⟩
abbrev S8x256x1024 : Shape := ⟨3, ![8, 256, 1024]⟩
abbrev S1024x13856 : Shape := ⟨2, ![1024, 13856]⟩
abbrev S2x1024 : Shape := ⟨2, ![2, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S8x4096x1024 .f32) (main_arg1 : FVec F S8x256x1024 .f32) (main_arg2 : FVec F S1024x13856 .f32) (main_arg3 : FVec F S2x1024 .f32) : IVec S_ 1 :=
  let main_cst : FVec F S_ .f32 := constant S_ .f32 0x00000000#32
  let main_v0 : FVec F S2x1024 .f32 := broadcastInDim S2x1024 ![] bcast_S_S2x1024 main_cst
  let main_v1 : IVec S2x1024 1 := cmpf .oge main_arg3 main_v0
  let main_c : IVec S_ 1 := constantI S_ 1 1#1
  let main_v2 : IVec S_ 1 := (fun x v => Host.reduce IntOp.andi x v reducesTo_S2x1024_S_d0_1 h_S_) main_v1 main_c
  let main_cst_0 : FVec F S_ .f32 := constant S_ .f32 0x3F800000#32
  let main_v3 : FVec F S2x1024 .f32 := broadcastInDim S2x1024 ![] bcast_S_S2x1024 main_cst_0
  let main_v4 : IVec S2x1024 1 := cmpf .ole main_arg3 main_v3
  let main_c_1 : IVec S_ 1 := constantI S_ 1 1#1
  let main_v5 : IVec S_ 1 := (fun x v => Host.reduce IntOp.andi x v reducesTo_S2x1024_S_d0_1 h_S_) main_v4 main_c_1
  let main_v6 : IVec S_ 1 := andi main_v2 main_v5
  main_v6
-- ==== Pre_zero_bounds.lean ====
abbrev S8x4096x1024 : Shape := ⟨3, ![8, 4096, 1024]⟩
abbrev S8x256x1024 : Shape := ⟨3, ![8, 256, 1024]⟩
abbrev S1024x13856 : Shape := ⟨2, ![1024, 13856]⟩
abbrev S2x1024 : Shape := ⟨2, ![2, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S8x4096x1024 .f32) (main_arg1 : FVec F S8x256x1024 .f32) (main_arg2 : FVec F S1024x13856 .f32) (main_arg3 : FVec F S2x1024 .f32) : IVec S_ 1 :=
  let main_cst : FVec F S_ .f32 := constant S_ .f32 0x00000000#32
  let main_v0 : FVec F S2x1024 .f32 := broadcastInDim S2x1024 ![] bcast_S_S2x1024 main_cst
  let main_v1 : IVec S2x1024 1 := cmpf .oeq main_arg3 main_v0
  let main_c : IVec S_ 1 := constantI S_ 1 1#1
  let main_v2 : IVec S_ 1 := (fun x v => Host.reduce IntOp.andi x v reducesTo_S2x1024_S_d0_1 h_S_) main_v1 main_c
  main_v2
-- ==== Kernel.lean ====
abbrev S8x4096x13856 : Shape := ⟨3, ![8, 4096, 13856]⟩
abbrev S8x256x13856 : Shape := ⟨3, ![8, 256, 13856]⟩
abbrev S8 : Shape := ⟨1, ![8]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x256 : Shape := ⟨2, ![4096, 256]⟩
abbrev S256x128 : Shape := ⟨2, ![256, 128]⟩
abbrev S256x256 : Shape := ⟨2, ![256, 256]⟩
abbrev S4352x256 : Shape := ⟨2, ![4352, 256]⟩
abbrev S32768x13856 : Shape := ⟨2, ![32768, 13856]⟩
abbrev S2048x13856 : Shape := ⟨2, ![2048, 13856]⟩
abbrev S34816x13856 : Shape := ⟨2, ![34816, 13856]⟩
abbrev S34816x3072 : Shape := ⟨2, ![34816, 3072]⟩
abbrev S34816x1024 : Shape := ⟨2, ![34816, 1024]⟩
abbrev S34816x512 : Shape := ⟨2, ![34816, 512]⟩
abbrev S34816x256 : Shape := ⟨2, ![34816, 256]⟩
abbrev S34816x11776 : Shape := ⟨2, ![34816, 11776]⟩
abbrev S256x1024 : Shape := ⟨2, ![256, 1024]⟩
abbrev S256x512 : Shape := ⟨2, ![256, 512]⟩
abbrev S128x512 : Shape := ⟨2, ![128, 512]⟩
abbrev S128x256 : Shape := ⟨2, ![128, 256]⟩
abbrev S128x384 : Shape := ⟨2, ![128, 384]⟩
abbrev S128x128 : Shape := ⟨2, ![128, 128]⟩
abbrev S512x128 : Shape := ⟨2, ![512, 128]⟩
abbrev S640x128 : Shape := ⟨2, ![640, 128]⟩
abbrev S512x640 : Shape := ⟨2, ![512, 640]⟩
abbrev S1 : Shape := ⟨1, ![1]⟩
abbrev S128 : Shape := ⟨1, ![128]⟩
abbrev S128x1 : Shape := ⟨2, ![128, 1]⟩
abbrev S128x640 : Shape := ⟨2, ![128, 640]⟩

abbrev nBuf : Space → Nat
  | .hbm => 102
  | .vmem => 20
  | .smem => 1
  | _ => 0

abbrev bufTy : (tb : Table) → Fin (tcTables nBuf tb) → BufTy
  | .hbm, ⟨0, _⟩ => ⟨S8x4096x13856, .f32⟩
  | .hbm, ⟨1, _⟩ => ⟨S8x256x13856, .f32⟩
  | .hbm, ⟨2, _⟩ => ⟨S8, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096, .f32⟩
  | .hbm, ⟨59, _⟩ => ⟨S4096x1, .f32⟩
  | .hbm, ⟨60, _⟩ => ⟨S1x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x128, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S4096x256, .f32⟩
  | .hbm, ⟨75, _⟩ => ⟨S_, .f32⟩
  | .hbm, ⟨76, _⟩ => ⟨S256x128, .f32⟩
  | .hbm, ⟨77, _⟩ => ⟨S_, .f32⟩
  | .hbm, ⟨78, _⟩ => ⟨S256x128, .f32⟩
  | .hbm, ⟨79, _⟩ => ⟨S256x256, .f32⟩
  | .hbm, ⟨80, _⟩ => ⟨S4352x256, .f32⟩
  | .hbm, ⟨81, _⟩ => ⟨S32768x13856, .f32⟩
  | .hbm, ⟨82, _⟩ => ⟨S2048x13856, .f32⟩
  | .hbm, ⟨83, _⟩ => ⟨S34816x13856, .f32⟩
  | .hbm, ⟨84, _⟩ => ⟨S34816x3072, .f32⟩
  | .hbm, ⟨85, _⟩ => ⟨S34816x1024, .f32⟩
  | .hbm, ⟨86, _⟩ => ⟨S34816x1024, .f32⟩
  | .hbm, ⟨87, _⟩ => ⟨S34816x1024, .f32⟩
  | .hbm, ⟨88, _⟩ => ⟨S34816x1024, .f32⟩
  | .hbm, ⟨89, _⟩ => ⟨S34816x1024, .f32⟩
  | .hbm, ⟨90, _⟩ => ⟨S34816x1024, .f32⟩
  | .hbm, ⟨91, _⟩ => ⟨S34816x1024, .f32⟩
  | .hbm, ⟨92, _⟩ => ⟨S34816x512, .f32⟩
  | .hbm, ⟨93, _⟩ => ⟨S_, .f32⟩
  | .hbm, ⟨94, _⟩ => ⟨S34816x512, .f32⟩
  | .hbm, ⟨95, _⟩ => ⟨S34816x512, .f32⟩
  | .hbm, ⟨96, _⟩ => ⟨S34816x512, .f32⟩
  | .hbm, ⟨97, _⟩ => ⟨S34816x256, .f32⟩
  | .hbm, ⟨98, _⟩ => ⟨S34816x256, .f32⟩
  | .hbm, ⟨99, _⟩ => ⟨S34816x11776, .f32⟩
  | .hbm, ⟨100, _⟩ => ⟨S34816x11776, .bf16⟩
  | .hbm, ⟨101, _⟩ => ⟨S34816x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S256x256, .f32⟩
  | .local _ .vmem, ⟨13, _⟩ => ⟨S256x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S256x1024, .bf16⟩
  | .local _ .vmem, ⟨19, _⟩ => ⟨S256x1024, .bf16⟩
  | .local _ .smem, ⟨0, _⟩ => ⟨S8, .f32⟩
  | _, _ => ⟨S8x4096x13856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_cst_3 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_4 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 17], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli c16_i32_0 arg0
  let v2 : BitVec 32 := Scalar.addi v1 arg1
  let c1_i32 : BitVec 32 := 1#32
  let v3 : BitVec 32 := Scalar.muli c1_i32 arg0
  let c128_i32 : BitVec 32 := 128#32
  let v4 : BitVec 32 := Scalar.addi c128_i32 v3
  let v5 : BitVec 32 := Scalar.addi v4 arg1
  let c16_i32_1 : BitVec 32 := 16#32
  let v6 : BitVec 32 := Scalar.subi v5 c16_i32_1
  let v7 : BitVec 32 := Scalar.select v0 v2 v6
  let c8_i32 : BitVec 32 := 8#32
  let c0_i32 : BitVec 32 := 0#32
  ![v7.toNat, c8_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli c16_i32_0 arg0
  let v2 : BitVec 32 := Scalar.addi v1 arg1
  let c1_i32 : BitVec 32 := 1#32
  let v3 : BitVec 32 := Scalar.muli c1_i32 arg0
  let c128_i32 : BitVec 32 := 128#32
  let v4 : BitVec 32 := Scalar.addi c128_i32 v3
  let v5 : BitVec 32 := Scalar.addi v4 arg1
  let c16_i32_1 : BitVec 32 := 16#32
  let v6 : BitVec 32 := Scalar.subi v5 c16_i32_1
  let v7 : BitVec 32 := Scalar.select v0 v2 v6
  let c9_i32 : BitVec 32 := 9#32
  let c0_i32 : BitVec 32 := 0#32
  ![v7.toNat, c9_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c22_i32 : BitVec 32 := 22#32
  let c0_i32 : BitVec 32 := 0#32
  ![v0.toNat, c22_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli c16_i32_0 arg0
  let v2 : BitVec 32 := Scalar.addi v1 arg1
  let c1_i32 : BitVec 32 := 1#32
  let v3 : BitVec 32 := Scalar.muli c1_i32 arg0
  let c128_i32 : BitVec 32 := 128#32
  let v4 : BitVec 32 := Scalar.addi c128_i32 v3
  let v5 : BitVec 32 := Scalar.addi v4 arg1
  let c16_i32_1 : BitVec 32 := 16#32
  let v6 : BitVec 32 := Scalar.subi v5 c16_i32_1
  let v7 : BitVec 32 := Scalar.select v0 v2 v6
  let c22_i32 : BitVec 32 := 22#32
  let c0_i32 : BitVec 32 := 0#32
  ![v7.toNat, c22_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg0
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let c31_i32 : BitVec 32 := 31#32
  let v3 : BitVec 32 := Scalar.maxsi c0_i32 v2
  let v4 : BitVec 32 := Scalar.minsi c31_i32 v3
  let v5 : BitVec 32 := Scalar.addi v0 v4
  let c22_i32 : BitVec 32 := 22#32
  let c0_i32_0 : BitVec 32 := 0#32
  ![v5.toNat, c22_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg0
  let c2_i32 : BitVec 32 := 2#32
  let v1 : BitVec 32 := Scalar.muli c2_i32 arg1
  let c2_i32_0 : BitVec 32 := 2#32
  let v2 : BitVec 32 := Scalar.addi v1 c2_i32_0
  let c0_i32 : BitVec 32 := 0#32
  let c31_i32 : BitVec 32 := 31#32
  let v3 : BitVec 32 := Scalar.maxsi c0_i32 v2
  let v4 : BitVec 32 := Scalar.minsi c31_i32 v3
  let v5 : BitVec 32 := Scalar.addi v0 v4
  let c22_i32 : BitVec 32 := 22#32
  let c0_i32_1 : BitVec 32 := 0#32
  ![v5.toNat, c22_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c31_i32 : BitVec 32 := 31#32
  let v2 : BitVec 32 := Scalar.maxsi c0_i32 v1
  let v3 : BitVec 32 := Scalar.minsi c31_i32 v2
  let c0_i32_1 : BitVec 32 := 0#32
  let c0_i32_2 : BitVec 32 := 0#32
  ![v3.toNat, c0_i32_1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli c16_i32_0 arg0
  let v2 : BitVec 32 := Scalar.addi v1 arg1
  let c1_i32 : BitVec 32 := 1#32
  let v3 : BitVec 32 := Scalar.muli c1_i32 arg0
  let c128_i32 : BitVec 32 := 128#32
  let v4 : BitVec 32 := Scalar.addi c128_i32 v3
  let v5 : BitVec 32 := Scalar.addi v4 arg1
  let c16_i32_1 : BitVec 32 := 16#32
  let v6 : BitVec 32 := Scalar.subi v5 c16_i32_1
  let v7 : BitVec 32 := Scalar.select v0 v2 v6
  let c0_i32 : BitVec 32 := 0#32
  let c0_i32_2 : BitVec 32 := 0#32
  ![v7.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((11863283 / 134217728) * (Real.log 2)⁻¹ : ℝ) : EReal)
  | _ => none
-- ==== ReferenceIdeal.lean ====
abbrev S8x4096x13856 : Shape := ⟨3, ![8, 4096, 13856]⟩
abbrev S8x256x13856 : Shape := ⟨3, ![8, 256, 13856]⟩
abbrev S8 : Shape := ⟨1, ![8]⟩
abbrev S8x4096x1024 : Shape := ⟨3, ![8, 4096, 1024]⟩
abbrev S8x4096x256 : Shape := ⟨3, ![8, 4096, 256]⟩
abbrev S8x256x1024 : Shape := ⟨3, ![8, 256, 1024]⟩
abbrev S8x256x256 : Shape := ⟨3, ![8, 256, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8x4096x8x128 : Shape := ⟨4, ![8, 4096, 8, 128]⟩
abbrev S8x4096x8x64 : Shape := ⟨4, ![8, 4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096x8x32 : Shape := ⟨4, ![8, 4096, 8, 32]⟩
abbrev S1x4096x1x32 : Shape := ⟨4, ![1, 4096, 1, 32]⟩
abbrev S8x4096x2x128 : Shape := ⟨4, ![8, 4096, 2, 128]⟩
abbrev S8x4096x2x64 : Shape := ⟨4, ![8, 4096, 2, 64]⟩
abbrev S8x4096x2x32 : Shape := ⟨4, ![8, 4096, 2, 32]⟩
abbrev S8x256x2x128 : Shape := ⟨4, ![8, 256, 2, 128]⟩
abbrev S8x256x8x128 : Shape := ⟨4, ![8, 256, 8, 128]⟩
abbrev S8x32x128x2x4x128 : Shape := ⟨6, ![8, 32, 128, 2, 4, 128]⟩
abbrev S8x4352x2x128 : Shape := ⟨4, ![8, 4352, 2, 128]⟩
abbrev S8x34x128x2x128 : Shape := ⟨5, ![8, 34, 128, 2, 128]⟩
abbrev S8x32x128x2x128 : Shape := ⟨5, ![8, 32, 128, 2, 128]⟩
abbrev S8x32x384x2x128 : Shape := ⟨5, ![8, 32, 384, 2, 128]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S8x2x32x384x128x4 : Shape := ⟨6, ![8, 2, 32, 384, 128, 4]⟩
abbrev S8x2x4x32x128x384 : Shape := ⟨6, ![8, 2, 4, 32, 128, 384]⟩
abbrev S8x2x256x32x128x4 : Shape := ⟨6, ![8, 2, 256, 32, 128, 4]⟩
abbrev S8x2x4x32x128x256 : Shape := ⟨6, ![8, 2, 4, 32, 128, 256]⟩
abbrev S1x2x4x1x1x1 : Shape := ⟨6, ![1, 2, 4, 1, 1, 1]⟩
abbrev S8x2x4x32x128x1 : Shape := ⟨6, ![8, 2, 4, 32, 128, 1]⟩
abbrev S8x2x4x32x128x641 : Shape := ⟨6, ![8, 2, 4, 32, 128, 641]⟩
abbrev S8x2x4x32x128 : Shape := ⟨5, ![8, 2, 4, 32, 128]⟩
abbrev S8x2x128x4x32x128 : Shape := ⟨6, ![8, 2, 128, 4, 32, 128]⟩
abbrev S8x32x2x128x4x128 : Shape := ⟨6, ![8, 32, 2, 128, 4, 128]⟩
abbrev S8x256x2x4x128 : Shape := ⟨5, ![8, 256, 2, 4, 128]⟩
abbrev S8x2x256x256x4 : Shape := ⟨5, ![8, 2, 256, 256, 4]⟩
abbrev S8x2x4x256x256 : Shape := ⟨5, ![8, 2, 4, 256, 256]⟩
abbrev S1x2x4x1x1 : Shape := ⟨5, ![1, 2, 4, 1, 1]⟩
abbrev S8x2x4x256x1 : Shape := ⟨5, ![8, 2, 4, 256, 1]⟩
abbrev S8x2x4x256x257 : Shape := ⟨5, ![8, 2, 4, 256, 257]⟩
abbrev S8x2x4x256 : Shape := ⟨4, ![8, 2, 4, 256]⟩
abbrev S8x2x128x4x256 : Shape := ⟨5, ![8, 2, 128, 4, 256]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 313
  | .vmem => 0
  | .smem => 0
  | _ => 0

abbrev hbmTy0_0 (i : Nat) : BufTy := match i % 128 with
  | 0 => ⟨S8x4096x13856, .f32⟩
  | 1 => ⟨S8x256x13856, .f32⟩
  | 2 => ⟨S8, .f32⟩
  | 3 => ⟨S8x4096x1024, .f32⟩
  | 4 => ⟨S8x4096x256, .f32⟩
  | 5 => ⟨S8x4096x256, .f32⟩
  | 6 => ⟨S8x4096x1024, .f32⟩
  | 7 => ⟨S8x256x1024, .f32⟩
  | 8 => ⟨S8x256x256, .f32⟩
  | 9 => ⟨S8x256x256, .f32⟩
  | 10 => ⟨S8x256x1024, .f32⟩
  | 11 => ⟨S64, .i32⟩
  | 12 => ⟨S64x64, .i32⟩
  | 13 => ⟨S4096, .i32⟩
  | 14 => ⟨S64, .i32⟩
  | 15 => ⟨S1x64, .i32⟩
  | 16 => ⟨S64x64, .i32⟩
  | 17 => ⟨S4096, .i32⟩
  | 18 => ⟨S8x4096x8x128, .f32⟩
  | 19 => ⟨S8x4096x8x64, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4096, .f32⟩
  | 29 => ⟨S4096x1, .f32⟩
  | 30 => ⟨S1x32, .f32⟩
  | 31 => ⟨S4096x32, .f32⟩
  | 32 => ⟨S4096x32, .f32⟩
  | 33 => ⟨S4096x32, .f32⟩
  | 34 => ⟨S4096x32, .f32⟩
  | 35 => ⟨S4096x1x32, .f32⟩
  | 36 => ⟨S4096x32, .f32⟩
  | 37 => ⟨S4096x1x32, .f32⟩
  | 38 => ⟨S8x4096x8x32, .f32⟩
  | 39 => ⟨S8x4096x8x32, .f32⟩
  | 40 => ⟨S1x4096x1x32, .f32⟩
  | 41 => ⟨S8x4096x8x32, .f32⟩
  | 42 => ⟨S8x4096x8x32, .f32⟩
  | 43 => ⟨S1x4096x1x32, .f32⟩
  | 44 => ⟨S8x4096x8x32, .f32⟩
  | 45 => ⟨S8x4096x8x32, .f32⟩
  | 46 => ⟨S8x4096x8x32, .f32⟩
  | 47 => ⟨S1x4096x1x32, .f32⟩
  | 48 => ⟨S8x4096x8x32, .f32⟩
  | 49 => ⟨S8x4096x8x32, .f32⟩
  | 50 => ⟨S1x4096x1x32, .f32⟩
  | 51 => ⟨S8x4096x8x32, .f32⟩
  | 52 => ⟨S8x4096x8x32, .f32⟩
  | 53 => ⟨S8x4096x8x32, .f32⟩
  | 54 => ⟨S8x4096x8x64, .f32⟩
  | 55 => ⟨S8x4096x8x64, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S4096, .f32⟩
  | 65 => ⟨S4096x1, .f32⟩
  | 66 => ⟨S1x32, .f32⟩
  | 67 => ⟨S4096x32, .f32⟩
  | 68 => ⟨S4096x32, .f32⟩
  | 69 => ⟨S4096x32, .f32⟩
  | 70 => ⟨S4096x32, .f32⟩
  | 71 => ⟨S4096x1x32, .f32⟩
  | 72 => ⟨S4096x32, .f32⟩
  | 73 => ⟨S4096x1x32, .f32⟩
  | 74 => ⟨S8x4096x8x32, .f32⟩
  | 75 => ⟨S8x4096x8x32, .f32⟩
  | 76 => ⟨S1x4096x1x32, .f32⟩
  | 77 => ⟨S8x4096x8x32, .f32⟩
  | 78 => ⟨S8x4096x8x32, .f32⟩
  | 79 => ⟨S1x4096x1x32, .f32⟩
  | 80 => ⟨S8x4096x8x32, .f32⟩
  | 81 => ⟨S8x4096x8x32, .f32⟩
  | 82 => ⟨S8x4096x8x32, .f32⟩
  | 83 => ⟨S1x4096x1x32, .f32⟩
  | 84 => ⟨S8x4096x8x32, .f32⟩
  | 85 => ⟨S8x4096x8x32, .f32⟩
  | 86 => ⟨S1x4096x1x32, .f32⟩
  | 87 => ⟨S8x4096x8x32, .f32⟩
  | 88 => ⟨S8x4096x8x32, .f32⟩
  | 89 => ⟨S8x4096x8x32, .f32⟩
  | 90 => ⟨S8x4096x8x64, .f32⟩
  | 91 => ⟨S8x4096x8x128, .f32⟩
  | 92 => ⟨S8x4096x2x128, .f32⟩
  | 93 => ⟨S8x4096x2x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S4096, .f32⟩
  | 103 => ⟨S4096x1, .f32⟩
  | 104 => ⟨S1x32, .f32⟩
  | 105 => ⟨S4096x32, .f32⟩
  | 106 => ⟨S4096x32, .f32⟩
  | 107 => ⟨S4096x32, .f32⟩
  | 108 => ⟨S4096x32, .f32⟩
  | 109 => ⟨S4096x1x32, .f32⟩
  | 110 => ⟨S4096x32, .f32⟩
  | 111 => ⟨S4096x1x32, .f32⟩
  | 112 => ⟨S8x4096x2x32, .f32⟩
  | 113 => ⟨S8x4096x2x32, .f32⟩
  | 114 => ⟨S1x4096x1x32, .f32⟩
  | 115 => ⟨S8x4096x2x32, .f32⟩
  | 116 => ⟨S8x4096x2x32, .f32⟩
  | 117 => ⟨S1x4096x1x32, .f32⟩
  | 118 => ⟨S8x4096x2x32, .f32⟩
  | 119 => ⟨S8x4096x2x32, .f32⟩
  | 120 => ⟨S8x4096x2x32, .f32⟩
  | 121 => ⟨S1x4096x1x32, .f32⟩
  | 122 => ⟨S8x4096x2x32, .f32⟩
  | 123 => ⟨S8x4096x2x32, .f32⟩
  | 124 => ⟨S1x4096x1x32, .f32⟩
  | 125 => ⟨S8x4096x2x32, .f32⟩
  | 126 => ⟨S8x4096x2x32, .f32⟩
  | 127 => ⟨S8x4096x2x32, .f32⟩
  | _ => ⟨S8x4096x13856, .f32⟩

abbrev hbmTy0_1 (i : Nat) : BufTy := match i % 128 with
  | 0 => ⟨S8x4096x2x64, .f32⟩
  | 1 => ⟨S8x4096x2x64, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S4096, .f32⟩
  | 11 => ⟨S4096x1, .f32⟩
  | 12 => ⟨S1x32, .f32⟩
  | 13 => ⟨S4096x32, .f32⟩
  | 14 => ⟨S4096x32, .f32⟩
  | 15 => ⟨S4096x32, .f32⟩
  | 16 => ⟨S4096x32, .f32⟩
  | 17 => ⟨S4096x1x32, .f32⟩
  | 18 => ⟨S4096x32, .f32⟩
  | 19 => ⟨S4096x1x32, .f32⟩
  | 20 => ⟨S8x4096x2x32, .f32⟩
  | 21 => ⟨S8x4096x2x32, .f32⟩
  | 22 => ⟨S1x4096x1x32, .f32⟩
  | 23 => ⟨S8x4096x2x32, .f32⟩
  | 24 => ⟨S8x4096x2x32, .f32⟩
  | 25 => ⟨S1x4096x1x32, .f32⟩
  | 26 => ⟨S8x4096x2x32, .f32⟩
  | 27 => ⟨S8x4096x2x32, .f32⟩
  | 28 => ⟨S8x4096x2x32, .f32⟩
  | 29 => ⟨S1x4096x1x32, .f32⟩
  | 30 => ⟨S8x4096x2x32, .f32⟩
  | 31 => ⟨S8x4096x2x32, .f32⟩
  | 32 => ⟨S1x4096x1x32, .f32⟩
  | 33 => ⟨S8x4096x2x32, .f32⟩
  | 34 => ⟨S8x4096x2x32, .f32⟩
  | 35 => ⟨S8x4096x2x32, .f32⟩
  | 36 => ⟨S8x4096x2x64, .f32⟩
  | 37 => ⟨S8x4096x2x128, .f32⟩
  | 38 => ⟨S8x4096x2x128, .f32⟩
  | 39 => ⟨S8x256x2x128, .f32⟩
  | 40 => ⟨S8x256x2x128, .f32⟩
  | 41 => ⟨S8x256x8x128, .f32⟩
  | 42 => ⟨S_, .f32⟩
  | 43 => ⟨S8x4096x8x128, .f32⟩
  | 44 => ⟨S8x4096x8x128, .f32⟩
  | 45 => ⟨S8x32x128x2x4x128, .f32⟩
  | 46 => ⟨S_, .i32⟩
  | 47 => ⟨S_, .f32⟩
  | 48 => ⟨S8x4352x2x128, .f32⟩
  | 49 => ⟨S8x34x128x2x128, .f32⟩
  | 50 => ⟨S8x32x128x2x128, .f32⟩
  | 51 => ⟨S8x32x128x2x128, .f32⟩
  | 52 => ⟨S8x32x128x2x128, .f32⟩
  | 53 => ⟨S8x32x384x2x128, .f32⟩
  | 54 => ⟨S_, .i32⟩
  | 55 => ⟨S_, .f32⟩
  | 56 => ⟨S8x4352x2x128, .f32⟩
  | 57 => ⟨S8x34x128x2x128, .f32⟩
  | 58 => ⟨S8x32x128x2x128, .f32⟩
  | 59 => ⟨S8x32x128x2x128, .f32⟩
  | 60 => ⟨S8x32x128x2x128, .f32⟩
  | 61 => ⟨S8x32x384x2x128, .f32⟩
  | 62 => ⟨S128, .i32⟩
  | 63 => ⟨S384, .i32⟩
  | 64 => ⟨S32, .i32⟩
  | 65 => ⟨S1x384, .i32⟩
  | 66 => ⟨S_, .i32⟩
  | 67 => ⟨S1x384, .i32⟩
  | 68 => ⟨S1x384, .i32⟩
  | 69 => ⟨S128x1, .i32⟩
  | 70 => ⟨S128x384, .i32⟩
  | 71 => ⟨S128x384, .i32⟩
  | 72 => ⟨S128x384, .i32⟩
  | 73 => ⟨S32x1, .i32⟩
  | 74 => ⟨S_, .i32⟩
  | 75 => ⟨S32x1, .i32⟩
  | 76 => ⟨S32x1, .i32⟩
  | 77 => ⟨S_, .i32⟩
  | 78 => ⟨S32x1, .i32⟩
  | 79 => ⟨S32x1, .i32⟩
  | 80 => ⟨S1x384, .i32⟩
  | 81 => ⟨S32x384, .i32⟩
  | 82 => ⟨S32x384, .i32⟩
  | 83 => ⟨S32x384, .i32⟩
  | 84 => ⟨S128x384, .i32⟩
  | 85 => ⟨S_, .i32⟩
  | 86 => ⟨S128x384, .i32⟩
  | 87 => ⟨S128x384, .i1⟩
  | 88 => ⟨S1x128x384, .i1⟩
  | 89 => ⟨S_, .i32⟩
  | 90 => ⟨S32x384, .i32⟩
  | 91 => ⟨S32x384, .i1⟩
  | 92 => ⟨S_, .i32⟩
  | 93 => ⟨S32x384, .i32⟩
  | 94 => ⟨S32x384, .i1⟩
  | 95 => ⟨S32x384, .i1⟩
  | 96 => ⟨S32x1x384, .i1⟩
  | 97 => ⟨S32x128x384, .i1⟩
  | 98 => ⟨S32x128x384, .i1⟩
  | 99 => ⟨S32x128x384, .i1⟩
  | 100 => ⟨S8x2x32x384x128x4, .f32⟩
  | 101 => ⟨S8x2x4x32x128x384, .f32⟩
  | 102 => ⟨S_, .f32⟩
  | 103 => ⟨S_, .f32⟩
  | 104 => ⟨S8x2x4x32x128x384, .i1⟩
  | 105 => ⟨S8x2x4x32x128x384, .f32⟩
  | 106 => ⟨S8x2x4x32x128x384, .f32⟩
  | 107 => ⟨S8x2x256x32x128x4, .f32⟩
  | 108 => ⟨S8x2x4x32x128x256, .f32⟩
  | 109 => ⟨S1x2x4x1x1x1, .f32⟩
  | 110 => ⟨S8x2x4x32x128x1, .f32⟩
  | 111 => ⟨S8x2x4x32x128x641, .f32⟩
  | 112 => ⟨S_, .f32⟩
  | 113 => ⟨S8x2x4x32x128, .f32⟩
  | 114 => ⟨S_, .f32⟩
  | 115 => ⟨S8x2x4x32x128, .f32⟩
  | 116 => ⟨S8x2x4x32x128, .f32⟩
  | 117 => ⟨S8x2x4x32x128x1, .f32⟩
  | 118 => ⟨S8x2x4x32x128x641, .f32⟩
  | 119 => ⟨S8x2x4x32x128x641, .f32⟩
  | 120 => ⟨S8x2x4x32x128x641, .f32⟩
  | 121 => ⟨S_, .f32⟩
  | 122 => ⟨S8x2x4x32x128, .f32⟩
  | 123 => ⟨S8x2x4x32x128x1, .f32⟩
  | 124 => ⟨S8x2x4x32x128x641, .f32⟩
  | 125 => ⟨S8x2x4x32x128x641, .f32⟩
  | 126 => ⟨S8x2x4x32x128x256, .f32⟩
  | 127 => ⟨S8x2x128x4x32x128, .f32⟩
  | _ => ⟨S8x4096x13856, .f32⟩

abbrev hbmTy0_2 (i : Nat) : BufTy := match i % 128 with
  | 0 => ⟨S8x32x128x2x4x128, .f32⟩
  | 1 => ⟨S8x2x4x32x128x384, .f32⟩
  | 2 => ⟨S8x32x2x128x4x128, .f32⟩
  | 3 => ⟨S8x32x128x2x4x128, .f32⟩
  | 4 => ⟨S8x32x128x2x4x128, .f32⟩
  | 5 => ⟨S8x4096x1024, .f32⟩
  | 6 => ⟨S8x4096x1024, .f32⟩
  | 7 => ⟨S8x4096x1024, .f32⟩
  | 8 => ⟨S_, .f32⟩
  | 9 => ⟨S8x4096x1024, .f32⟩
  | 10 => ⟨S8x4096x1024, .f32⟩
  | 11 => ⟨S_, .f32⟩
  | 12 => ⟨S8x4096x1024, .f32⟩
  | 13 => ⟨S8x4096x1024, .f32⟩
  | 14 => ⟨S8x4096x1024, .f32⟩
  | 15 => ⟨S8x4096x1024, .f32⟩
  | 16 => ⟨S_, .f32⟩
  | 17 => ⟨S8x256x8x128, .f32⟩
  | 18 => ⟨S8x256x8x128, .f32⟩
  | 19 => ⟨S8x256x2x4x128, .f32⟩
  | 20 => ⟨S8x2x256x256x4, .f32⟩
  | 21 => ⟨S8x2x4x256x256, .f32⟩
  | 22 => ⟨S1x2x4x1x1, .f32⟩
  | 23 => ⟨S8x2x4x256x1, .f32⟩
  | 24 => ⟨S8x2x4x256x257, .f32⟩
  | 25 => ⟨S_, .f32⟩
  | 26 => ⟨S8x2x4x256, .f32⟩
  | 27 => ⟨S_, .f32⟩
  | 28 => ⟨S8x2x4x256, .f32⟩
  | 29 => ⟨S8x2x4x256, .f32⟩
  | 30 => ⟨S8x2x4x256x1, .f32⟩
  | 31 => ⟨S8x2x4x256x257, .f32⟩
  | 32 => ⟨S8x2x4x256x257, .f32⟩
  | 33 => ⟨S8x2x4x256x257, .f32⟩
  | 34 => ⟨S_, .f32⟩
  | 35 => ⟨S8x2x4x256, .f32⟩
  | 36 => ⟨S8x2x4x256x1, .f32⟩
  | 37 => ⟨S8x2x4x256x257, .f32⟩
  | 38 => ⟨S8x2x4x256x257, .f32⟩
  | 39 => ⟨S8x2x4x256x256, .f32⟩
  | 40 => ⟨S8x2x128x4x256, .f32⟩
  | 41 => ⟨S8x256x2x4x128, .f32⟩
  | 42 => ⟨S8x256x1024, .f32⟩
  | 43 => ⟨S8x256x1024, .f32⟩
  | 44 => ⟨S8x256x1024, .f32⟩
  | 45 => ⟨S_, .f32⟩
  | 46 => ⟨S8x256x1024, .f32⟩
  | 47 => ⟨S8x256x1024, .f32⟩
  | 48 => ⟨S_, .f32⟩
  | 49 => ⟨S8x256x1024, .f32⟩
  | 50 => ⟨S8x256x1024, .f32⟩
  | 51 => ⟨S8x256x1024, .f32⟩
  | 52 => ⟨S8x256x1024, .f32⟩
  | 53 => ⟨S32768x1024, .f32⟩
  | 54 => ⟨S2048x1024, .f32⟩
  | 55 => ⟨S34816x1024, .f32⟩
  | 56 => ⟨S34816x1024, .bf16⟩
  | _ => ⟨S8x4096x13856, .f32⟩

abbrev hbmTy (i : Nat) : BufTy := match i / 128 with
  | 0 => hbmTy0_0 i
  | 1 => hbmTy0_1 i
  | 2 => hbmTy0_2 i
  | _ => ⟨S8x4096x13856, .f32⟩

abbrev bufTy : (tb : Table) → Fin (tcTables nBuf tb) → BufTy
  | .hbm, ⟨i, _⟩ => hbmTy i
  | _, _ => ⟨S8x4096x13856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst_1 : Ref sig .tc := ⟨.hbm, 58, rfl⟩
abbrev main_v53 : Ref sig .tc := ⟨.hbm, 59, rfl⟩
abbrev main_v54 : Ref sig .tc := ⟨.hbm, 60, rfl⟩
abbrev main_cst_2 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_cst_3 : Ref sig .tc := ⟨.hbm, 96, rfl⟩
abbrev main_v89 : Ref sig .tc := ⟨.hbm, 97, rfl⟩
abbrev main_v90 : Ref sig .tc := ⟨.hbm, 98, rfl⟩
abbrev main_cst_4 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_cst_5 : Ref sig .tc := ⟨.hbm, 132, rfl⟩
abbrev main_v123 : Ref sig .tc := ⟨.hbm, 133, rfl⟩
abbrev main_v124 : Ref sig .tc := ⟨.hbm, 134, rfl⟩
abbrev main_cst_6 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_cst_7 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_c : Ref sig .tc := ⟨.hbm, 174, rfl⟩
abbrev main_call0_v0 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_c_8 : Ref sig .tc := ⟨.hbm, 182, rfl⟩
abbrev main_call1_v0 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_c_9 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_c_10 : Ref sig .tc := ⟨.hbm, 202, rfl⟩
abbrev main_v185 : Ref sig .tc := ⟨.hbm, 203, rfl⟩
abbrev main_v186 : Ref sig .tc := ⟨.hbm, 204, rfl⟩
abbrev main_c_11 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_c_12 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_c_13 : Ref sig .tc := ⟨.hbm, 217, rfl⟩
abbrev main_v197 : Ref sig .tc := ⟨.hbm, 218, rfl⟩
abbrev main_v198 : Ref sig .tc := ⟨.hbm, 219, rfl⟩
abbrev main_c_14 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_cst_15 : Ref sig .tc := ⟨.hbm, 230, rfl⟩
abbrev main_call2_v0 : Ref sig .tc := ⟨.hbm, 231, rfl⟩
abbrev main_call2_v1 : Ref sig .tc := ⟨.hbm, 232, rfl⟩
abbrev main_call2_v2 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_cst_16 : Ref sig .tc := ⟨.hbm, 240, rfl⟩
abbrev main_v214 : Ref sig .tc := ⟨.hbm, 241, rfl⟩
abbrev main_cst_17 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_cst_18 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_call3_v0 : Ref sig .tc := ⟨.hbm, 262, rfl⟩
abbrev main_call3_v1 : Ref sig .tc := ⟨.hbm, 263, rfl⟩
abbrev main_call3_cst : Ref sig .tc := ⟨.hbm, 264, rfl⟩
abbrev main_call3_v2 : Ref sig .tc := ⟨.hbm, 265, rfl⟩
abbrev main_call3_v3 : Ref sig .tc := ⟨.hbm, 266, rfl⟩
abbrev main_call3_cst_0 : Ref sig .tc := ⟨.hbm, 267, rfl⟩
abbrev main_call3_v4 : Ref sig .tc := ⟨.hbm, 268, rfl⟩
abbrev main_call3_v5 : Ref sig .tc := ⟨.hbm, 269, rfl⟩
abbrev main_v233 : Ref sig .tc := ⟨.hbm, 270, rfl⟩
abbrev main_v234 : Ref sig .tc := ⟨.hbm, 271, rfl⟩
abbrev main_cst_19 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_cst_20 : Ref sig .tc := ⟨.hbm, 281, rfl⟩
abbrev main_v243 : Ref sig .tc := ⟨.hbm, 282, rfl⟩
abbrev main_cst_21 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_cst_22 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_call4_v0 : Ref sig .tc := ⟨.hbm, 299, rfl⟩
abbrev main_call4_v1 : Ref sig .tc := ⟨.hbm, 300, rfl⟩
abbrev main_call4_cst : Ref sig .tc := ⟨.hbm, 301, rfl⟩
abbrev main_call4_v2 : Ref sig .tc := ⟨.hbm, 302, rfl⟩
abbrev main_call4_v3 : Ref sig .tc := ⟨.hbm, 303, rfl⟩
abbrev main_call4_cst_0 : Ref sig .tc := ⟨.hbm, 304, rfl⟩
abbrev main_call4_v4 : Ref sig .tc := ⟨.hbm, 305, rfl⟩
abbrev main_call4_v5 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S1024x13856 : Shape := ⟨2, ![1024, 13856]⟩
abbrev S1024x3072 : Shape := ⟨2, ![1024, 3072]⟩
abbrev S1024x1024 : Shape := ⟨2, ![1024, 1024]⟩
abbrev S1024x512 : Shape := ⟨2, ![1024, 512]⟩
abbrev S_ : Shape := ⟨0, ![]⟩
abbrev S1024x256 : Shape := ⟨2, ![1024, 256]⟩
abbrev S1024x11776 : Shape := ⟨2, ![1024, 11776]⟩
abbrev S32768x1024 : Shape := ⟨2, ![32768, 1024]⟩
abbrev S2048x1024 : Shape := ⟨2, ![2048, 1024]⟩
abbrev S34816x11776 : Shape := ⟨2, ![34816, 11776]⟩
abbrev S2048x512 : Shape := ⟨2, ![2048, 512]⟩

abbrev nBuf : Space → Nat
  | .hbm => 25
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x13856, .f32⟩
  | .hbm, ⟨3, _⟩ => ⟨S1024x3072, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x256, .f32⟩
  | .hbm, ⟨17, _⟩ => ⟨S1024x256, .f32⟩
  | .hbm, ⟨18, _⟩ => ⟨S1024x11776, .f32⟩
  | .hbm, ⟨19, _⟩ => ⟨S1024x11776, .bf16⟩
  | .hbm, ⟨20, _⟩ => ⟨S32768x1024, .f32⟩
  | .hbm, ⟨21, _⟩ => ⟨S32768x1024, .bf16⟩
  | .hbm, ⟨22, _⟩ => ⟨S2048x1024, .f32⟩
  | .hbm, ⟨23, _⟩ => ⟨S2048x1024, .bf16⟩
  | .hbm, ⟨24, _⟩ => ⟨S34816x11776, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 23], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S1024x13856 : Shape := ⟨2, ![1024, 13856]⟩
abbrev S8x4096x13856 : Shape := ⟨3, ![8, 4096, 13856]⟩
abbrev S8x4096x512 : Shape := ⟨3, ![8, 4096, 512]⟩
abbrev S8x4096x32 : Shape := ⟨3, ![8, 4096, 32]⟩
abbrev S8x4096x2048 : Shape := ⟨3, ![8, 4096, 2048]⟩
abbrev S8x4096x256 : Shape := ⟨3, ![8, 4096, 256]⟩
abbrev S8x4096x3072 : Shape := ⟨3, ![8, 4096, 3072]⟩
abbrev S_ : Shape := ⟨0, ![]⟩
abbrev S8x4096x11776 : Shape := ⟨3, ![8, 4096, 11776]⟩
abbrev S8x256x13856 : Shape := ⟨3, ![8, 256, 13856]⟩
abbrev S8x256x512 : Shape := ⟨3, ![8, 256, 512]⟩
abbrev S8x256x32 : Shape := ⟨3, ![8, 256, 32]⟩
abbrev S8x256x2048 : Shape := ⟨3, ![8, 256, 2048]⟩
abbrev S8x256x256 : Shape := ⟨3, ![8, 256, 256]⟩
abbrev S8x256x3072 : Shape := ⟨3, ![8, 256, 3072]⟩
abbrev S8x256x11776 : Shape := ⟨3, ![8, 256, 11776]⟩
abbrev S32768x11776 : Shape := ⟨2, ![32768, 11776]⟩
abbrev S2048x11776 : Shape := ⟨2, ![2048, 11776]⟩
abbrev S34816x11776 : Shape := ⟨2, ![34816, 11776]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x13856, .f32⟩
  | .hbm, ⟨3, _⟩ => ⟨S8x4096x13856, .f32⟩
  | .hbm, ⟨4, _⟩ => ⟨S8x4096x512, .f32⟩
  | .hbm, ⟨5, _⟩ => ⟨S8x4096x512, .f32⟩
  | .hbm, ⟨6, _⟩ => ⟨S8x4096x1024, .f32⟩
  | .hbm, ⟨7, _⟩ => ⟨S8x4096x1024, .f32⟩
  | .hbm, ⟨8, _⟩ => ⟨S8x4096x32, .f32⟩
  | .hbm, ⟨9, _⟩ => ⟨S8x4096x1024, .f32⟩
  | .hbm, ⟨10, _⟩ => ⟨S8x4096x2048, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x256, .f32⟩
  | .hbm, ⟨15, _⟩ => ⟨S8x4096x256, .f32⟩
  | .hbm, ⟨16, _⟩ => ⟨S8x4096x1024, .f32⟩
  | .hbm, ⟨17, _⟩ => ⟨S8x4096x3072, .f32⟩
  | .hbm, ⟨18, _⟩ => ⟨S_, .f32⟩
  | .hbm, ⟨19, _⟩ => ⟨S8x4096x512, .f32⟩
  | .hbm, ⟨20, _⟩ => ⟨S8x4096x512, .f32⟩
  | .hbm, ⟨21, _⟩ => ⟨S8x4096x11776, .f32⟩
  | .hbm, ⟨22, _⟩ => ⟨S8x256x13856, .f32⟩
  | .hbm, ⟨23, _⟩ => ⟨S8x256x512, .f32⟩
  | .hbm, ⟨24, _⟩ => ⟨S8x256x512, .f32⟩
  | .hbm, ⟨25, _⟩ => ⟨S8x256x1024, .f32⟩
  | .hbm, ⟨26, _⟩ => ⟨S8x256x1024, .f32⟩
  | .hbm, ⟨27, _⟩ => ⟨S8x256x32, .f32⟩
  | .hbm, ⟨28, _⟩ => ⟨S8x256x1024, .f32⟩
  | .hbm, ⟨29, _⟩ => ⟨S8x256x2048, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x256x256, .f32⟩
  | .hbm, ⟨34, _⟩ => ⟨S8x256x256, .f32⟩
  | .hbm, ⟨35, _⟩ => ⟨S8x256x1024, .f32⟩
  | .hbm, ⟨36, _⟩ => ⟨S8x256x3072, .f32⟩
  | .hbm, ⟨37, _⟩ => ⟨S_, .f32⟩
  | .hbm, ⟨38, _⟩ => ⟨S8x256x512, .f32⟩
  | .hbm, ⟨39, _⟩ => ⟨S8x256x512, .f32⟩
  | .hbm, ⟨40, _⟩ => ⟨S8x256x11776, .f32⟩
  | .hbm, ⟨41, _⟩ => ⟨S32768x11776, .f32⟩
  | .hbm, ⟨42, _⟩ => ⟨S2048x11776, .f32⟩
  | .hbm, ⟨43, _⟩ => ⟨S34816x11776, .f32⟩
  | .hbm, ⟨44, _⟩ => ⟨S34816x11776, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x13856 : Shape := ⟨3, ![8, 4096, 13856]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S32768x13856 : Shape := ⟨2, ![32768, 13856]⟩
abbrev S32768x3072 : Shape := ⟨2, ![32768, 3072]⟩
abbrev S32768x1024 : Shape := ⟨2, ![32768, 1024]⟩
abbrev S32768x512 : Shape := ⟨2, ![32768, 512]⟩
abbrev S32768x256 : Shape := ⟨2, ![32768, 256]⟩
abbrev S32768x11776 : Shape := ⟨2, ![32768, 11776]⟩
abbrev S1x256 : Shape := ⟨2, ![1, 256]⟩
abbrev S4x256 : Shape := ⟨2, ![4, 256]⟩
abbrev S1x128 : Shape := ⟨2, ![1, 128]⟩
abbrev S8x128 : Shape := ⟨2, ![8, 128]⟩
abbrev S_ : Shape := ⟨0, ![]⟩
abbrev S1x1024 : Shape := ⟨2, ![1, 1024]⟩
abbrev S3x1024 : Shape := ⟨2, ![3, 1024]⟩
abbrev S8x1x3072 : Shape := ⟨3, ![8, 1, 3072]⟩
abbrev S3x1024x1 : Shape := ⟨3, ![3, 1024, 1]⟩
abbrev S512x1024 : Shape := ⟨2, ![512, 1024]⟩
abbrev S512x3072 : Shape := ⟨2, ![512, 3072]⟩
abbrev S1x1x3072 : Shape := ⟨3, ![1, 1, 3072]⟩
abbrev S256x1024 : Shape := ⟨2, ![256, 1024]⟩
abbrev S256x256 : Shape := ⟨2, ![256, 256]⟩
abbrev S256x1 : Shape := ⟨2, ![256, 1]⟩
abbrev S256x128 : Shape := ⟨2, ![256, 128]⟩
abbrev S1x1024x1024 : Shape := ⟨3, ![1, 1024, 1024]⟩
abbrev S1x3072 : Shape := ⟨2, ![1, 3072]⟩

abbrev nBuf : Space → Nat
  | .hbm => 70
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x13856, .f32⟩
  | .hbm, ⟨6, _⟩ => ⟨S8x4096x1024, .f32⟩
  | .hbm, ⟨7, _⟩ => ⟨S8x3072, .f32⟩
  | .hbm, ⟨8, _⟩ => ⟨S256, .f32⟩
  | .hbm, ⟨9, _⟩ => ⟨S128, .f32⟩
  | .hbm, ⟨10, _⟩ => ⟨S3x1024x1024, .f32⟩
  | .hbm, ⟨11, _⟩ => ⟨S1024x1024, .f32⟩
  | .hbm, ⟨12, _⟩ => ⟨S1024, .f32⟩
  | .hbm, ⟨13, _⟩ => ⟨S32768x13856, .f32⟩
  | .hbm, ⟨14, _⟩ => ⟨S32768x3072, .f32⟩
  | .hbm, ⟨15, _⟩ => ⟨S32768x13856, .f32⟩
  | .hbm, ⟨16, _⟩ => ⟨S32768x1024, .f32⟩
  | .hbm, ⟨17, _⟩ => ⟨S32768x13856, .f32⟩
  | .hbm, ⟨18, _⟩ => ⟨S32768x1024, .f32⟩
  | .hbm, ⟨19, _⟩ => ⟨S32768x13856, .f32⟩
  | .hbm, ⟨20, _⟩ => ⟨S32768x1024, .f32⟩
  | .hbm, ⟨21, _⟩ => ⟨S32768x13856, .f32⟩
  | .hbm, ⟨22, _⟩ => ⟨S32768x1024, .f32⟩
  | .hbm, ⟨23, _⟩ => ⟨S32768x13856, .f32⟩
  | .hbm, ⟨24, _⟩ => ⟨S32768x1024, .f32⟩
  | .hbm, ⟨25, _⟩ => ⟨S32768x13856, .f32⟩
  | .hbm, ⟨26, _⟩ => ⟨S32768x1024, .f32⟩
  | .hbm, ⟨27, _⟩ => ⟨S32768x13856, .f32⟩
  | .hbm, ⟨28, _⟩ => ⟨S32768x1024, .f32⟩
  | .hbm, ⟨29, _⟩ => ⟨S32768x13856, .f32⟩
  | .hbm, ⟨30, _⟩ => ⟨S32768x512, .f32⟩
  | .hbm, ⟨31, _⟩ => ⟨S32768x13856, .f32⟩
  | .hbm, ⟨32, _⟩ => ⟨S32768x512, .f32⟩
  | .hbm, ⟨33, _⟩ => ⟨S32768x13856, .f32⟩
  | .hbm, ⟨34, _⟩ => ⟨S32768x256, .f32⟩
  | .hbm, ⟨35, _⟩ => ⟨S32768x13856, .f32⟩
  | .hbm, ⟨36, _⟩ => ⟨S32768x256, .f32⟩
  | .hbm, ⟨37, _⟩ => ⟨S32768x11776, .f32⟩
  | .hbm, ⟨38, _⟩ => ⟨S32768x11776, .bf16⟩
  | .hbm, ⟨39, _⟩ => ⟨S1x256, .f32⟩
  | .hbm, ⟨40, _⟩ => ⟨S4x256, .f32⟩
  | .hbm, ⟨41, _⟩ => ⟨S1024, .f32⟩
  | .hbm, ⟨42, _⟩ => ⟨S1x128, .f32⟩
  | .hbm, ⟨43, _⟩ => ⟨S8x128, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S3x1024, .f32⟩
  | .hbm, ⟨51, _⟩ => ⟨S32768x1024, .f32⟩
  | .hbm, ⟨52, _⟩ => ⟨S32768x1024, .bf16⟩
  | .hbm, ⟨53, _⟩ => ⟨S32768x1024, .f32⟩
  | .hbm, ⟨54, _⟩ => ⟨S32768x1024, .bf16⟩
  | .hbm, ⟨55, _⟩ => ⟨S32768x1024, .f32⟩
  | .hbm, ⟨56, _⟩ => ⟨S32768x1024, .bf16⟩
  | .hbm, ⟨57, _⟩ => ⟨S32768x1024, .f32⟩
  | .hbm, ⟨58, _⟩ => ⟨S32768x1024, .bf16⟩
  | .hbm, ⟨59, _⟩ => ⟨S32768x1024, .f32⟩
  | .hbm, ⟨60, _⟩ => ⟨S32768x1024, .bf16⟩
  | .hbm, ⟨61, _⟩ => ⟨S32768x1024, .f32⟩
  | .hbm, ⟨62, _⟩ => ⟨S8x1x3072, .f32⟩
  | .hbm, ⟨63, _⟩ => ⟨S3x1024x1, .f32⟩
  | .hbm, ⟨64, _⟩ => ⟨S3x1024x1024, .f32⟩
  | .hbm, ⟨65, _⟩ => ⟨S3x1024x1024, .f32⟩
  | .hbm, ⟨66, _⟩ => ⟨S3x1024x1024, .bf16⟩
  | .hbm, ⟨67, _⟩ => ⟨S1024x1024, .bf16⟩
  | .hbm, ⟨68, _⟩ => ⟨S1x1024, .f32⟩
  | .hbm, ⟨69, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x3072, .bf16⟩
  | .local _ .vmem, ⟨15, _⟩ => ⟨S512x3072, .bf16⟩
  | .local _ .vmem, ⟨16, _⟩ => ⟨S512x1024, .f32⟩
  | .local _ .vmem, ⟨17, _⟩ => ⟨S512x1024, .f32⟩
  | .local _ .vmem, ⟨18, _⟩ => ⟨S1x1x3072, .f32⟩
  | .local _ .vmem, ⟨19, _⟩ => ⟨S1x1x3072, .f32⟩
  | .local _ .vmem, ⟨20, _⟩ => ⟨S3x1024x1024, .bf16⟩
  | .local _ .vmem, ⟨21, _⟩ => ⟨S1024x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8x4096x1024 : Shape := ⟨3, ![8, 4096, 1024]⟩
abbrev S8x4096x13856 : Shape := ⟨3, ![8, 4096, 13856]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S8x4096x512 : Shape := ⟨3, ![8, 4096, 512]⟩
abbrev S8x4096x32 : Shape := ⟨3, ![8, 4096, 32]⟩
abbrev S8x4096x2048 : Shape := ⟨3, ![8, 4096, 2048]⟩
abbrev S8x4096x256 : Shape := ⟨3, ![8, 4096, 256]⟩
abbrev S8x4096x3072 : Shape := ⟨3, ![8, 4096, 3072]⟩
abbrev S8x4096x4x256 : Shape := ⟨4, ![8, 4096, 4, 256]⟩
abbrev S_ : Shape := ⟨0, ![]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x1x1024 : Shape := ⟨4, ![8, 4096, 1, 1024]⟩
abbrev S8x4096x3x1024 : Shape := ⟨4, ![8, 4096, 3, 1024]⟩
abbrev S3x1024x8x4096 : Shape := ⟨4, ![3, 1024, 8, 4096]⟩
abbrev S8x1x3072 : Shape := ⟨3, ![8, 1, 3072]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x13856, .f32⟩
  | .hbm, ⟨6, _⟩ => ⟨S8x4096x1024, .f32⟩
  | .hbm, ⟨7, _⟩ => ⟨S8x3072, .f32⟩
  | .hbm, ⟨8, _⟩ => ⟨S256, .f32⟩
  | .hbm, ⟨9, _⟩ => ⟨S128, .f32⟩
  | .hbm, ⟨10, _⟩ => ⟨S3x1024x1024, .f32⟩
  | .hbm, ⟨11, _⟩ => ⟨S1024x1024, .f32⟩
  | .hbm, ⟨12, _⟩ => ⟨S1024, .f32⟩
  | .hbm, ⟨13, _⟩ => ⟨S8x4096x512, .f32⟩
  | .hbm, ⟨14, _⟩ => ⟨S8x4096x512, .f32⟩
  | .hbm, ⟨15, _⟩ => ⟨S8x4096x1024, .f32⟩
  | .hbm, ⟨16, _⟩ => ⟨S8x4096x1024, .f32⟩
  | .hbm, ⟨17, _⟩ => ⟨S8x4096x32, .f32⟩
  | .hbm, ⟨18, _⟩ => ⟨S8x4096x1024, .f32⟩
  | .hbm, ⟨19, _⟩ => ⟨S8x4096x2048, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x256, .f32⟩
  | .hbm, ⟨24, _⟩ => ⟨S8x4096x256, .f32⟩
  | .hbm, ⟨25, _⟩ => ⟨S8x4096x1024, .f32⟩
  | .hbm, ⟨26, _⟩ => ⟨S8x4096x3072, .f32⟩
  | .hbm, ⟨27, _⟩ => ⟨S8x4096x1024, .f32⟩
  | .hbm, ⟨28, _⟩ => ⟨S8x4096x4x256, .f32⟩
  | .hbm, ⟨29, _⟩ => ⟨S8x4096x4x256, .f32⟩
  | .hbm, ⟨30, _⟩ => ⟨S_, .f32⟩
  | .hbm, ⟨31, _⟩ => ⟨S8x4096x4, .f32⟩
  | .hbm, ⟨32, _⟩ => ⟨S8x4096x4x1, .f32⟩
  | .hbm, ⟨33, _⟩ => ⟨S_, .f32⟩
  | .hbm, ⟨34, _⟩ => ⟨S8x4096x4x1, .f32⟩
  | .hbm, ⟨35, _⟩ => ⟨S8x4096x4x1, .f32⟩
  | .hbm, ⟨36, _⟩ => ⟨S_, .f32⟩
  | .hbm, ⟨37, _⟩ => ⟨S8x4096x4x1, .f32⟩
  | .hbm, ⟨38, _⟩ => ⟨S8x4096x4x1, .f32⟩
  | .hbm, ⟨39, _⟩ => ⟨S8x4096x4x1, .f32⟩
  | .hbm, ⟨40, _⟩ => ⟨S8x4096x4x256, .f32⟩
  | .hbm, ⟨41, _⟩ => ⟨S8x4096x4x256, .f32⟩
  | .hbm, ⟨42, _⟩ => ⟨S1x1x1x256, .f32⟩
  | .hbm, ⟨43, _⟩ => ⟨S8x4096x4x256, .f32⟩
  | .hbm, ⟨44, _⟩ => ⟨S8x4096x4x256, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x8x128, .f32⟩
  | .hbm, ⟨58, _⟩ => ⟨S8x4096x8x128, .f32⟩
  | .hbm, ⟨59, _⟩ => ⟨S_, .f32⟩
  | .hbm, ⟨60, _⟩ => ⟨S8x4096x8, .f32⟩
  | .hbm, ⟨61, _⟩ => ⟨S8x4096x8x1, .f32⟩
  | .hbm, ⟨62, _⟩ => ⟨S_, .f32⟩
  | .hbm, ⟨63, _⟩ => ⟨S8x4096x8x1, .f32⟩
  | .hbm, ⟨64, _⟩ => ⟨S8x4096x8x1, .f32⟩
  | .hbm, ⟨65, _⟩ => ⟨S_, .f32⟩
  | .hbm, ⟨66, _⟩ => ⟨S8x4096x8x1, .f32⟩
  | .hbm, ⟨67, _⟩ => ⟨S8x4096x8x1, .f32⟩
  | .hbm, ⟨68, _⟩ => ⟨S8x4096x8x1, .f32⟩
  | .hbm, ⟨69, _⟩ => ⟨S8x4096x8x128, .f32⟩
  | .hbm, ⟨70, _⟩ => ⟨S8x4096x8x128, .f32⟩
  | .hbm, ⟨71, _⟩ => ⟨S1x1x1x128, .f32⟩
  | .hbm, ⟨72, _⟩ => ⟨S8x4096x8x128, .f32⟩
  | .hbm, ⟨73, _⟩ => ⟨S8x4096x8x128, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1x1024, .f32⟩
  | .hbm, ⟨86, _⟩ => ⟨S8x4096x1x1024, .f32⟩
  | .hbm, ⟨87, _⟩ => ⟨S8x4096x1x1024, .f32⟩
  | .hbm, ⟨88, _⟩ => ⟨S8x4096x3x1024, .f32⟩
  | .hbm, ⟨89, _⟩ => ⟨S3x1024x8x4096, .f32⟩
  | .hbm, ⟨90, _⟩ => ⟨S8x4096x3x1024, .f32⟩
  | .hbm, ⟨91, _⟩ => ⟨S8x4096x3x1024, .f32⟩
  | .hbm, ⟨92, _⟩ => ⟨S8x4096x3x1024, .f32⟩
  | .hbm, ⟨93, _⟩ => ⟨S8x4096x3x1024, .f32⟩
  | .hbm, ⟨94, _⟩ => ⟨S_, .f32⟩
  | .hbm, ⟨95, _⟩ => ⟨S8x4096x3x1024, .f32⟩
  | .hbm, ⟨96, _⟩ => ⟨S8x4096x3x1024, .f32⟩
  | .hbm, ⟨97, _⟩ => ⟨S_, .f32⟩
  | .hbm, ⟨98, _⟩ => ⟨S8x4096x3x1024, .f32⟩
  | .hbm, ⟨99, _⟩ => ⟨S8x4096x3x1024, .f32⟩
  | .hbm, ⟨100, _⟩ => ⟨S8x4096x3x1024, .f32⟩
  | .hbm, ⟨101, _⟩ => ⟨S_, .f32⟩
  | .hbm, ⟨102, _⟩ => ⟨S8x4096x1024, .f32⟩
  | .hbm, ⟨103, _⟩ => ⟨S8x1x3072, .f32⟩
  | .hbm, ⟨104, _⟩ => ⟨S8x1x1024, .f32⟩
  | .hbm, ⟨105, _⟩ => ⟨S8x1x1024, .f32⟩
  | .hbm, ⟨106, _⟩ => ⟨S8x1x1024, .f32⟩
  | .hbm, ⟨107, _⟩ => ⟨S8x4096x1024, .f32⟩
  | .hbm, ⟨108, _⟩ => ⟨S8x4096x1024, .f32⟩
  | .hbm, ⟨109, _⟩ => ⟨S8x4096x1024, .f32⟩
  | .hbm, ⟨110, _⟩ => ⟨S8x4096x1024, .f32⟩
  | .hbm, ⟨111, _⟩ => ⟨S8x4096x1024, .f32⟩
  | .hbm, ⟨112, _⟩ => ⟨S_, .f32⟩
  | .hbm, ⟨113, _⟩ => ⟨S8x4096, .f32⟩
  | .hbm, ⟨114, _⟩ => ⟨S8x4096x1, .f32⟩
  | .hbm, ⟨115, _⟩ => ⟨S_, .f32⟩
  | .hbm, ⟨116, _⟩ => ⟨S8x4096x1, .f32⟩
  | .hbm, ⟨117, _⟩ => ⟨S8x4096x1, .f32⟩
  | .hbm, ⟨118, _⟩ => ⟨S_, .f32⟩
  | .hbm, ⟨119, _⟩ => ⟨S8x4096x1, .f32⟩
  | .hbm, ⟨120, _⟩ => ⟨S8x4096x1, .f32⟩
  | .hbm, ⟨121, _⟩ => ⟨S8x4096x1, .f32⟩
  | .hbm, ⟨122, _⟩ => ⟨S8x4096x1024, .f32⟩
  | .hbm, ⟨123, _⟩ => ⟨S8x4096x1024, .f32⟩
  | .hbm, ⟨124, _⟩ => ⟨S1x1x1024, .f32⟩
  | .hbm, ⟨125, _⟩ => ⟨S8x4096x1024, .f32⟩
  | .hbm, ⟨126, _⟩ => ⟨S8x4096x1024, .f32⟩
  | .hbm, ⟨127, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_5 : Ref sig .tc := ⟨.hbm, 94, rfl⟩
abbrev main_v59 : Ref sig .tc := ⟨.hbm, 95, rfl⟩
abbrev main_v60 : Ref sig .tc := ⟨.hbm, 96, rfl⟩
abbrev main_cst_6 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_7 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_8 : Ref sig .tc := ⟨.hbm, 112, rfl⟩
abbrev main_v74 : Ref sig .tc := ⟨.hbm, 113, rfl⟩
abbrev main_v75 : Ref sig .tc := ⟨.hbm, 114, rfl⟩
abbrev main_cst_9 : Ref sig .tc := ⟨.hbm, 115, rfl⟩
abbrev main_v76 : Ref sig .tc := ⟨.hbm, 116, rfl⟩
abbrev main_v77 : Ref sig .tc := ⟨.hbm, 117, rfl⟩
abbrev main_cst_10 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x256x1024 : Shape := ⟨3, ![8, 256, 1024]⟩
abbrev S1024x13856 : Shape := ⟨2, ![1024, 13856]⟩
abbrev S2x1024 : Shape := ⟨2, ![2, 1024]⟩
abbrev S1024x2048 : Shape := ⟨2, ![1024, 2048]⟩
abbrev S32768x1024 : Shape := ⟨2, ![32768, 1024]⟩
abbrev S2048x1024 : Shape := ⟨2, ![2048, 1024]⟩
abbrev S1x2048 : Shape := ⟨2, ![1, 2048]⟩
abbrev S34816x2048 : Shape := ⟨2, ![34816, 2048]⟩
abbrev S1024x256 : Shape := ⟨2, ![1024, 256]⟩
abbrev S1x256 : Shape := ⟨2, ![1, 256]⟩
abbrev S2048x256 : Shape := ⟨2, ![2048, 256]⟩
abbrev S256x1024 : Shape := ⟨2, ![256, 1024]⟩
abbrev S256x256 : Shape := ⟨2, ![256, 256]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x13856, .f32⟩
  | .hbm, ⟨3, _⟩ => ⟨S2x1024, .f32⟩
  | .hbm, ⟨4, _⟩ => ⟨S1024x2048, .f32⟩
  | .hbm, ⟨5, _⟩ => ⟨S1024x2048, .bf16⟩
  | .hbm, ⟨6, _⟩ => ⟨S32768x1024, .f32⟩
  | .hbm, ⟨7, _⟩ => ⟨S32768x1024, .bf16⟩
  | .hbm, ⟨8, _⟩ => ⟨S2048x1024, .f32⟩
  | .hbm, ⟨9, _⟩ => ⟨S2048x1024, .bf16⟩
  | .hbm, ⟨10, _⟩ => ⟨S1x2048, .f32⟩
  | .hbm, ⟨11, _⟩ => ⟨S34816x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .bf16⟩
  | .local _ .vmem, ⟨5, _⟩ => ⟨S1024x256, .bf16⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c16_i32 : BitVec 32 := 16#32
  let v2 : BitVec 1 := Scalar.cmpi .slt arg0 c16_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x4096x1024 : Shape := ⟨3, ![8, 4096, 1024]⟩
abbrev S8x256x1024 : Shape := ⟨3, ![8, 256, 1024]⟩
abbrev S1024x13856 : Shape := ⟨2, ![1024, 13856]⟩
abbrev S2x1024 : Shape := ⟨2, ![2, 1024]⟩
abbrev S8x4096x13856 : Shape := ⟨3, ![8, 4096, 13856]⟩
abbrev S8x4096x512 : Shape := ⟨3, ![8, 4096, 512]⟩
abbrev S8x4096x32 : Shape := ⟨3, ![8, 4096, 32]⟩
abbrev S8x4096x2048 : Shape := ⟨3, ![8, 4096, 2048]⟩
abbrev S8x4096x256 : Shape := ⟨3, ![8, 4096, 256]⟩
abbrev S8x4096x3072 : Shape := ⟨3, ![8, 4096, 3072]⟩
abbrev S8x4096x2x1024 : Shape := ⟨4, ![8, 4096, 2, 1024]⟩
abbrev S_ : Shape := ⟨0, ![]⟩
abbrev S1x1x2x1024 : Shape := ⟨4, ![1, 1, 2, 1024]⟩
abbrev S32768x2048 : Shape := ⟨2, ![32768, 2048]⟩
abbrev S8x256x13856 : Shape := ⟨3, ![8, 256, 13856]⟩
abbrev S8x256x512 : Shape := ⟨3, ![8, 256, 512]⟩
abbrev S8x256x32 : Shape := ⟨3, ![8, 256, 32]⟩
abbrev S8x256x2048 : Shape := ⟨3, ![8, 256, 2048]⟩
abbrev S8x256x256 : Shape := ⟨3, ![8, 256, 256]⟩
abbrev S8x256x3072 : Shape := ⟨3, ![8, 256, 3072]⟩
abbrev S8x256x2x1024 : Shape := ⟨4, ![8, 256, 2, 1024]⟩
abbrev S2048x2048 : Shape := ⟨2, ![2048, 2048]⟩
abbrev S34816x2048 : Shape := ⟨2, ![34816, 2048]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x13856, .f32⟩
  | .hbm, ⟨3, _⟩ => ⟨S2x1024, .f32⟩
  | .hbm, ⟨4, _⟩ => ⟨S8x4096x13856, .f32⟩
  | .hbm, ⟨5, _⟩ => ⟨S8x4096x512, .f32⟩
  | .hbm, ⟨6, _⟩ => ⟨S8x4096x512, .f32⟩
  | .hbm, ⟨7, _⟩ => ⟨S8x4096x1024, .f32⟩
  | .hbm, ⟨8, _⟩ => ⟨S8x4096x1024, .f32⟩
  | .hbm, ⟨9, _⟩ => ⟨S8x4096x32, .f32⟩
  | .hbm, ⟨10, _⟩ => ⟨S8x4096x1024, .f32⟩
  | .hbm, ⟨11, _⟩ => ⟨S8x4096x2048, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x256, .f32⟩
  | .hbm, ⟨16, _⟩ => ⟨S8x4096x256, .f32⟩
  | .hbm, ⟨17, _⟩ => ⟨S8x4096x1024, .f32⟩
  | .hbm, ⟨18, _⟩ => ⟨S8x4096x3072, .f32⟩
  | .hbm, ⟨19, _⟩ => ⟨S8x4096x2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S8x4096x2x1024, .f32⟩
  | .hbm, ⟨24, _⟩ => ⟨S_, .f32⟩
  | .hbm, ⟨25, _⟩ => ⟨S8x4096x2x1024, .f32⟩
  | .hbm, ⟨26, _⟩ => ⟨S8x4096x2x1024, .f32⟩
  | .hbm, ⟨27, _⟩ => ⟨S8x4096x2x1024, .f32⟩
  | .hbm, ⟨28, _⟩ => ⟨S8x4096x2x1024, .f32⟩
  | .hbm, ⟨29, _⟩ => ⟨S8x4096x2x1024, .i1⟩
  | .hbm, ⟨30, _⟩ => ⟨S8x4096x2x1024, .f32⟩
  | .hbm, ⟨31, _⟩ => ⟨S8x4096x2x1024, .f32⟩
  | .hbm, ⟨32, _⟩ => ⟨S8x4096x2x1024, .f32⟩
  | .hbm, ⟨33, _⟩ => ⟨S8x4096x2x1024, .f32⟩
  | .hbm, ⟨34, _⟩ => ⟨S8x4096x2x1024, .f32⟩
  | .hbm, ⟨35, _⟩ => ⟨S8x4096x2x1024, .f32⟩
  | .hbm, ⟨36, _⟩ => ⟨S8x4096x2x1024, .f32⟩
  | .hbm, ⟨37, _⟩ => ⟨S8x4096x2x1024, .f32⟩
  | .hbm, ⟨38, _⟩ => ⟨S8x4096x2x1024, .f32⟩
  | .hbm, ⟨39, _⟩ => ⟨S1x1x2x1024, .f32⟩
  | .hbm, ⟨40, _⟩ => ⟨S8x4096x2x1024, .f32⟩
  | .hbm, ⟨41, _⟩ => ⟨S8x4096x2x1024, .f32⟩
  | .hbm, ⟨42, _⟩ => ⟨S1x1x2x1024, .f32⟩
  | .hbm, ⟨43, _⟩ => ⟨S8x4096x2x1024, .f32⟩
  | .hbm, ⟨44, _⟩ => ⟨S8x4096x2x1024, .f32⟩
  | .hbm, ⟨45, _⟩ => ⟨S8x4096x2x1024, .f32⟩
  | .hbm, ⟨46, _⟩ => ⟨S8x4096x2x1024, .f32⟩
  | .hbm, ⟨47, _⟩ => ⟨S8x4096x2x1024, .i1⟩
  | .hbm, ⟨48, _⟩ => ⟨S8x4096x2x1024, .f32⟩
  | .hbm, ⟨49, _⟩ => ⟨S8x4096x2x1024, .f32⟩
  | .hbm, ⟨50, _⟩ => ⟨S8x4096x2x1024, .f32⟩
  | .hbm, ⟨51, _⟩ => ⟨S8x4096x2x1024, .f32⟩
  | .hbm, ⟨52, _⟩ => ⟨S8x4096x2x1024, .f32⟩
  | .hbm, ⟨53, _⟩ => ⟨S8x4096x2x1024, .f32⟩
  | .hbm, ⟨54, _⟩ => ⟨S8x4096x2x1024, .f32⟩
  | .hbm, ⟨55, _⟩ => ⟨S8x4096x2x1024, .f32⟩
  | .hbm, ⟨56, _⟩ => ⟨S32768x2048, .f32⟩
  | .hbm, ⟨57, _⟩ => ⟨S8x256x13856, .f32⟩
  | .hbm, ⟨58, _⟩ => ⟨S8x256x512, .f32⟩
  | .hbm, ⟨59, _⟩ => ⟨S8x256x512, .f32⟩
  | .hbm, ⟨60, _⟩ => ⟨S8x256x1024, .f32⟩
  | .hbm, ⟨61, _⟩ => ⟨S8x256x1024, .f32⟩
  | .hbm, ⟨62, _⟩ => ⟨S8x256x32, .f32⟩
  | .hbm, ⟨63, _⟩ => ⟨S8x256x1024, .f32⟩
  | .hbm, ⟨64, _⟩ => ⟨S8x256x2048, .f32⟩
  | .hbm, ⟨65, _⟩ => ⟨S8x256x1024, .f32⟩
  | .hbm, ⟨66, _⟩ => ⟨S8x256x1024, .f32⟩
  | .hbm, ⟨67, _⟩ => ⟨S8x256x1024, .f32⟩
  | .hbm, ⟨68, _⟩ => ⟨S8x256x256, .f32⟩
  | .hbm, ⟨69, _⟩ => ⟨S8x256x256, .f32⟩
  | .hbm, ⟨70, _⟩ => ⟨S8x256x1024, .f32⟩
  | .hbm, ⟨71, _⟩ => ⟨S8x256x3072, .f32⟩
  | .hbm, ⟨72, _⟩ => ⟨S8x256x2x1024, .f32⟩
  | .hbm, ⟨73, _⟩ => ⟨S2x1024, .f32⟩
  | .hbm, ⟨74, _⟩ => ⟨S2x1024, .f32⟩
  | .hbm, ⟨75, _⟩ => ⟨S2x1024, .f32⟩
  | .hbm, ⟨76, _⟩ => ⟨S8x256x2x1024, .f32⟩
  | .hbm, ⟨77, _⟩ => ⟨S_, .f32⟩
  | .hbm, ⟨78, _⟩ => ⟨S8x256x2x1024, .f32⟩
  | .hbm, ⟨79, _⟩ => ⟨S8x256x2x1024, .f32⟩
  | .hbm, ⟨80, _⟩ => ⟨S8x256x2x1024, .f32⟩
  | .hbm, ⟨81, _⟩ => ⟨S8x256x2x1024, .f32⟩
  | .hbm, ⟨82, _⟩ => ⟨S8x256x2x1024, .i1⟩
  | .hbm, ⟨83, _⟩ => ⟨S8x256x2x1024, .f32⟩
  | .hbm, ⟨84, _⟩ => ⟨S8x256x2x1024, .f32⟩
  | .hbm, ⟨85, _⟩ => ⟨S8x256x2x1024, .f32⟩
  | .hbm, ⟨86, _⟩ => ⟨S8x256x2x1024, .f32⟩
  | .hbm, ⟨87, _⟩ => ⟨S8x256x2x1024, .f32⟩
  | .hbm, ⟨88, _⟩ => ⟨S8x256x2x1024, .f32⟩
  | .hbm, ⟨89, _⟩ => ⟨S8x256x2x1024, .f32⟩
  | .hbm, ⟨90, _⟩ => ⟨S8x256x2x1024, .f32⟩
  | .hbm, ⟨91, _⟩ => ⟨S8x256x2x1024, .f32⟩
  | .hbm, ⟨92, _⟩ => ⟨S1x1x2x1024, .f32⟩
  | .hbm, ⟨93, _⟩ => ⟨S8x256x2x1024, .f32⟩
  | .hbm, ⟨94, _⟩ => ⟨S8x256x2x1024, .f32⟩
  | .hbm, ⟨95, _⟩ => ⟨S1x1x2x1024, .f32⟩
  | .hbm, ⟨96, _⟩ => ⟨S8x256x2x1024, .f32⟩
  | .hbm, ⟨97, _⟩ => ⟨S8x256x2x1024, .f32⟩
  | .hbm, ⟨98, _⟩ => ⟨S8x256x2x1024, .f32⟩
  | .hbm, ⟨99, _⟩ => ⟨S8x256x2x1024, .f32⟩
  | .hbm, ⟨100, _⟩ => ⟨S8x256x2x1024, .i1⟩
  | .hbm, ⟨101, _⟩ => ⟨S8x256x2x1024, .f32⟩
  | .hbm, ⟨102, _⟩ => ⟨S8x256x2x1024, .f32⟩
  | .hbm, ⟨103, _⟩ => ⟨S8x256x2x1024, .f32⟩
  | .hbm, ⟨104, _⟩ => ⟨S8x256x2x1024, .f32⟩
  | .hbm, ⟨105, _⟩ => ⟨S8x256x2x1024, .f32⟩
  | .hbm, ⟨106, _⟩ => ⟨S8x256x2x1024, .f32⟩
  | .hbm, ⟨107, _⟩ => ⟨S8x256x2x1024, .f32⟩
  | .hbm, ⟨108, _⟩ => ⟨S8x256x2x1024, .f32⟩
  | .hbm, ⟨109, _⟩ => ⟨S2048x2048, .f32⟩
  | .hbm, ⟨110, _⟩ => ⟨S34816x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x13856 : Shape := ⟨3, ![8, 4096, 13856]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S32768x13856 : Shape := ⟨2, ![32768, 13856]⟩
abbrev S32768x3072 : Shape := ⟨2, ![32768, 3072]⟩
abbrev S32768x1024 : Shape := ⟨2, ![32768, 1024]⟩
abbrev S32768x512 : Shape := ⟨2, ![32768, 512]⟩
abbrev S32768x256 : Shape := ⟨2, ![32768, 256]⟩
abbrev S32768x11776 : Shape := ⟨2, ![32768, 11776]⟩
abbrev S1x256 : Shape := ⟨2, ![1, 256]⟩
abbrev S4x256 : Shape := ⟨2, ![4, 256]⟩
abbrev S1x128 : Shape := ⟨2, ![1, 128]⟩
abbrev S8x128 : Shape := ⟨2, ![8, 128]⟩
abbrev S_ : Shape := ⟨0, ![]⟩
abbrev S1x1024 : Shape := ⟨2, ![1, 1024]⟩
abbrev S3x1024 : Shape := ⟨2, ![3, 1024]⟩
abbrev S8x1x3072 : Shape := ⟨3, ![8, 1, 3072]⟩
abbrev S3x1024x1 : Shape := ⟨3, ![3, 1024, 1]⟩
abbrev S512x1024 : Shape := ⟨2, ![512, 1024]⟩
abbrev S512x3072 : Shape := ⟨2, ![512, 3072]⟩
abbrev S1x1x3072 : Shape := ⟨3, ![1, 1, 3072]⟩
abbrev S256x1024 : Shape := ⟨2, ![256, 1024]⟩
abbrev S256x256 : Shape := ⟨2, ![256, 256]⟩
abbrev S256x1 : Shape := ⟨2, ![256, 1]⟩
abbrev S256x128 : Shape := ⟨2, ![256, 128]⟩
abbrev S1x1024x1024 : Shape := ⟨3, ![1, 1024, 1024]⟩
abbrev S1x3072 : Shape := ⟨2, ![1, 3072]⟩

abbrev nBuf : Space → Nat
  | .hbm => 73
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x13856, .f32⟩
  | .hbm, ⟨6, _⟩ => ⟨S8x4096x1024, .f32⟩
  | .hbm, ⟨7, _⟩ => ⟨S8x3072, .f32⟩
  | .hbm, ⟨8, _⟩ => ⟨S256, .f32⟩
  | .hbm, ⟨9, _⟩ => ⟨S128, .f32⟩
  | .hbm, ⟨10, _⟩ => ⟨S3x1024x1024, .f32⟩
  | .hbm, ⟨11, _⟩ => ⟨S1024x1024, .f32⟩
  | .hbm, ⟨12, _⟩ => ⟨S1024, .f32⟩
  | .hbm, ⟨13, _⟩ => ⟨S8x3072, .f32⟩
  | .hbm, ⟨14, _⟩ => ⟨S32768x13856, .f32⟩
  | .hbm, ⟨15, _⟩ => ⟨S32768x3072, .f32⟩
  | .hbm, ⟨16, _⟩ => ⟨S32768x13856, .f32⟩
  | .hbm, ⟨17, _⟩ => ⟨S32768x1024, .f32⟩
  | .hbm, ⟨18, _⟩ => ⟨S32768x13856, .f32⟩
  | .hbm, ⟨19, _⟩ => ⟨S32768x1024, .f32⟩
  | .hbm, ⟨20, _⟩ => ⟨S32768x13856, .f32⟩
  | .hbm, ⟨21, _⟩ => ⟨S32768x1024, .f32⟩
  | .hbm, ⟨22, _⟩ => ⟨S32768x13856, .f32⟩
  | .hbm, ⟨23, _⟩ => ⟨S32768x1024, .f32⟩
  | .hbm, ⟨24, _⟩ => ⟨S32768x13856, .f32⟩
  | .hbm, ⟨25, _⟩ => ⟨S32768x1024, .f32⟩
  | .hbm, ⟨26, _⟩ => ⟨S32768x13856, .f32⟩
  | .hbm, ⟨27, _⟩ => ⟨S32768x1024, .f32⟩
  | .hbm, ⟨28, _⟩ => ⟨S32768x13856, .f32⟩
  | .hbm, ⟨29, _⟩ => ⟨S32768x1024, .f32⟩
  | .hbm, ⟨30, _⟩ => ⟨S32768x13856, .f32⟩
  | .hbm, ⟨31, _⟩ => ⟨S32768x512, .f32⟩
  | .hbm, ⟨32, _⟩ => ⟨S32768x13856, .f32⟩
  | .hbm, ⟨33, _⟩ => ⟨S32768x512, .f32⟩
  | .hbm, ⟨34, _⟩ => ⟨S32768x13856, .f32⟩
  | .hbm, ⟨35, _⟩ => ⟨S32768x256, .f32⟩
  | .hbm, ⟨36, _⟩ => ⟨S32768x13856, .f32⟩
  | .hbm, ⟨37, _⟩ => ⟨S32768x256, .f32⟩
  | .hbm, ⟨38, _⟩ => ⟨S32768x11776, .f32⟩
  | .hbm, ⟨39, _⟩ => ⟨S32768x11776, .bf16⟩
  | .hbm, ⟨40, _⟩ => ⟨S1x256, .f32⟩
  | .hbm, ⟨41, _⟩ => ⟨S4x256, .f32⟩
  | .hbm, ⟨42, _⟩ => ⟨S1024, .f32⟩
  | .hbm, ⟨43, _⟩ => ⟨S1x128, .f32⟩
  | .hbm, ⟨44, _⟩ => ⟨S8x128, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S3x1024, .f32⟩
  | .hbm, ⟨52, _⟩ => ⟨S32768x1024, .f32⟩
  | .hbm, ⟨53, _⟩ => ⟨S32768x1024, .bf16⟩
  | .hbm, ⟨54, _⟩ => ⟨S32768x1024, .f32⟩
  | .hbm, ⟨55, _⟩ => ⟨S32768x1024, .bf16⟩
  | .hbm, ⟨56, _⟩ => ⟨S32768x1024, .f32⟩
  | .hbm, ⟨57, _⟩ => ⟨S32768x1024, .bf16⟩
  | .hbm, ⟨58, _⟩ => ⟨S32768x1024, .f32⟩
  | .hbm, ⟨59, _⟩ => ⟨S32768x1024, .bf16⟩
  | .hbm, ⟨60, _⟩ => ⟨S32768x1024, .f32⟩
  | .hbm, ⟨61, _⟩ => ⟨S32768x1024, .bf16⟩
  | .hbm, ⟨62, _⟩ => ⟨S32768x1024, .f32⟩
  | .hbm, ⟨63, _⟩ => ⟨S8x1x3072, .f32⟩
  | .hbm, ⟨64, _⟩ => ⟨S3x1024x1, .f32⟩
  | .hbm, ⟨65, _⟩ => ⟨S3x1024x1024, .f32⟩
  | .hbm, ⟨66, _⟩ => ⟨S3x1024x1024, .f32⟩
  | .hbm, ⟨67, _⟩ => ⟨S3x1024x1024, .bf16⟩
  | .hbm, ⟨68, _⟩ => ⟨S1024x1024, .bf16⟩
  | .hbm, ⟨69, _⟩ => ⟨S8x1x3072, .f32⟩
  | .hbm, ⟨70, _⟩ => ⟨S1x1024, .f32⟩
  | .hbm, ⟨71, _⟩ => ⟨S32768x1024, .f32⟩
  | .hbm, ⟨72, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x3072, .bf16⟩
  | .local _ .vmem, ⟨15, _⟩ => ⟨S512x3072, .bf16⟩
  | .local _ .vmem, ⟨16, _⟩ => ⟨S512x1024, .f32⟩
  | .local _ .vmem, ⟨17, _⟩ => ⟨S512x1024, .f32⟩
  | .local _ .vmem, ⟨18, _⟩ => ⟨S1x1x3072, .f32⟩
  | .local _ .vmem, ⟨19, _⟩ => ⟨S1x1x3072, .f32⟩
  | .local _ .vmem, ⟨20, _⟩ => ⟨S3x1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1x3072, .f32⟩
  | .local _ .vmem, ⟨24, _⟩ => ⟨S1x1x3072, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56_0 : Ref sig .tc := ⟨.hbm, 71, rfl⟩
abbrev main_v56_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S8x4096x1024 : Shape := ⟨3, ![8, 4096, 1024]⟩
abbrev S8x4096x13856 : Shape := ⟨3, ![8, 4096, 13856]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S8x4096x512 : Shape := ⟨3, ![8, 4096, 512]⟩
abbrev S8x4096x32 : Shape := ⟨3, ![8, 4096, 32]⟩
abbrev S8x4096x2048 : Shape := ⟨3, ![8, 4096, 2048]⟩
abbrev S8x4096x256 : Shape := ⟨3, ![8, 4096, 256]⟩
abbrev S8x4096x3072 : Shape := ⟨3, ![8, 4096, 3072]⟩
abbrev S8x4096x4x256 : Shape := ⟨4, ![8, 4096, 4, 256]⟩
abbrev S_ : Shape := ⟨0, ![]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x1x1024 : Shape := ⟨4, ![8, 4096, 1, 1024]⟩
abbrev S8x4096x3x1024 : Shape := ⟨4, ![8, 4096, 3, 1024]⟩
abbrev S3x1024x8x4096 : Shape := ⟨4, ![3, 1024, 8, 4096]⟩
abbrev S8x1x3072 : Shape := ⟨3, ![8, 1, 3072]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 142
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x4096x1024, .f32⟩
  | 3 => ⟨S8x4096x1024, .f32⟩
  | 4 => ⟨S8x4096x1024, .f32⟩
  | 5 => ⟨S8x4096x13856, .f32⟩
  | 6 => ⟨S8x4096x1024, .f32⟩
  | 7 => ⟨S8x3072, .f32⟩
  | 8 => ⟨S256, .f32⟩
  | 9 => ⟨S128, .f32⟩
  | 10 => ⟨S3x1024x1024, .f32⟩
  | 11 => ⟨S1024x1024, .f32⟩
  | 12 => ⟨S1024, .f32⟩
  | 13 => ⟨S8x3072, .f32⟩
  | 14 => ⟨S8x4096x512, .f32⟩
  | 15 => ⟨S8x4096x512, .f32⟩
  | 16 => ⟨S8x4096x1024, .f32⟩
  | 17 => ⟨S8x4096x1024, .f32⟩
  | 18 => ⟨S8x4096x32, .f32⟩
  | 19 => ⟨S8x4096x1024, .f32⟩
  | 20 => ⟨S8x4096x2048, .f32⟩
  | 21 => ⟨S8x4096x1024, .f32⟩
  | 22 => ⟨S8x4096x1024, .f32⟩
  | 23 => ⟨S8x4096x1024, .f32⟩
  | 24 => ⟨S8x4096x256, .f32⟩
  | 25 => ⟨S8x4096x256, .f32⟩
  | 26 => ⟨S8x4096x1024, .f32⟩
  | 27 => ⟨S8x4096x3072, .f32⟩
  | 28 => ⟨S8x4096x1024, .f32⟩
  | 29 => ⟨S8x4096x4x256, .f32⟩
  | 30 => ⟨S8x4096x4x256, .f32⟩
  | 31 => ⟨S_, .f32⟩
  | 32 => ⟨S8x4096x4, .f32⟩
  | 33 => ⟨S8x4096x4x1, .f32⟩
  | 34 => ⟨S_, .f32⟩
  | 35 => ⟨S8x4096x4x1, .f32⟩
  | 36 => ⟨S8x4096x4x1, .f32⟩
  | 37 => ⟨S_, .f32⟩
  | 38 => ⟨S8x4096x4x1, .f32⟩
  | 39 => ⟨S8x4096x4x1, .f32⟩
  | 40 => ⟨S8x4096x4x1, .f32⟩
  | 41 => ⟨S8x4096x4x256, .f32⟩
  | 42 => ⟨S8x4096x4x256, .f32⟩
  | 43 => ⟨S1x1x1x256, .f32⟩
  | 44 => ⟨S8x4096x4x256, .f32⟩
  | 45 => ⟨S8x4096x4x256, .f32⟩
  | 46 => ⟨S8x4096x1024, .f32⟩
  | 47 => ⟨S8x4096x1024, .f32⟩
  | 48 => ⟨S8x4096x1024, .f32⟩
  | 49 => ⟨S_, .f32⟩
  | 50 => ⟨S8x4096x1024, .f32⟩
  | 51 => ⟨S8x4096x1024, .f32⟩
  | 52 => ⟨S_, .f32⟩
  | 53 => ⟨S8x4096x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S8x4096x8x128, .f32⟩
  | 59 => ⟨S8x4096x8x128, .f32⟩
  | 60 => ⟨S_, .f32⟩
  | 61 => ⟨S8x4096x8, .f32⟩
  | 62 => ⟨S8x4096x8x1, .f32⟩
  | 63 => ⟨S_, .f32⟩
  | 64 => ⟨S8x4096x8x1, .f32⟩
  | 65 => ⟨S8x4096x8x1, .f32⟩
  | 66 => ⟨S_, .f32⟩
  | 67 => ⟨S8x4096x8x1, .f32⟩
  | 68 => ⟨S8x4096x8x1, .f32⟩
  | 69 => ⟨S8x4096x8x1, .f32⟩
  | 70 => ⟨S8x4096x8x128, .f32⟩
  | 71 => ⟨S8x4096x8x128, .f32⟩
  | 72 => ⟨S1x1x1x128, .f32⟩
  | 73 => ⟨S8x4096x8x128, .f32⟩
  | 74 => ⟨S8x4096x8x128, .f32⟩
  | 75 => ⟨S8x4096x1024, .f32⟩
  | 76 => ⟨S8x4096x1024, .f32⟩
  | 77 => ⟨S8x4096x1024, .f32⟩
  | 78 => ⟨S_, .f32⟩
  | 79 => ⟨S8x4096x1024, .f32⟩
  | 80 => ⟨S8x4096x1024, .f32⟩
  | 81 => ⟨S_, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x1x1024, .f32⟩
  | 87 => ⟨S8x4096x1x1024, .f32⟩
  | 88 => ⟨S8x4096x1x1024, .f32⟩
  | 89 => ⟨S8x4096x3x1024, .f32⟩
  | 90 => ⟨S3x1024x8x4096, .f32⟩
  | 91 => ⟨S8x4096x3x1024, .f32⟩
  | 92 => ⟨S8x4096x3x1024, .f32⟩
  | 93 => ⟨S8x4096x3x1024, .f32⟩
  | 94 => ⟨S8x4096x3x1024, .f32⟩
  | 95 => ⟨S_, .f32⟩
  | 96 => ⟨S8x4096x3x1024, .f32⟩
  | 97 => ⟨S8x4096x3x1024, .f32⟩
  | 98 => ⟨S_, .f32⟩
  | 99 => ⟨S8x4096x3x1024, .f32⟩
  | 100 => ⟨S8x4096x3x1024, .f32⟩
  | 101 => ⟨S8x4096x3x1024, .f32⟩
  | 102 => ⟨S_, .f32⟩
  | 103 => ⟨S8x4096x1024, .f32⟩
  | 104 => ⟨S8x1x3072, .f32⟩
  | 105 => ⟨S8x1x1024, .f32⟩
  | 106 => ⟨S8x1x1024, .f32⟩
  | 107 => ⟨S8x1x1024, .f32⟩
  | 108 => ⟨S8x4096x1024, .f32⟩
  | 109 => ⟨S8x4096x1024, .f32⟩
  | 110 => ⟨S8x4096x1024, .f32⟩
  | 111 => ⟨S8x4096x1024, .f32⟩
  | 112 => ⟨S8x1x3072, .f32⟩
  | 113 => ⟨S8x1x1024, .f32⟩
  | 114 => ⟨S8x1x1024, .f32⟩
  | 115 => ⟨S8x1x1024, .f32⟩
  | 116 => ⟨S8x4096x1024, .f32⟩
  | 117 => ⟨S_, .f32⟩
  | 118 => ⟨S8x4096, .f32⟩
  | 119 => ⟨S8x4096x1, .f32⟩
  | 120 => ⟨S_, .f32⟩
  | 121 => ⟨S8x4096x1, .f32⟩
  | 122 => ⟨S8x4096x1, .f32⟩
  | 123 => ⟨S_, .f32⟩
  | 124 => ⟨S8x4096x1, .f32⟩
  | 125 => ⟨S8x4096x1, .f32⟩
  | 126 => ⟨S8x4096x1, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S1x1x1024, .f32⟩
  | 2 => ⟨S8x4096x1024, .f32⟩
  | 3 => ⟨S8x4096x1024, .f32⟩
  | 4 => ⟨S_, .f32⟩
  | 5 => ⟨S8x1x1024, .f32⟩
  | 6 => ⟨S8x1x1024, .f32⟩
  | 7 => ⟨S8x4096x1024, .f32⟩
  | 8 => ⟨S8x4096x1024, .f32⟩
  | 9 => ⟨S8x4096x1024, .f32⟩
  | 10 => ⟨S8x4096x1024, .f32⟩
  | 11 => ⟨S32768x1024, .f32⟩
  | 12 => ⟨S32768x1024, .f32⟩
  | 13 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_5 : Ref sig .tc := ⟨.hbm, 95, rfl⟩
abbrev main_v59 : Ref sig .tc := ⟨.hbm, 96, rfl⟩
abbrev main_v60 : Ref sig .tc := ⟨.hbm, 97, rfl⟩
abbrev main_cst_6 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_7 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_8 : Ref sig .tc := ⟨.hbm, 117, rfl⟩
abbrev main_v78 : Ref sig .tc := ⟨.hbm, 118, rfl⟩
abbrev main_v79 : Ref sig .tc := ⟨.hbm, 119, rfl⟩
abbrev main_cst_9 : Ref sig .tc := ⟨.hbm, 120, rfl⟩
abbrev main_v80 : Ref sig .tc := ⟨.hbm, 121, rfl⟩
abbrev main_v81 : Ref sig .tc := ⟨.hbm, 122, rfl⟩
abbrev main_cst_10 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_11 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x256x1024 : Shape := ⟨3, ![8, 256, 1024]⟩
abbrev S1024x13856 : Shape := ⟨2, ![1024, 13856]⟩
abbrev S2x1024 : Shape := ⟨2, ![2, 1024]⟩
abbrev S1024x2048 : Shape := ⟨2, ![1024, 2048]⟩
abbrev S32768x1024 : Shape := ⟨2, ![32768, 1024]⟩
abbrev S2048x1024 : Shape := ⟨2, ![2048, 1024]⟩
abbrev S1x2048 : Shape := ⟨2, ![1, 2048]⟩
abbrev S34816x2048 : Shape := ⟨2, ![34816, 2048]⟩
abbrev S1024x256 : Shape := ⟨2, ![1024, 256]⟩
abbrev S1x256 : Shape := ⟨2, ![1, 256]⟩
abbrev S2048x256 : Shape := ⟨2, ![2048, 256]⟩
abbrev S256x1024 : Shape := ⟨2, ![256, 1024]⟩
abbrev S256x256 : Shape := ⟨2, ![256, 256]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x13856, .f32⟩
  | .hbm, ⟨3, _⟩ => ⟨S2x1024, .f32⟩
  | .hbm, ⟨4, _⟩ => ⟨S1024x2048, .f32⟩
  | .hbm, ⟨5, _⟩ => ⟨S1024x2048, .bf16⟩
  | .hbm, ⟨6, _⟩ => ⟨S32768x1024, .f32⟩
  | .hbm, ⟨7, _⟩ => ⟨S32768x1024, .bf16⟩
  | .hbm, ⟨8, _⟩ => ⟨S2048x1024, .f32⟩
  | .hbm, ⟨9, _⟩ => ⟨S2048x1024, .bf16⟩
  | .hbm, ⟨10, _⟩ => ⟨S1x2048, .f32⟩
  | .hbm, ⟨11, _⟩ => ⟨S34816x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .bf16⟩
  | .local _ .vmem, ⟨5, _⟩ => ⟨S1024x256, .bf16⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Proof.Tile.lean ====
module

public import proofs.«01_k».proof.Proof.Gen.KernelIdeal.Value

/-! # One step of the attention kernel as sixteen copies of one tile

A grid step writes sixteen 128 by 128 tiles of its output block, one per query sub-block and head. The printed text
names every intermediate array of every tile separately; here the arrays are given once, as functions of the sub-block,
the key/value head and the position of the query head in its group, and the step's output is stated with them. -/

@[expose] public section

noncomputable section
namespace Cert.Att
open Cert.KernelIdeal Cert.KernelIdeal.Gen Idealize.ShloMosaic Idealize.ShloMosaic.TcCoe Idealize.SL.Sem
variable {F : FTy → Type} [FloatOps F] [Named F]

/-- A 128 by 128 block as float values of 32 bits. -/
def UP (x : FVec F S128x128 .bf16) : FVec F S128x128 .f32 :=
  extf .f32 (shapeCast S128x128 x shapeCasts_S128x128_S128x128) bitsLt_bf16_f32

/-- A query block, scaled. -/
def UPQ (x : FVec F S128x128 .bf16) : FVec F S128x128 .f32 :=
  mulf (UP x) (constantNamed κ "scale" S128x128 .f32 0x3E0293EE#32)

/-- The rotary turn of a 128 by 128 array by a table holding cosines on the left and signed sines on the right. -/
def ROT (x : FVec F S128x128 .f32) (tab : FVec F S128x256 .f32) : FVec F S128x128 .f32 :=
  addf
    (mulf x (extractStridedSlice S128x128 ![0, 0] tab slices_S128x256_o0_0_S128x128))
    (mulf
      (select (cmpi .eq (andi (iota .tc S128x128 32 [1] iota_S128x128_d1_w32) (broadcast S128x128 32#32))
          (broadcast S128x128 0#32))
        (dynamicRotate 1 96#32 none x rotates_S128x128_d1) (dynamicRotate 1 32#32 none x rotates_S128x128_d1))
      (extractStridedSlice S128x128 ![0, 128] tab slices_S128x256_o0_128_S128x128))

/-- The four query heads of a group, turned and stacked. -/
def QS (q : Fin 4 → FVec F S128x128 .bf16) (tab : FVec F S128x256 .f32) : FVec F S512x128 .bf16 :=
  truncf .bf16 (concatenate S512x128 0
    [⟨S128x128, ROT (UPQ (q 0)) tab⟩, ⟨S128x128, ROT (UPQ (q 1)) tab⟩, ⟨S128x128, ROT (UPQ (q 2)) tab⟩, ⟨S128x128, ROT (UPQ (q 3)) tab⟩]
    concatenates_S128x128_S128x128_S128x128_S128x128_S512x128_d0) bitsLt_bf16_f32

/-- Context rows followed by three blocks of 128 rows. -/
def STACK (c : FVec F S256x128 .bf16) (k : Fin 3 → FVec F S128x128 .bf16) : FVec F S640x128 .bf16 :=
  concatenate S640x128 0
    [⟨S256x128, shapeCast S256x128 c shapeCasts_S256x128_S256x128⟩, ⟨S128x128, k 0⟩, ⟨S128x128, k 1⟩, ⟨S128x128, k 2⟩]
    concatenates_S256x128_S128x128_S128x128_S128x128_S640x128_d0

/-- The scores of the stacked queries against the stacked keys. -/
def SC (q : FVec F S512x128 .bf16) (k : FVec F S640x128 .bf16) : FVec F S512x640 .f32 :=
  matmul dot_S512x128_S640x128_S512x640_1_1_0_0_n_n none q k (constant S512x640 .f32 0x00000000#32)

/-- Which of the 384 local columns a row of sub-block `n` of step `i` may see. -/
def MASK (i : grid0.Coords) (n : BitVec 32) : IVec S128x384 1 :=
  let a : BitVec 32 := BitVec.ofNat 32 (i 1).val
  let lat : BitVec 1 := Scalar.cmpi .slt a 16#32
  let j : BitVec 32 := Scalar.addi (Scalar.muli 2#32 a) n
  let offPrev : BitVec 32 := Scalar.select (Scalar.andi lat (Scalar.cmpi .sge j 1#32)) 0#32 512#32
  let offCur : BitVec 32 := Scalar.select lat 0#32 512#32
  let offNext : BitVec 32 := Scalar.select (Scalar.andi lat (Scalar.cmpi .slt (Scalar.addi j 1#32) 32#32)) 0#32 512#32
  let qi : IVec S128x384 32 := iota .tc S128x384 32 [0] iota_S128x384_d0_w32
  let col : IVec S128x384 32 := iota .tc S128x384 32 [1] iota_S128x384_d1_w32
  ori (andi (cmpi .slt col (broadcast S128x384 128#32)) (cmpi .sge col (addi qi (broadcast S128x384 offPrev))))
    (ori (andi (cmpi .sge col (broadcast S128x384 (Scalar.addi 128#32 offCur)))
        (cmpi .slt col (broadcast S128x384 256#32)))
      (andi (cmpi .sge col (broadcast S128x384 256#32))
        (cmpi .sle (addi (subi col (broadcast S128x384 256#32)) (broadcast S128x384 offNext)) qi)))

theorem slices_ctx (g : Fin 4) : S512x640.Slices ![128 * g.val, 0] S128x256 :=
  ⟨rfl, fun a => by revert a; revert g; decide⟩

theorem slices_loc (g : Fin 4) : S512x640.Slices ![128 * g.val, 256] S128x384 :=
  ⟨rfl, fun a => by revert a; revert g; decide⟩

theorem slices_out (g : Fin 4) : S512x128.Slices ![128 * g.val, 0] S128x128 :=
  ⟨rfl, fun a => by revert a; revert g; decide⟩

/-- The context scores of the `g`-th head of the group. -/
def CTX (s : FVec F S512x640 .f32) (g : Fin 4) : FVec F S128x256 .f32 :=
  extractStridedSlice S128x256 ![128 * g.val, 0] s (slices_ctx g)

/-- The local scores of the `g`-th head of the group, the columns out of sight at minus infinity. -/
def LOC (m : IVec S128x384 1) (s : FVec F S512x640 .f32) (g : Fin 4) : FVec F S128x384 .f32 :=
  select m (extractStridedSlice S128x384 ![128 * g.val, 256] s (slices_loc g))
    (broadcast S128x384 (Scalar.ofBits .f32 0xFF800000#32))

/-- A sink in the units of the base-two exponential. -/
def SINK (k : Elt F .f32) : F .f32 := Scalar.mulf k (Named.named κ "log2e" 0x3FB8AA3B#32)

/-- The largest score of each row, the sink among them. -/
def MX (m : IVec S128x384 1) (s : FVec F S512x640 .f32) (g : Fin 4) (k : Elt F .f32) : FVec F S128x1 .f32 :=
  maximumf
    (maximumf
      (shapeCast S128x1 (multiReduction .maximumf [1] S128 (CTX s g) 0xFF800000#32 reduces_S128x256_S128 (.inl rfl) rfl)
        shapeCasts_S128_S128x1)
      (shapeCast S128x1
        (multiReduction .maximumf [1] S128 (LOC m s g) 0xFF800000#32 reduces_S128x384_S128 (.inl rfl) rfl)
        shapeCasts_S128_S128x1))
    (broadcast S128x1 (SINK k))

/-- The exponentials of a head's scores less the row's largest. -/
def EX (m : IVec S128x384 1) (s : FVec F S512x640 .f32) (g : Fin 4) (k : Elt F .f32) : FVec F S128x640 .f32 :=
  concatenate S128x640 1
    [⟨S128x256, exp2 (subf (CTX s g) (broadcastTo S128x256 (MX m s g k) broadcasts_S128x1_S128x256))⟩,
      ⟨S128x384, exp2 (subf (LOC m s g) (broadcastTo S128x384 (MX m s g k) broadcasts_S128x1_S128x384))⟩]
    concatenates_S128x256_S128x384_S128x640_d1

/-- The row sums of the exponentials, the sink's among them. -/
def LS (m : IVec S128x384 1) (s : FVec F S512x640 .f32) (g : Fin 4) (k : Elt F .f32) : FVec F S128x1 .f32 :=
  addf
    (shapeCast S128x1
      (multiReduction .add [1] S128 (EX m s g k) 0x00000000#32 reduces_S128x640_S128 (.inl rfl) rfl)
      shapeCasts_S128_S128x1)
    (exp2 (subf (broadcast S128x1 (SINK k)) (MX m s g k)))

/-- The four heads' exponentials stacked, times the stacked values. -/
def OUT (m : IVec S128x384 1) (s : FVec F S512x640 .f32) (k : Fin 4 → Elt F .f32) (v : FVec F S640x128 .bf16) :
    FVec F S512x128 .f32 :=
  matmul dot_S512x640_S640x128_S512x128_1_0_0_1_n_n none
    (concatenate S512x640 0
      [⟨S128x640, truncf .bf16 (EX m s 0 (k 0)) bitsLt_bf16_f32⟩, ⟨S128x640, truncf .bf16 (EX m s 1 (k 1)) bitsLt_bf16_f32⟩,
        ⟨S128x640, truncf .bf16 (EX m s 2 (k 2)) bitsLt_bf16_f32⟩, ⟨S128x640, truncf .bf16 (EX m s 3 (k 3)) bitsLt_bf16_f32⟩]
      concatenates_S128x640_S128x640_S128x640_S128x640_S512x640_d0)
    v (constant S512x128 .f32 0x00000000#32)

/-- A gate column block times its own logistic. -/
def GATE (x : FVec F S128x128 .bf16) : FVec F S128x128 .f32 :=
  mulf (extf .f32 (shapeCast S128x128 x shapeCasts_S128x128_S128x128) bitsLt_bf16_f32)
    (logistic (extf .f32 (shapeCast S128x128 x shapeCasts_S128x128_S128x128) bitsLt_bf16_f32))

/-- One head's tile: the product, divided by the row sums and gated. -/
def HEAD (m : IVec S128x384 1) (s : FVec F S512x640 .f32) (k : Fin 4 → Elt F .f32) (v : FVec F S640x128 .bf16)
    (x : FVec F S128x128 .bf16) (g : Fin 4) : FVec F S128x128 .bf16 :=
  truncf .bf16
    (mulf
      (mulf (extractStridedSlice S128x128 ![128 * g.val, 0] (OUT m s k v) (slices_out g))
        (broadcastTo S128x128 (divf (broadcast S128x1 (Scalar.ofBits .f32 0x3F800000#32)) (LS m s g (k g)))
          broadcasts_S128x1_S128x128))
      (GATE x))
    bitsLt_bf16_f32

/-! ### The loads -/

theorem inb_tile (a : Fin 2) (h : Fin 8) : ∀ d, (![128 * a.val, 128 * h.val] : Fin 2 → Nat) d + S128x128.size d ≤ S256x1024.size d := by
  revert a h; decide

theorem inb_mid (a : Fin 2) (h : Fin 4) : ∀ d, (![128 * a.val, 128 * h.val] : Fin 2 → Nat) d + S128x128.size d ≤ S256x512.size d := by
  revert a h; decide

theorem inb_side (h : Fin 4) : ∀ d, (![0, 128 * h.val] : Fin 2 → Nat) d + S128x128.size d ≤ S128x512.size d := by
  revert h; decide

theorem inb_ctx (h : Fin 4) : ∀ d, (![0, 128 * h.val] : Fin 2 → Nat) d + S256x128.size d ≤ S256x512.size d := by
  revert h; decide

theorem inb_sink (h : Fin 8) : ∀ d, (![h.val] : Fin 1 → Nat) d + S1.size d ≤ S8.size d := by
  revert h; decide

/-- Query head number `g` of the group of key/value head `kv`. -/
def hd (kv : Fin 2) (g : Fin 4) : Fin 8 := ⟨4 * kv.val + g.val, by omega⟩

/-- Key (value) columns of head `kv`: the first (last) two of four. -/
def kcol (kv : Fin 2) : Fin 4 := ⟨kv.val, by omega⟩
def vcol (kv : Fin 2) : Fin 4 := ⟨2 + kv.val, by omega⟩

/-- Tile `(a, h)` of a query or gate block. -/
def ldTile (x : Vec F S256x1024 .bf16) (a : Fin 2) (h : Fin 8) : Vec F S128x128 .bf16 :=
  View.ld x (Rect.unit (s := S256x1024) ![128 * a.val, 128 * h.val] S128x128.size (inb_tile a h))

/-- Rows `128 a ..` of columns `128 h ..` of the middle key/value block. -/
def ldMid (x : Vec F S256x512 .bf16) (a : Fin 2) (h : Fin 4) : Vec F S128x128 .bf16 :=
  View.ld x (Rect.unit (s := S256x512) ![128 * a.val, 128 * h.val] S128x128.size (inb_mid a h))

/-- Columns `128 h ..` of a neighbouring key/value block. -/
def ldSide (x : Vec F S128x512 .bf16) (h : Fin 4) : Vec F S128x128 .bf16 :=
  View.ld x (Rect.unit (s := S128x512) ![0, 128 * h.val] S128x128.size (inb_side h))

/-- Columns `128 h ..` of the context's key/value block. -/
def ldCtx (x : Vec F S256x512 .bf16) (h : Fin 4) : Vec F S256x128 .bf16 :=
  View.ld x (Rect.unit (s := S256x512) ![0, 128 * h.val] S256x128.size (inb_ctx h))

/-- Sink number `h`. -/
def ldSink (x : Vec F S8 .f32) (h : Fin 8) : Elt F .f32 :=
  View.ld x (Rect.unit (s := S8) ![h.val] S1.size (inb_sink h)) (Shape.Idx.first (show 0 < S1.numel by decide))

/-- The four blocks of 128 key/value rows a step sees: the block before, its own two, the block after. -/
def SRC (x4 : Vec F S256x512 .bf16) (x5 x6 : Vec F S128x512 .bf16) (h : Fin 4) : Fin 4 → Vec F S128x128 .bf16
  | 0 => ldSide x5 h
  | 1 => ldMid x4 0 h
  | 2 => ldMid x4 1 h
  | 3 => ldSide x6 h

/-- The rotary table's rows for the same four blocks. -/
def TAB (x7 : Vec F S256x256 .f32) (x8 x9 : Vec F S128x256 .f32) : Fin 4 → FVec F S128x256 .f32
  | 0 => shapeCast S128x256 (View.ld x8 (Rect.unit (s := S128x256) ![0, 0] S128x256.size inb_S128x256_S128x256_0_0)) shapeCasts_S128x256_S128x256
  | 1 => extractStridedSlice S128x256 ![0, 0] (shapeCast S256x256 (View.ld x7 (Rect.unit (s := S256x256) ![0, 0] S256x256.size inb_S256x256_S256x256_0_0)) shapeCasts_S256x256_S256x256) slices_S256x256_o0_0_S128x256
  | 2 => extractStridedSlice S128x256 ![128, 0] (shapeCast S256x256 (View.ld x7 (Rect.unit (s := S256x256) ![0, 0] S256x256.size inb_S256x256_S256x256_0_0)) shapeCasts_S256x256_S256x256) slices_S256x256_o128_0_S128x256
  | 3 => shapeCast S128x256 (View.ld x9 (Rect.unit (s := S128x256) ![0, 0] S128x256.size inb_S128x256_S128x256_0_0)) shapeCasts_S128x256_S128x256

/-- Block `j` of the three that sub-block `a` sees, among the step's four. -/
def nb (a : Fin 2) (j : Fin 3) : Fin 4 := ⟨a.val + j.val, by omega⟩

/-- The tile of sub-block `a`, key/value head `kv`, head `g` of its group. -/
def TILE (i : grid0.Coords) (x0 : Vec F S8 .f32) (x1 x2 : Vec F S256x1024 .bf16) (x3 x4 : Vec F S256x512 .bf16)
    (x5 x6 : Vec F S128x512 .bf16) (x7 : Vec F S256x256 .f32) (x8 x9 : Vec F S128x256 .f32) (a kv : Fin 2) (g : Fin 4) :
    FVec F S128x128 .bf16 :=
  HEAD (MASK i (BitVec.ofNat 32 a.val))
    (SC (QS (fun g' => ldTile x1 a (hd kv g')) (TAB x7 x8 x9 (nb a 1)))
      (STACK (ldCtx x3 (kcol kv))
        fun j => truncf .bf16 (ROT (UP (SRC x4 x5 x6 (kcol kv) (nb a j))) (TAB x7 x8 x9 (nb a j))) bitsLt_bf16_f32))
    (fun g' => ldSink x0 (hd kv g'))
    (STACK (ldCtx x3 (vcol kv)) fun j => shapeCast S128x128 (SRC x4 x5 x6 (vcol kv) (nb a j)) shapeCasts_S128x128_S128x128)
    (ldTile x2 a (hd kv g)) g

/-- The tiles in the order of their stores, the last first. -/
def subOf (k : Fin 16) : Fin 2 := ⟨(15 - k.val) / 4 % 2, by omega⟩
def kvOf (k : Fin 16) : Fin 2 := ⟨(15 - k.val) / 8, by omega⟩
def grpOf (k : Fin 16) : Fin 4 := ⟨(15 - k.val) % 4, by omega⟩

set_option maxHeartbeats 4000000 in
/-- The output block a step leaves, as its sixteen tiles. -/
theorem out_tiles (c : Dev nD) (i : grid0.Coords) (arg2 : Memref sig .tc .smem S8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S256x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S256x1024 .bf16) (harg12 : arg12.IsWhole)
    (x0 : Vec F S8 .f32) (x1 x2 : Vec F S256x1024 .bf16) (x3 x4 : Vec F S256x512 .bf16) (x5 x6 : Vec F S128x512 .bf16) (x7 : Vec F S256x256 .f32) (x8 x9 : Vec F S128x256 .f32) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9
      = View.canon (List.ofFn fun k : Fin 16 =>
          ⟨Rect.unit (s := S256x1024) ![128 * (subOf k).val, 128 * (hd (kvOf k) (grpOf k)).val] S128x128.size (inb_tile _ _),
            TILE i x0 x1 x2 x3 x4 x5 x6 x7 x8 x9 (subOf k) (kvOf k) (grpOf k)⟩) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread]
  rfl

end Cert.Att
end
-- ==== Proof.Eval.lean ====
module

public import proofs.«01_k».proof.Proof.Tile
public import Idealize.ShloMosaic.Lib.Pointwise
public import Idealize.ShloMosaic.Lib.WordCmp

/-! # One tile as a softmax-weighted sum

The exponentials of a row, divided by their sum, do not depend on the number subtracted from the scores before. So a tile
is a weighted sum of value rows with the plain exponentials as weights, divided by their total, whatever the row's
largest score was, as long as it is finite. -/

@[expose] public section

noncomputable section
namespace Cert.Att
open Cert.KernelIdeal Cert.KernelIdeal.Gen Idealize.ShloMosaic Idealize.ShloMosaic.TcCoe Idealize.SL.Sem

/-! ### Extended reals -/

theorem ofBits_negInf : Ideal.ofBits .f32 0xFF800000#32 = ⊥ := by simp [Ideal.ofBits, Ideal.ieee]
theorem ofBits_zero : Ideal.ofBits .f32 0x00000000#32 = 0 := by simp [Ideal.ofBits, Ideal.ieee]

/-- A nonnegative real factor goes into a finite sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.mpr ha) (EReal.coe_ne_top a), ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- One over the natural logarithm of two. -/
def L2E : ℝ := (Real.log 2)⁻¹

theorem exp2_shift (z M : ℝ) :
    Ideal.exp2 (((z * L2E : ℝ) : EReal) - (M : EReal)) = ((Real.exp z * Real.exp (-(M * Real.log 2)) : ℝ) : EReal) := by
  have h2 : Real.log 2 ≠ 0 := ne_of_gt (Real.log_pos one_lt_two)
  rw [← EReal.coe_sub, Ideal.exp2_coe, ← Real.exp_add]
  congr 1
  show (2 : ℝ) ^ (z * L2E - M) = _
  rw [Real.rpow_def_of_pos two_pos]
  congr 1
  unfold L2E
  field_simp
  ring

theorem exp2_bot_shift (M : ℝ) : Ideal.exp2 ((⊥ : EReal) - (M : EReal)) = 0 := by
  rw [EReal.bot_sub]; rfl

/-- The weights of a row: the exponential of a visible column's score, nothing elsewhere. -/
def wt {n : ℕ} (vis : Fin n → Prop) [DecidablePred vis] (z : Fin n → ℝ) (c : Fin n) : ℝ := if vis c then Real.exp (z c) else 0

theorem wt_nonneg {n : ℕ} (vis : Fin n → Prop) [DecidablePred vis] (z : Fin n → ℝ) (c : Fin n) : 0 ≤ wt vis z c := by
  unfold wt; split
  · exact (Real.exp_pos _).le
  · exact le_rfl

/-- Scores in base-two units: a visible column's, minus infinity elsewhere. -/
def sc2 {n : ℕ} (vis : Fin n → Prop) [DecidablePred vis] (z : Fin n → ℝ) (c : Fin n) : EReal :=
  if vis c then ((z c * L2E : ℝ) : EReal) else ⊥

theorem exp2_sc2 {n : ℕ} (vis : Fin n → Prop) [DecidablePred vis] (z : Fin n → ℝ) (M : ℝ) (c : Fin n) :
    Ideal.exp2 (sc2 vis z c - (M : EReal)) = ((wt vis z c * Real.exp (-(M * Real.log 2)) : ℝ) : EReal) := by
  unfold sc2 wt
  split
  · exact exp2_shift _ _
  · rw [exp2_bot_shift, zero_mul]; rfl

theorem total_pos {n : ℕ} (vis : Fin n → Prop) [DecidablePred vis] (z : Fin n → ℝ) (σ : ℝ) :
    0 < ∑ c, wt vis z c + Real.exp σ :=
  add_pos_of_nonneg_of_pos (Finset.sum_nonneg fun c _ => wt_nonneg vis z c) (Real.exp_pos σ)

/-- A softmax-weighted sum does not see the number subtracted from the scores. -/
theorem soft_core {n : ℕ} (vis : Fin n → Prop) [DecidablePred vis] (z : Fin n → ℝ) (σ M : ℝ) (v : Fin n → EReal) :
    (∑ c, Ideal.exp2 (sc2 vis z c - (M : EReal)) * v c)
        * Ideal.div 1 (∑ c, Ideal.exp2 (sc2 vis z c - (M : EReal)) + Ideal.exp2 (((σ * L2E : ℝ) : EReal) - (M : EReal)))
      = ((1 / (∑ c, wt vis z c + Real.exp σ) : ℝ) : EReal) * ∑ c, (wt vis z c : EReal) * v c := by
  have hα : 0 < Real.exp (-(M * Real.log 2)) := Real.exp_pos _
  have hT := total_pos vis z σ
  simp only [exp2_sc2, exp2_shift]
  rw [← coe_sum, ← EReal.coe_add, ← Finset.sum_mul, ← add_mul, Ideal.div_coe (mul_pos hT hα).ne', one_mul]
  have e : ∀ c, ((wt vis z c * Real.exp (-(M * Real.log 2)) : ℝ) : EReal) * v c
      = ((Real.exp (-(M * Real.log 2)) : ℝ) : EReal) * ((wt vis z c : EReal) * v c) := fun c => by
    rw [mul_comm (wt vis z c), EReal.coe_mul, mul_assoc]
  simp only [e]
  rw [← coe_mul_sum _ _ hα.le, mul_right_comm, ← EReal.coe_mul]
  congr 2
  field_simp

theorem fold_max_lt_top {n : ℕ} (f : Fin n → EReal) (h : ∀ c, f c ≠ ⊤) :
    Finset.univ.fold max (⊥ : EReal) f < ⊤ :=
  (Finset.fold_max_lt (s := Finset.univ) (f := f) (c := ⊤)).mpr ⟨bot_lt_top, fun c _ => lt_top_iff_ne_top.mpr (h c)⟩

/-! ### The arrays of a tile at an index -/

/-- A sum over 640 columns, the 256 of the context and the 384 around the row. -/
theorem sum_cols {M : Type} [AddCommMonoid M] (f : Fin 640 → M) :
    ∑ c, f c = (∑ c : Fin 256, f ⟨c.val, by omega⟩) + ∑ c : Fin 384, f ⟨256 + c.val, by omega⟩ :=
  Fin.sum_univ_add (a := 256) (b := 384) f

theorem named_log2e : Named.named (F := Ideal) κ "log2e" (φ := .f32) 0x3FB8AA3B#32 = ((L2E : ℝ) : EReal) :=
  IdealRules.named_const.ideal_named_scalar _ _ _ _ rfl

/-- The scale of the queries, as `reference` has it: 128 to the power of minus one half, rounded to 32 bits. -/
def QSC : ℝ := 11863283 / 134217728

theorem named_scale : Named.named (F := Ideal) κ "scale" (φ := .f32) 0x3E0293EE#32 = ((QSC * L2E : ℝ) : EReal) :=
  IdealRules.named_const.ideal_named_scalar _ _ _ _ rfl

theorem up_apply (x : FVec Ideal S128x128 .bf16) (r d : Fin 128) : UP x (ix2 r d) = x (ix2 r d) := by
  pointwise [UP]

theorem upq_apply (x : FVec Ideal S128x128 .bf16) (r d : Fin 128) : UPQ x (ix2 r d) = x (ix2 r d) * ((QSC * L2E : ℝ) : EReal) := by
  rw [← named_scale, ← up_apply x r d]
  rfl

theorem sink_apply (σ : ℝ) : SINK (F := Ideal) (σ : EReal) = ((σ * L2E : ℝ) : EReal) := by
  unfold SINK
  rw [named_log2e, Idealize.ShloMosaic.Ideal.scalar_mulf_def]
  exact (EReal.coe_mul _ _).symm

/-- The lane that a lane is turned with: 32 to the right in the first half of each 64 lanes, 32 to the left in the second. -/
def partner (d : Fin 128) : Fin 128 := if d.val / 32 % 2 = 0 then ⟨(d.val + 32) % 128, by omega⟩ else ⟨(d.val + 96) % 128, by omega⟩

theorem lane_bit : ∀ d : Fin 128, IntOp.cmpi .eq (IntOp.andi (BitVec.ofNat 32 d.val) 32#32) 0#32
    = BitVec.ofBool (decide (d.val / 32 % 2 = 0)) := by decide

theorem select_ofBool {α : Type} (p : Prop) [Decidable p] (a b : α) :
    Scalar.select (BitVec.ofBool (decide p)) a b = if p then a else b := by
  by_cases h : p <;> simp [h, Scalar.select]

theorem rot_apply (x : FVec Ideal S128x128 .f32) (tab : FVec Ideal S128x256 .f32) (r d : Fin 128) :
    ROT x tab (ix2 r d) = x (ix2 r d) * tab (ix2 r ⟨d.val, by omega⟩)
      + x (ix2 r (partner d)) * tab (ix2 r ⟨128 + d.val, by omega⟩) := by
  pointwise [ROT]
  rw [lane_bit, select_ofBool]
  congr 2
  unfold partner
  split
  · exact congrArg (fun j => x (ix2 r j)) (Fin.ext (by show (d.val + 128 - 96) % 128 = (d.val + 32) % 128; omega))
  · exact congrArg (fun j => x (ix2 r j)) (Fin.ext (by show (d.val + 128 - 32) % 128 = (d.val + 96) % 128; omega))

theorem masked_eq (m : IVec S128x384 1) (s : FVec Ideal S512x640 .f32) (g : Fin 4) (r : Fin 128) (c : Fin 640) (h : ¬ c.val < 256)
    (vis : Fin 640 → Prop) [DecidablePred vis] (z : Fin 640 → ℝ)
    (hm : ∀ c : Fin 384, m (ix2 r c) = BitVec.ofBool (decide (vis ⟨256 + c.val, by omega⟩)))
    (hs : ∀ c, vis c → s (ix2 ⟨128 * g.val + r.val, by omega⟩ c) = ((z c * L2E : ℝ) : EReal)) :
    Scalar.select (m (ix2 r ⟨c.val - 256, by omega⟩)) (s (ix2 ⟨128 * g.val + r.val, by omega⟩ ⟨256 + (c.val - 256), by omega⟩))
      (Ideal.ofBits .f32 4286578688#32) = sc2 vis z c := by
  have e : (⟨256 + (c.val - 256), by omega⟩ : Fin 640) = c := Fin.ext (by show 256 + (c.val - 256) = c.val; omega)
  rw [hm ⟨c.val - 256, by omega⟩, select_ofBool, ofBits_negInf, sc2]
  simp only [e]
  by_cases hv : vis c
  · rw [if_pos hv, if_pos hv, hs c hv]
  · rw [if_neg hv, if_neg hv]

theorem ex_apply (m s g k) (r : Fin 128) (c : Fin 640) (vis : Fin 640 → Prop) [DecidablePred vis] (z : Fin 640 → ℝ)
    (hc : ∀ c : Fin 640, c.val < 256 → vis c) (hm : ∀ c : Fin 384, m (ix2 r c) = BitVec.ofBool (decide (vis ⟨256 + c.val, by omega⟩)))
    (hs : ∀ c, vis c → s (ix2 ⟨128 * g.val + r.val, by omega⟩ c) = ((z c * L2E : ℝ) : EReal)) :
    EX (F := Ideal) m s g k (ix2 r c) = Ideal.exp2 (sc2 vis z c - MX m s g k (ix2 r 0)) := by
  pointwise [EX, CTX, LOC]
  split
  · rename_i h
    rw [hs c (hc c h), sc2, if_pos (hc c h)]; rfl
  · rename_i h
    exact congrArg (fun t => Ideal.exp2 (t - MX m s g k (ix2 r 0))) (masked_eq m s g r c h vis z hm hs)

theorem mx_apply (m s g) (σ : ℝ) (r : Fin 128) (vis : Fin 640 → Prop) [DecidablePred vis] (z : Fin 640 → ℝ)
    (hc : ∀ c : Fin 640, c.val < 256 → vis c) (hm : ∀ c : Fin 384, m (ix2 r c) = BitVec.ofBool (decide (vis ⟨256 + c.val, by omega⟩)))
    (hs : ∀ c, vis c → s (ix2 ⟨128 * g.val + r.val, by omega⟩ c) = ((z c * L2E : ℝ) : EReal)) :
    ∃ M : ℝ, MX (F := Ideal) m s g ((σ : ℝ) : EReal) (ix2 r 0) = (M : EReal) := by
  have hne : ∀ c, sc2 vis z c ≠ ⊤ := fun c => by
    unfold sc2; split
    · exact EReal.coe_ne_top _
    · exact bot_ne_top
  have e : MX (F := Ideal) m s g ((σ : ℝ) : EReal) (ix2 r 0)
      = max (max (Finset.univ.fold max ⊥ fun c : Fin 256 => sc2 vis z ⟨c.val, by omega⟩)
          (Finset.univ.fold max ⊥ fun c : Fin 384 => sc2 vis z ⟨256 + c.val, by omega⟩)) ((σ * L2E : ℝ) : EReal) := by
    pointwise [MX, CTX, LOC]
    rw [sink_apply, ofBits_negInf]
    congr 2
    · congr 1; funext c
      rw [sc2, if_pos (hc _ c.isLt)]
      exact hs _ (hc _ c.isLt)
    · congr 1; funext c
      rw [hm c, select_ofBool, sc2]
      by_cases hv : vis ⟨256 + c.val, by omega⟩
      · rw [if_pos hv, if_pos hv]; exact hs _ hv
      · rw [if_neg hv, if_neg hv]
  rw [e]
  refine ⟨_, (EReal.coe_toReal (lt_top_iff_ne_top.mp ?_) (bot_lt_iff_ne_bot.mp ?_)).symm⟩
  · exact max_lt (max_lt (fold_max_lt_top _ fun c => hne _) (fold_max_lt_top _ fun c => hne _)) (EReal.coe_lt_top _)
  · exact lt_of_lt_of_le (EReal.bot_lt_coe _) (le_max_right _ _)

theorem ls_apply (m s g) (σ : ℝ) (r : Fin 128) :
    LS (F := Ideal) m s g ((σ : ℝ) : EReal) (ix2 r 0)
      = ∑ c, EX (F := Ideal) m s g ((σ : ℝ) : EReal) (ix2 r c)
        + Ideal.exp2 (((σ * L2E : ℝ) : EReal) - MX (F := Ideal) m s g ((σ : ℝ) : EReal) (ix2 r 0)) := by
  pointwise [LS]
  rw [sink_apply]
  rfl

theorem out_apply (m s k v) (g : Fin 4) (r d : Fin 128) :
    OUT (F := Ideal) m s k v (ix2 ⟨128 * g.val + r.val, by omega⟩ d) = ∑ c, EX m s g (k g) (ix2 r c) * v (ix2 c d) := by
  fin_cases g
  · pointwise [OUT]
  · pointwise [OUT]
  · pointwise [OUT]
    refine Finset.sum_congr rfl fun c _ => congrArg (· * v (ix2 c d)) ?_
    rw [dif_neg (by omega), dif_neg (by omega), dif_pos (by omega)]
    exact congrArg (fun i => EX m s 2 (k 2) (ix2 i c)) (Fin.ext (by show 256 + r.val - 128 - 128 = _; omega))
  · pointwise [OUT]
    refine Finset.sum_congr rfl fun c _ => congrArg (· * v (ix2 c d)) ?_
    rw [dif_neg (by omega), dif_neg (by omega), dif_neg (by omega)]
    exact congrArg (fun i => EX m s 3 (k 3) (ix2 i c)) (Fin.ext (by show 384 + r.val - 128 - 128 - 128 = _; omega))

/-- A tile at an index: the weighted sum of value rows over the total weight, gated. -/
theorem head_apply (m s k v x) (g : Fin 4) (r d : Fin 128) (σ : ℝ) (vis : Fin 640 → Prop) [DecidablePred vis] (z : Fin 640 → ℝ)
    (hk : k g = ((σ : ℝ) : EReal))
    (hc : ∀ c : Fin 640, c.val < 256 → vis c) (hm : ∀ c : Fin 384, m (ix2 r c) = BitVec.ofBool (decide (vis ⟨256 + c.val, by omega⟩)))
    (hs : ∀ c, vis c → s (ix2 ⟨128 * g.val + r.val, by omega⟩ c) = ((z c * L2E : ℝ) : EReal)) :
    HEAD (F := Ideal) m s k v x g (ix2 r d)
      = (((1 / (∑ c, wt vis z c + Real.exp σ) : ℝ) : EReal) * ∑ c, (wt vis z c : EReal) * v (ix2 c d))
        * (x (ix2 r d) * Ideal.logistic (x (ix2 r d))) := by
  obtain ⟨M, hM⟩ := mx_apply m s g σ r vis z hc hm hs
  have he : ∀ c, EX (F := Ideal) m s g (k g) (ix2 r c) = Ideal.exp2 (sc2 vis z c - (M : EReal)) := fun c => by
    rw [ex_apply m s g (k g) r c vis z hc hm hs, hk, hM]
  have e : HEAD (F := Ideal) m s k v x g (ix2 r d)
      = OUT m s k v (ix2 ⟨128 * g.val + r.val, by omega⟩ d) * Ideal.div 1 (LS m s g (k g) (ix2 r 0))
        * (x (ix2 r d) * Ideal.logistic (x (ix2 r d))) := by
    pointwise [HEAD, GATE]
  rw [e, out_apply, ← soft_core vis z σ M]
  rw [hk] at he ⊢
  rw [ls_apply, hM]
  simp only [he]

end Cert.Att
end
-- ==== Proof.Spec.lean ====
module

public import proofs.«01_k».proof.Proof.Eval

/-! # The attention as one formula, and a tile of the kernel as that formula

A result of the attention is a sum of value rows weighted with the exponentials of the visible scores, over the sum of these
weights and the sink's exponential, times the gate's `silu`. The 640 columns of a row are the 256 rows of the context and
the 384 rows around the row. -/

@[expose] public section

noncomputable section
namespace Cert.Att
open Cert.KernelIdeal Cert.KernelIdeal.Gen Idealize.ShloMosaic Idealize.ShloMosaic.TcCoe Idealize.SL.Sem Idealize.ShloMosaic.WordCmp

/-- One result: weights `wt vis z`, sink `σ`, values `v`, gate `x`. -/
def ATT (vis : Fin 640 → Prop) [DecidablePred vis] (z : Fin 640 → ℝ) (σ : ℝ) (v : Fin 640 → EReal) (x : EReal) : EReal :=
  (((1 / (∑ c, wt vis z c + Real.exp σ) : ℝ) : EReal) * ∑ c, (wt vis z c : EReal) * v c) * (x * Ideal.logistic x)

/-- Columns out of sight do not matter. -/
theorem ATT_congr {vis vis' : Fin 640 → Prop} [DecidablePred vis] [DecidablePred vis'] {z z' : Fin 640 → ℝ} {v v' : Fin 640 → EReal}
    (σ : ℝ) (x : EReal) (h : ∀ c, vis c ↔ vis' c) (hz : ∀ c, vis' c → z c = z' c) (hv : ∀ c, vis' c → v c = v' c) :
    ATT vis z σ v x = ATT vis' z' σ v' x := by
  have e : ∀ c, wt vis z c = wt vis' z' c := fun c => by
    unfold wt
    by_cases hc : vis' c
    · rw [if_pos hc, if_pos ((h c).mpr hc), hz c hc]
    · rw [if_neg hc, if_neg (fun h' => hc ((h c).mp h'))]
  have e' : ∀ c, (wt vis' z' c : EReal) * v c = (wt vis' z' c : EReal) * v' c := fun c => by
    by_cases hc : vis' c
    · rw [hv c hc]
    · simp [wt, if_neg hc]
  unfold ATT
  simp only [e, e']

/-! ### Scores -/

theorem sc_apply (q : FVec Ideal S512x128 .bf16) (k : FVec Ideal S640x128 .bf16) (r : Fin 512) (c : Fin 640) :
    SC q k (ix2 r c) = ∑ d : Fin 128, q (ix2 r d) * k (ix2 c d) := by
  pointwise [SC]

theorem qs_apply (q : Fin 4 → FVec Ideal S128x128 .bf16) (tab : FVec Ideal S128x256 .f32) (g : Fin 4) (r d : Fin 128) :
    QS q tab (ix2 ⟨128 * g.val + r.val, by omega⟩ d) = ROT (UPQ (q g)) tab (ix2 r d) := by
  fin_cases g
  · pointwise [QS]
  · pointwise [QS]
  · pointwise [QS]
    rw [dif_neg (by omega), dif_neg (by omega), dif_pos (by omega)]
    exact congrArg (fun i => ROT (UPQ (q 2)) tab (ix2 i d)) (Fin.ext (by show 256 + r.val - 128 - 128 = r.val; omega))
  · pointwise [QS]
    rw [dif_neg (by omega), dif_neg (by omega), dif_neg (by omega)]
    exact congrArg (fun i => ROT (UPQ (q 3)) tab (ix2 i d)) (Fin.ext (by show 384 + r.val - 128 - 128 - 128 = r.val; omega))

theorem stack_ctx (c : FVec Ideal S256x128 .bf16) (k : Fin 3 → FVec Ideal S128x128 .bf16) (j : Fin 640) (h : j.val < 256) (d : Fin 128) :
    STACK c k (ix2 j d) = c (ix2 ⟨j.val, h⟩ d) := by
  pointwise [STACK]
  rw [dif_pos h]

theorem stack_loc (c : FVec Ideal S256x128 .bf16) (k : Fin 3 → FVec Ideal S128x128 .bf16) (j : Fin 640) (h : ¬ j.val < 256) (d : Fin 128) :
    STACK c k (ix2 j d) = k ⟨(j.val - 256) / 128, by omega⟩ (ix2 ⟨(j.val - 256) % 128, by omega⟩ d) := by
  pointwise [STACK]
  rw [dif_neg h]
  have key : ∀ (n : ℕ) (hn : n < 3) (r : ℕ) (hr : r < 128), j.val - 256 = 128 * n + r →
      k ⟨n, hn⟩ (ix2 ⟨r, hr⟩ d) = k ⟨(j.val - 256) / 128, by omega⟩ (ix2 ⟨(j.val - 256) % 128, by omega⟩ d) := by
    intro n hn r hr e
    obtain rfl : n = (j.val - 256) / 128 := by omega
    obtain rfl : r = (j.val - 256) % 128 := by omega
    rfl
  split
  · exact key 0 (by omega) _ _ (by omega)
  · split
    · exact key 1 (by omega) _ _ (by omega)
    · exact key 2 (by omega) _ _ (by omega)

/-! ### The mask -/

/-- What a row `r` of sub-block `n` of step `s` sees: the context, and of the 384 rows around it those at most 128 away
    that are rows of the sequence. -/
def Vis (s n r : ℕ) (c : Fin 640) : Prop :=
  c.val < 256 ∨ (s < 16 ∧ r ≤ c.val - 256 ∧ c.val - 256 ≤ r + 256 ∧ 128 ≤ 128 * (2 * s + n) + (c.val - 256) ∧ 128 * (2 * s + n) + (c.val - 256) < 4224)

instance (s n r : ℕ) : DecidablePred (Vis s n r) := fun _ => inferInstanceAs (Decidable (_ ∨ _))

/-- The offset that puts a block of columns out of sight, unless `b`. -/
def OFF (b : Bool) : ℕ := if b then 0 else 512

theorem off_words : ∀ (s : Fin 17) (n : Fin 2),
    Scalar.select (Scalar.andi (Scalar.cmpi .slt (BitVec.ofNat 32 s.val) 16#32) (Scalar.cmpi .sge (Scalar.addi (Scalar.muli 2#32 (BitVec.ofNat 32 s.val)) (BitVec.ofNat 32 n.val)) 1#32)) 0#32 512#32
      = BitVec.ofNat 32 (OFF (decide (s.val < 16 ∧ 1 ≤ 2 * s.val + n.val)))
    ∧ Scalar.select (Scalar.cmpi .slt (BitVec.ofNat 32 s.val) 16#32) 0#32 512#32 = BitVec.ofNat 32 (OFF (decide (s.val < 16)))
    ∧ Scalar.select (Scalar.andi (Scalar.cmpi .slt (BitVec.ofNat 32 s.val) 16#32) (Scalar.cmpi .slt (Scalar.addi (Scalar.addi (Scalar.muli 2#32 (BitVec.ofNat 32 s.val)) (BitVec.ofNat 32 n.val)) 1#32) 32#32)) 0#32 512#32
      = BitVec.ofNat 32 (OFF (decide (s.val < 16 ∧ 2 * s.val + n.val < 31))) := by decide

theorem add_words (a b : ℕ) : IntOp.addi (BitVec.ofNat 32 a) (BitVec.ofNat 32 b) = BitVec.ofNat 32 (a + b) := (BitVec.ofNat_add a b).symm

theorem sub_words (a b : ℕ) (h : b ≤ a) : IntOp.subi (BitVec.ofNat 32 a) (BitVec.ofNat 32 b) = BitVec.ofNat 32 (a - b) := by
  have e : a = (a - b) + b := by omega
  show BitVec.ofNat 32 a - BitVec.ofNat 32 b = _
  conv_lhs => rw [e, BitVec.ofNat_add]
  exact BitVec.add_sub_cancel _ _

theorem mask_apply (i : grid0.Coords) (s : Fin 17) (hs : (i 1).val = s.val) (n : Fin 2) (r : Fin 128) (c : Fin 384) :
    MASK i (BitVec.ofNat 32 n.val) (ix2 r c) = BitVec.ofBool (decide (Vis s.val n.val r.val ⟨256 + c.val, by omega⟩)) := by
  obtain ⟨e1, e2, e3⟩ := off_words s n
  unfold MASK
  dsimp only
  rw [hs, e1, e2, e3]
  pointwise
  have h1 : OFF (decide (s.val < 16 ∧ 1 ≤ 2 * s.val + n.val)) ≤ 512 := by unfold OFF; split <;> omega
  have h2 : OFF (decide (s.val < 16)) ≤ 512 := by unfold OFF; split <;> omega
  have h3 : OFF (decide (s.val < 16 ∧ 2 * s.val + n.val < 31)) ≤ 512 := by unfold OFF; split <;> omega
  clear e1 e2 e3
  generalize e1 : OFF (decide (s.val < 16 ∧ 1 ≤ 2 * s.val + n.val)) = o1 at *
  generalize e2 : OFF (decide (s.val < 16)) = o2 at *
  generalize e3 : OFF (decide (s.val < 16 ∧ 2 * s.val + n.val < 31)) = o3 at *
  rw [show ∀ a b : ℕ, IntOp.addi (BitVec.ofNat 32 a) (BitVec.ofNat 32 b) = BitVec.ofNat 32 (a + b) from add_words,
    show Scalar.addi 128#32 (BitVec.ofNat 32 o2) = BitVec.ofNat 32 (128 + o2) from add_words 128 o2]
  have key : IntOp.andi (BitVec.ofBool (decide (256 ≤ c.val)))
      (IntOp.cmpi .sle (IntOp.addi (IntOp.subi (BitVec.ofNat 32 c.val) 256#32) (BitVec.ofNat 32 o3)) (BitVec.ofNat 32 r.val))
      = BitVec.ofBool (decide (256 ≤ c.val ∧ c.val - 256 + o3 ≤ r.val)) := by
    by_cases h : 256 ≤ c.val
    · rw [sub_words _ _ h, add_words]
      simp (disch := omega) only [hlo_ix]
      congr 1; simp
    · simp only [h, false_and, decide_false]
      exact BitVec.zero_and
  simp (disch := omega) only [hlo_ix]
  rw [key]
  simp (disch := omega) only [hlo_ix]
  congr 1
  rw [Bool.eq_iff_iff]
  refine Iff.trans ?_ decide_eq_true_iff.symm
  simp only [Bool.or_eq_true, Bool.and_eq_true, decide_eq_true_eq]
  unfold Vis
  dsimp only
  unfold OFF at e1 e2 e3
  simp only [decide_eq_true_eq] at e1 e2 e3
  split at e1 <;> split at e2 <;> split at e3 <;> omega
/-! ### A tile -/

/-- A tile of the kernel at an index is the formula, at whatever the loaded arrays hold. -/
theorem tile_apply (i : grid0.Coords) (s : Fin 17) (hi : (i 1).val = s.val)
    (x0 : Vec Ideal S8 .f32) (x1 x2 : Vec Ideal S256x1024 .bf16) (x3 x4 : Vec Ideal S256x512 .bf16)
    (x5 x6 : Vec Ideal S128x512 .bf16) (x7 : Vec Ideal S256x256 .f32) (x8 x9 : Vec Ideal S128x256 .f32)
    (a kv : Fin 2) (g : Fin 4) (r d : Fin 128) (Q : Fin 128 → ℝ) (K : Fin 640 → Fin 128 → ℝ) (σ : ℝ) (V : Fin 640 → EReal)
    (hσ : ldSink x0 (hd kv g) = ((σ : ℝ) : EReal))
    (hq : ∀ e, ROT (UPQ (ldTile x1 a (hd kv g))) (TAB x7 x8 x9 (nb a 1)) (ix2 r e) = ((Q e * L2E : ℝ) : EReal))
    (hkc : ∀ (c : Fin 640) (h : c.val < 256) e, ldCtx x3 (kcol kv) (ix2 ⟨c.val, h⟩ e) = ((K c e : ℝ) : EReal))
    (hkl : ∀ c : Fin 640, ¬ c.val < 256 → Vis s.val a.val r.val c → ∀ e,
      ROT (UP (SRC x4 x5 x6 (kcol kv) (nb a ⟨(c.val - 256) / 128, by omega⟩))) (TAB x7 x8 x9 (nb a ⟨(c.val - 256) / 128, by omega⟩))
        (ix2 ⟨(c.val - 256) % 128, by omega⟩ e) = ((K c e : ℝ) : EReal))
    (hvc : ∀ (c : Fin 640) (h : c.val < 256), ldCtx x3 (vcol kv) (ix2 ⟨c.val, h⟩ d) = V c)
    (hvl : ∀ c : Fin 640, ¬ c.val < 256 → Vis s.val a.val r.val c →
      SRC x4 x5 x6 (vcol kv) (nb a ⟨(c.val - 256) / 128, by omega⟩) (ix2 ⟨(c.val - 256) % 128, by omega⟩ d) = V c) :
    TILE i x0 x1 x2 x3 x4 x5 x6 x7 x8 x9 a kv g (ix2 r d)
      = ATT (Vis s.val a.val r.val) (fun c => ∑ e, Q e * K c e) σ V (ldTile x2 a (hd kv g) (ix2 r d)) := by
  unfold TILE
  rw [head_apply _ _ _ _ _ g r d σ (Vis s.val a.val r.val) (fun c => ∑ e, Q e * K c e) hσ (fun c h => Or.inl h)
    (fun c => mask_apply i s hi a r c) ?_]
  · refine ATT_congr σ _ (fun _ => Iff.rfl) (fun _ _ => rfl) fun c hc => ?_
    by_cases h : c.val < 256
    · rw [stack_ctx _ _ c h, hvc c h]
    · rw [stack_loc _ _ c h, ← hvl c h hc]
      pointwise
  · intro c hc
    rw [sc_apply, Finset.sum_mul, coe_sum]
    refine Finset.sum_congr rfl fun e _ => ?_
    rw [qs_apply, hq e]
    by_cases h : c.val < 256
    · rw [stack_ctx _ _ c h, hkc c h e, ← EReal.coe_mul, mul_right_comm]
    · rw [stack_loc _ _ c h]
      refine Eq.trans (congrArg (((Q e * L2E : ℝ) : EReal) * ·) (hkl c h hc e)) ?_
      rw [← EReal.coe_mul, mul_right_comm]

end Cert.Att
end
-- ==== Proof.Formula.lean ====
/-
  The attention's value as one formula: for each row and column of the result, over the rows of the two projections laid one
  under another. Row and column numbers are plain natural numbers here, so that both programs' indices meet by arithmetic.
-/
module

public import proofs.«01_k».proof.Proof.Spec

@[expose] public section

noncomputable section

namespace Cert.Att

open Cert.KernelIdeal Idealize.ShloMosaic

/-- Entry `(R, j)` of the projections one under another: the 32768 latent rows, then the 2048 context rows. -/
def ROW (A0 : S8x4096x13856.Idx → EReal) (A1 : S8x256x13856.Idx → EReal) (R j : ℕ) : EReal :=
  if h : R < 32768 ∧ j < 13856 then A0 (ix3 ⟨R / 4096, by omega⟩ ⟨R % 4096, by omega⟩ ⟨j, h.2⟩)
  else if h : (32768 ≤ R ∧ R < 34816) ∧ j < 13856 then
    A1 (ix3 ⟨(R - 32768) / 256, by omega⟩ ⟨(R - 32768) % 256, by omega⟩ ⟨j, h.2⟩)
  else 0

/-- Sink number `h`. -/
def SNK (A2 : S8.Idx → EReal) (h : ℕ) : EReal := if hh : h < 8 then A2 (ix1 ⟨h, hh⟩) else 0

/-- The angle of lane `d` at position `t`: the row of the 64-wide grid on the first 64 lanes, the column on the last. -/
def ANG (t d : ℕ) : ℝ := (((if d < 64 then t / 64 else t % 64 : ℕ)) : ℝ) * (10000 : ℝ) ^ (-((d % 32 : ℕ) : ℝ) / 32)

/-- The table of the rotary turn: rows 4096 and up belong to the context, which is not turned. -/
def COS (t d : ℕ) : ℝ := if t < 4096 then Real.cos (ANG t d) else 1
def SIN (t d : ℕ) : ℝ := if t < 4096 then (if d / 32 % 2 = 0 then -Real.sin (ANG t d) else Real.sin (ANG t d)) else 0

/-- The lane a lane is turned with. -/
def PART (d : ℕ) : ℕ := if d / 32 % 2 = 0 then d + 32 else d - 32

/-- The turn of a head's 128 lanes at position `t`. -/
def TURN (x : ℕ → ℝ) (t d : ℕ) : ℝ := x d * COS t d + x (PART d) * SIN t d

/-- Which of the seventeen steps of its batch a row belongs to, its batch, and its row of the rotary table. -/
def SEG (R : ℕ) : ℕ := if R < 32768 then R % 4096 / 256 else 16
def BAT (R : ℕ) : ℕ := if R < 32768 then R / 4096 else (R - 32768) / 256
def POS (R : ℕ) : ℕ := if R < 32768 then R % 4096 else 4096 + R % 256

variable (A0 : S8x4096x13856.Idx → EReal) (A1 : S8x256x13856.Idx → EReal) (A2 : S8.Idx → EReal)

/-- The real number at `(R, j)`. -/
def CELL (R j : ℕ) : ℝ := (ROW A0 A1 R j).toReal

/-- Lane `e` of row `R`'s query of head `h`, turned and scaled. -/
def QRY (R h e : ℕ) : ℝ := TURN (fun e => CELL A0 A1 R (8224 + 128 * h + e)) (POS R) e * QSC

/-- The row of key number `c` for query row `R`, and its position: 256 context rows, then three blocks of 128 latent rows
    around the query's own block. -/
def KPOS (R c : ℕ) : ℕ := 128 * (R % 4096 / 128) + (c - 256) - 128
def KROW (R c : ℕ) : ℕ := if c < 256 then 32768 + 256 * BAT R + c else 4096 * BAT R + KPOS R c

/-- Lane `e` of key `c` of key head `kv`. -/
def KEY (R kv c e : ℕ) : ℝ :=
  if c < 256 then CELL A0 A1 (KROW R c) (9248 + 128 * kv + e)
  else TURN (fun e => CELL A0 A1 (KROW R c) (9248 + 128 * kv + e)) (KPOS R c) e

/-- The attention's result at row `R`, column `j`. -/
def RES (R j : ℕ) : EReal :=
  ATT (Vis (SEG R) (R / 128 % 2) (R % 128)) (fun c => ∑ e : Fin 128, QRY A0 A1 R (j / 128) e.val * KEY A0 A1 R (j / 512) c.val e.val)
    (SNK A2 (j / 128)).toReal (fun c => ROW A0 A1 (KROW R c.val) (9504 + 128 * (j / 512) + j % 128)) (ROW A0 A1 R (9760 + j))

/-- The queries' and keys' entries and the sinks are real numbers. -/
structure Finite : Prop where
  row : ∀ R j, 8224 ≤ j → j < 9504 → ROW A0 A1 R j = ((CELL A0 A1 R j : ℝ) : EReal)
  sink : ∀ h, SNK A2 h = (((SNK A2 h).toReal : ℝ) : EReal)

end Cert.Att
end
-- ==== Proof.Precond.lean ====
/-
  What the precondition gives: every entry the scores are made of, and every sink, is a real number.
-/
module

public import proofs.«01_k».proof.Defs
public import proofs.«01_k».proof.Proof.Formula
public import Idealize.ShloMosaic.Lib.ReduceAll
public import Idealize.ShloMosaic.Lib.Pointwise

@[expose] public section
noncomputable section
namespace Cert.Att
open Cert.KernelIdeal Idealize.ShloMosaic

/-- The shape relations the precondition's operations take. -/
theorem pre_facts : Cert.Pre_finite_scores.Facts where
  slices_S8x4096x13856_S8x4096x1280_0_0_8224 := by decide
  slices_S8x256x13856_S8x256x1280_0_0_8224 := by decide
  bcast_S_S8x4096x1280 := by decide
  reducesTo_S8x4096x1280_S_d0_1_2 := by decide
  h_S_ := by decide
  bcast_S_S8x256x1280 := by decide
  reducesTo_S8x256x1280_S_d0_1_2 := by decide
  bcast_S_S8 := by decide
  reducesTo_S8_S_d0 := by decide

/-- A number whose magnitude is below infinity is real. -/
theorem real_of_magnitude (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => simp

theorem and_left {a b : BitVec 1} (h : IntOp.andi a b = 1#1) : a = 1#1 := by revert a b; decide
theorem and_right {a b : BitVec 1} (h : IntOp.andi a b = 1#1) : b = 1#1 := by revert a b; decide

instance : Subsingleton Cert.Pre_finite_scores.S_.Idx := ⟨fun _ _ => funext fun d => d.elim0⟩

/-- The precondition read: the real-number hypothesis of the two values. -/
theorem finite_of_pre (A0 : S8x4096x13856.Idx → EReal) (A1 : S8x256x13856.Idx → EReal) (A2 : S8.Idx → EReal)
    (h : (letI := pre_facts; Cert.Pre_finite_scores.fn (F := Ideal) A0 A1 A2) = fun _ => 1#1) : Finite A0 A1 A2 := by
  have e := congrFun h (fun d => d.elim0)
  simp only [Cert.Pre_finite_scores.fn] at e
  have e2 := Host.reduce_andi_all _ _ _ _ _ (and_right e)
  have e1 := Host.reduce_andi_all _ _ _ _ _ (and_right (and_left e))
  have e0 := Host.reduce_andi_all _ _ _ _ _ (and_left (and_left e))
  have k0 (b : Fin 8) (r : Fin 4096) (d : Fin 1280) :
      Ideal.cmp .olt (max (A0 (ix3 b r ⟨8224 + d.val, by omega⟩)) (-A0 (ix3 b r ⟨8224 + d.val, by omega⟩)))
        (Ideal.ofBits .f32 0x7F800000#32) = 1#1 := by
    have := e0 (ix3 b r d)
    pointwise at this
    exact this
  have k1 (b : Fin 8) (r : Fin 256) (d : Fin 1280) :
      Ideal.cmp .olt (max (A1 (ix3 b r ⟨8224 + d.val, by omega⟩)) (-A1 (ix3 b r ⟨8224 + d.val, by omega⟩)))
        (Ideal.ofBits .f32 0x7F800000#32) = 1#1 := by
    have := e1 (ix3 b r d)
    pointwise at this
    exact this
  clear e h
  constructor
  · intro R j h1 h2
    unfold CELL
    refine real_of_magnitude _ ?_
    unfold ROW
    split
    · rename_i hR
      rw [show (⟨j, hR.2⟩ : Fin 13856) = ⟨8224 + (j - 8224), by omega⟩ from Fin.ext (by dsimp only; omega)]
      exact k0 _ _ ⟨j - 8224, by omega⟩
    · split
      · rename_i hR
        rw [show (⟨j, hR.2⟩ : Fin 13856) = ⟨8224 + (j - 8224), by omega⟩ from Fin.ext (by dsimp only; omega)]
        exact k1 _ _ ⟨j - 8224, by omega⟩
      · simp [Ideal.cmp, Ideal.ofBits, Ideal.ieee]
  · intro h
    refine real_of_magnitude _ ?_
    unfold SNK
    split
    · rename_i hh
      exact e2 (ix1 ⟨h, hh⟩)
    · simp [Ideal.cmp, Ideal.ofBits, Ideal.ieee]

end Cert.Att
end
-- ==== Proof.Blocks.lean ====
module

public import proofs.«01_k».proof.Proof.Gen.KernelIdeal.Value
public import Idealize.ShloMosaic.Lib.Pipeline.ValueKit
public import Idealize.ShloMosaic.Lib.Pointwise

/-! # The blocks a grid step reads, at coordinates

Step `t` of the grid is image `t / 17`, step `t % 17`: sixteen steps of 256 rows of the sequence and one of the context's 256
rows. -/

@[expose] public section

noncomputable section
namespace Cert.Att
open Cert.KernelIdeal Cert.KernelIdeal.Gen Idealize.ShloMosaic Idealize.ShloMosaic.TcCoe Idealize.SL.Sem

/-- The block of 256 rows that step `t` works on. -/
def qb (t : ℕ) : ℕ := if t % 17 < 16 then 16 * (t / 17) + t % 17 else 128 + t / 17
/-- The blocks of 128 rows before and after those of step `s`, kept inside the sequence. -/
def pb (s : ℕ) : ℕ := min (2 * s - 1) 31
def nxb (s : ℕ) : ℕ := min (2 * s + 2) 31

theorem coords_1 : ∀ t : Fin cfg0.N, (grid0.coords t 1).val = t.val % 17 := (by decide +kernel : ∀ t : Fin grid0.N, (grid0.coords t 1).val = t.val % 17)

theorem ix_0 : ∀ t : Fin cfg0.N, win0_0.index t = ![0] := (by decide +kernel : ∀ t : Fin grid0.N, win0_0.index t = ![0])
theorem ix_1 : ∀ t : Fin cfg0.N, win0_1.index t = ![qb t.val, 8] := (by decide +kernel : ∀ t : Fin grid0.N, win0_1.index t = ![qb t.val, 8])
theorem ix_2 : ∀ t : Fin cfg0.N, win0_2.index t = ![qb t.val, 9] := (by decide +kernel : ∀ t : Fin grid0.N, win0_2.index t = ![qb t.val, 9])
theorem ix_3 : ∀ t : Fin cfg0.N, win0_3.index t = ![128 + t.val / 17, 22] := (by decide +kernel : ∀ t : Fin grid0.N, win0_3.index t = ![128 + t.val / 17, 22])
theorem ix_4 : ∀ t : Fin cfg0.N, win0_4.index t = ![qb t.val, 22] := (by decide +kernel : ∀ t : Fin grid0.N, win0_4.index t = ![qb t.val, 22])
theorem ix_5 : ∀ t : Fin cfg0.N, win0_5.index t = ![32 * (t.val / 17) + pb (t.val % 17), 22] := (by decide +kernel : ∀ t : Fin grid0.N, win0_5.index t = ![32 * (t.val / 17) + pb (t.val % 17), 22])
theorem ix_6 : ∀ t : Fin cfg0.N, win0_6.index t = ![32 * (t.val / 17) + nxb (t.val % 17), 22] := (by decide +kernel : ∀ t : Fin grid0.N, win0_6.index t = ![32 * (t.val / 17) + nxb (t.val % 17), 22])
theorem ix_7 : ∀ t : Fin cfg0.N, win0_7.index t = ![t.val % 17, 0] := (by decide +kernel : ∀ t : Fin grid0.N, win0_7.index t = ![t.val % 17, 0])
theorem ix_8 : ∀ t : Fin cfg0.N, win0_8.index t = ![pb (t.val % 17), 0] := (by decide +kernel : ∀ t : Fin grid0.N, win0_8.index t = ![pb (t.val % 17), 0])
theorem ix_9 : ∀ t : Fin cfg0.N, win0_9.index t = ![nxb (t.val % 17), 0] := (by decide +kernel : ∀ t : Fin grid0.N, win0_9.index t = ![nxb (t.val % 17), 0])
theorem ix_10 : ∀ t : Fin cfg0.N, win0_10.index t = ![qb t.val, 0] := (by decide +kernel : ∀ t : Fin grid0.N, win0_10.index t = ![qb t.val, 0])

theorem qb_lt (t : Fin cfg0.N) : qb t.val < 136 := by
  have h : t.val < 136 := t.isLt
  unfold qb; split <;> omega
theorem pb_lt (s : ℕ) : pb s < 32 := by unfold pb; omega
theorem nxb_lt (s : ℕ) : nxb s < 32 := by unfold nxb; omega

variable {F : FTy → Type} [FloatOps F] [Named F] (m : (ℓ : Loc nD τ sig) → Buf (Elt F) ℓ) (c : Dev nD)

/-- The sinks are read whole. -/
theorem blk_0 (t : Fin cfg0.N) (y : S8.Idx) : iblk m c 0 t y = V m c main_arg2 y := by
  blk_simp [iblk]
  refine congrArg _ (funext fun a => Fin.ext ?_)
  fin_cases a
  · blk_simp [ix_0 t]

theorem blk_1 (t : Fin cfg0.N) (r : Fin 256) (j : Fin 1024) (i : S34816x11776.Idx)
    (h0 : (i 0).val = 256 * (qb t.val) + r.val) (h1 : (i 1).val = 8192 + j.val) : X0_1 m c t (ix2 r j) = V m c main_v54 i := by
  unfold X0_1 Pipeline.Window.fill
  rw [dif_pos (moved0_1 t _)]
  blk_simp [iblk]
  refine congrArg _ (funext fun a => Fin.ext ?_)
  fin_cases a
  · blk_simp [ix_1 t]
    exact (congrArg (· + r.val) (Nat.mul_comm _ _)).trans h0.symm
  · blk_simp [ix_1 t]
    exact h1.symm

theorem blk_2 (t : Fin cfg0.N) (r : Fin 256) (j : Fin 1024) (i : S34816x11776.Idx)
    (h0 : (i 0).val = 256 * (qb t.val) + r.val) (h1 : (i 1).val = 9216 + j.val) : X0_2 m c t (ix2 r j) = V m c main_v54 i := by
  unfold X0_2 Pipeline.Window.fill
  rw [dif_pos (moved0_2 t _)]
  blk_simp [iblk]
  refine congrArg _ (funext fun a => Fin.ext ?_)
  fin_cases a
  · blk_simp [ix_2 t]
    exact (congrArg (· + r.val) (Nat.mul_comm _ _)).trans h0.symm
  · blk_simp [ix_2 t]
    exact h1.symm

theorem blk_3 (t : Fin cfg0.N) (r : Fin 256) (j : Fin 512) (i : S34816x11776.Idx)
    (h0 : (i 0).val = 256 * (128 + t.val / 17) + r.val) (h1 : (i 1).val = 11264 + j.val) : iblk m c 3 t (ix2 r j) = V m c main_v54 i := by
  blk_simp [iblk]
  refine congrArg _ (funext fun a => Fin.ext ?_)
  fin_cases a
  · blk_simp [ix_3 t]
    exact (congrArg (· + r.val) (Nat.mul_comm _ _)).trans h0.symm
  · blk_simp [ix_3 t]
    exact h1.symm

theorem blk_4 (t : Fin cfg0.N) (r : Fin 256) (j : Fin 512) (i : S34816x11776.Idx)
    (h0 : (i 0).val = 256 * (qb t.val) + r.val) (h1 : (i 1).val = 11264 + j.val) : iblk m c 4 t (ix2 r j) = V m c main_v54 i := by
  blk_simp [iblk]
  refine congrArg _ (funext fun a => Fin.ext ?_)
  fin_cases a
  · blk_simp [ix_4 t]
    exact (congrArg (· + r.val) (Nat.mul_comm _ _)).trans h0.symm
  · blk_simp [ix_4 t]
    exact h1.symm

theorem blk_5 (t : Fin cfg0.N) (r : Fin 128) (j : Fin 512) (i : S34816x11776.Idx)
    (h0 : (i 0).val = 128 * (32 * (t.val / 17) + pb (t.val % 17)) + r.val) (h1 : (i 1).val = 11264 + j.val) : iblk m c 5 t (ix2 r j) = V m c main_v54 i := by
  blk_simp [iblk]
  refine congrArg _ (funext fun a => Fin.ext ?_)
  fin_cases a
  · blk_simp [ix_5 t]
    exact (congrArg (· + r.val) (Nat.mul_comm _ _)).trans h0.symm
  · blk_simp [ix_5 t]
    exact h1.symm

theorem blk_6 (t : Fin cfg0.N) (r : Fin 128) (j : Fin 512) (i : S34816x11776.Idx)
    (h0 : (i 0).val = 128 * (32 * (t.val / 17) + nxb (t.val % 17)) + r.val) (h1 : (i 1).val = 11264 + j.val) : iblk m c 6 t (ix2 r j) = V m c main_v54 i := by
  blk_simp [iblk]
  refine congrArg _ (funext fun a => Fin.ext ?_)
  fin_cases a
  · blk_simp [ix_6 t]
    exact (congrArg (· + r.val) (Nat.mul_comm _ _)).trans h0.symm
  · blk_simp [ix_6 t]
    exact h1.symm

theorem blk_7 (t : Fin cfg0.N) (r : Fin 256) (j : Fin 256) (i : S4352x256.Idx)
    (h0 : (i 0).val = 256 * (t.val % 17) + r.val) (h1 : (i 1).val = j.val) : iblk m c 7 t (ix2 r j) = V m c main_v35 i := by
  blk_simp [iblk]
  refine congrArg _ (funext fun a => Fin.ext ?_)
  fin_cases a
  · blk_simp [ix_7 t]
    exact (congrArg (· + r.val) (Nat.mul_comm _ _)).trans h0.symm
  · blk_simp [ix_7 t]
    exact h1.symm

theorem blk_8 (t : Fin cfg0.N) (r : Fin 128) (j : Fin 256) (i : S4352x256.Idx)
    (h0 : (i 0).val = 128 * (pb (t.val % 17)) + r.val) (h1 : (i 1).val = j.val) : iblk m c 8 t (ix2 r j) = V m c main_v35 i := by
  blk_simp [iblk]
  refine congrArg _ (funext fun a => Fin.ext ?_)
  fin_cases a
  · blk_simp [ix_8 t]
    exact (congrArg (· + r.val) (Nat.mul_comm _ _)).trans h0.symm
  · blk_simp [ix_8 t]
    exact h1.symm

theorem blk_9 (t : Fin cfg0.N) (r : Fin 128) (j : Fin 256) (i : S4352x256.Idx)
    (h0 : (i 0).val = 128 * (nxb (t.val % 17)) + r.val) (h1 : (i 1).val = j.val) : iblk m c 9 t (ix2 r j) = V m c main_v35 i := by
  blk_simp [iblk]
  refine congrArg _ (funext fun a => Fin.ext ?_)
  fin_cases a
  · blk_simp [ix_9 t]
    exact (congrArg (· + r.val) (Nat.mul_comm _ _)).trans h0.symm
  · blk_simp [ix_9 t]
    exact h1.symm

/-- The output array holds `G` when each step leaves `G`'s rows in its block. -/
theorem out_eq (G : S34816x1024.Idx → Elt F .bf16)
    (h : ∀ (t : Fin cfg0.N) (r : Fin 256) (j : Fin 1024) (i : S34816x1024.Idx), (i 0).val = 256 * qb t.val + r.val → (i 1).val = j.val →
      outsAt0 m c t (ix2 r j) = G i) :
    (dats m 0 c).arrAt 10 cfg0.N = G := by
  refine (dats m 0 c).arrAt_eq_of_covers 10 _ (by decide +kernel) fun t hf y => ?_
  blk_simp
  rw [after0_10]
  have hy : y = ix2 (y 0) (y 1) := by funext a; fin_cases a <;> rfl
  refine (congrArg (outsAt0 m c t) hy).trans (h t (y 0) (y 1) _ ?_ ?_)
  · blk_simp [ix_10 t]
    exact congrArg (· + (y 0).val) (Nat.mul_comm _ _)
  · blk_simp [ix_10 t]

end Cert.Att
end
-- ==== Proof.Host.lean ====
module

public import proofs.«01_k».proof.Proof.Blocks
public import proofs.«01_k».proof.Proof.Formula
public import Idealize.ShloMosaic.Lib.StableHlo.ReadAt
@[expose] public section
noncomputable section
namespace Cert.Att
open Cert.KernelIdeal Cert.KernelIdeal.Gen Idealize.ShloMosaic Idealize.ShloMosaic.TcCoe Idealize.SL.Sem

variable (m : (ℓ : Loc nD τ sig) → Buf (Elt Ideal) ℓ) (c : Dev nD)
set_option maxHeartbeats 2000000

theorem cat_cols {n : ℕ} (xs : List ((s : Shape) × (s.Idx → EReal))) (h : Shape.Concatenates (xs.map (·.1)) S34816x11776 1)
    (i : S34816x11776.Idx) (k : ℕ) (hk : k < xs.length) (x : (⟨2, ![34816, n]⟩ : Shape).Idx → EReal)
    (hx : xs[k] = ⟨⟨2, ![34816, n]⟩, x⟩) (pre : ℕ)
    (hpre : (((xs.take k).map (·.1)).map fun s => if h : s.rank = 2 then s.size ((1 : Fin 2).cast h.symm) else 0).sum = pre)
    (R : Fin 34816) (j : Fin n) (h0 : (i 0).val = R.val) (h1 : (i 1).val = pre + j.val) :
    concatenate S34816x11776 1 xs h i = x (ix2 R j) := by
  refine concatenate_apply_piece (t := S34816x11776) 1 xs h i k hk _ x hx rfl pre hpre (ix2 R j) ?_ ?_
  · intro b hb
    fin_cases b
    · exact h0.symm
    · exact absurd rfl hb
  · exact h1.symm

theorem rows_at (x : S32768x13856.Idx → EReal) (y : S2048x13856.Idx → EReal) (R : Fin 34816) (j : Fin 13856) :
    concatenate S34816x13856 0 [⟨S32768x13856, x⟩, ⟨S2048x13856, y⟩]
      concatenates_S32768x13856_S2048x13856_S34816x13856_d0 (ix2 R j) =
    if h : R.val < 32768 then x (ix2 ⟨R.val, h⟩ j) else y (ix2 ⟨R.val - 32768, by omega⟩ j) := by
  pointwise

theorem slice_rows {n : ℕ} (o : ℕ) (x : S32768x13856.Idx → EReal) (y : S2048x13856.Idx → EReal)
    (hs : S34816x13856.Slices ![0, o] ⟨2, ![34816, n]⟩) (ho : o + n ≤ 13856) (R : Fin 34816) (j : Fin n)
    (A0 : S8x4096x13856.Idx → EReal) (A1 : S8x256x13856.Idx → EReal)
    (hx : x = shapeCast S32768x13856 A0 shapeCasts_S8x4096x13856_S32768x13856)
    (hy : y = shapeCast S2048x13856 A1 shapeCasts_S8x256x13856_S2048x13856) :
    extractStridedSlice ⟨2, ![34816, n]⟩ ![0, o] (concatenate S34816x13856 0 [⟨S32768x13856, x⟩, ⟨S2048x13856, y⟩]
      concatenates_S32768x13856_S2048x13856_S34816x13856_d0) hs (ix2 R j) =
    ROW A0 A1 R.val (o + j.val) := by
  have e := extractStridedSlice_apply ![0, o] (concatenate S34816x13856 0 [⟨S32768x13856, x⟩, ⟨S2048x13856, y⟩]
      concatenates_S32768x13856_S2048x13856_S34816x13856_d0) hs (ix2 R j) (ix2 R ⟨o + j.val, by omega⟩)
      (by intro a; fin_cases a
          · exact (Nat.zero_add _).symm
          · rfl)
  refine e.trans ((rows_at x y R _).trans ?_)
  unfold ROW
  subst hx hy
  have hj := j.isLt
  have hR := R.isLt
  by_cases h : R.val < 32768
  · rw [dif_pos h, dif_pos ⟨h, by omega⟩]
    refine shapeCast_apply _ _ _ _ ?_
    simp only [Shape.rowMajor_val_three, Shape.rowMajor_val_two, ix2, ix3]
    simp
    omega
  · rw [dif_neg h, dif_neg (fun hh => h hh.1), dif_pos ⟨⟨by omega, hR⟩, by omega⟩]
    refine shapeCast_apply _ _ _ _ ?_
    simp only [Shape.rowMajor_val_three, Shape.rowMajor_val_two, ix2, ix3]
    simp
    omega

theorem p16_q (i : S34816x11776.Idx) (R : Fin 34816) (j : Fin 1024) (h0 : (i 0).val = R.val)
   (h1 : (i 1).val = 8192 + j.val) : V m c main_v54 i =
     ROW (m (c, Proc.devRef .tc main_arg0)) (m (c, Proc.devRef .tc main_arg1)) R.val (8224 + j.val) := by
  unfold V
  after_reads_simp
  refine (cat_cols _ (by exact concatenates_S34816x3072_S34816x1024_S34816x1024_S34816x1024_S34816x1024_S34816x1024_S34816x1024_S34816x1024_S34816x512_S34816x512_S34816x256_S34816x256_S34816x11776_d1) i 6 (by simp) _ (by rfl) 8192 (by simp) R j h0 h1).trans ?_
  dsimp only [Matrix.cons_val]
  after_reads_simp
  exact slice_rows 8224 _ _ _ (by decide) R j _ _ (by after_reads_simp; rfl) (by after_reads_simp; rfl)
theorem p16_g (i : S34816x11776.Idx) (R : Fin 34816) (j : Fin 1024) (h0 : (i 0).val = R.val)
   (h1 : (i 1).val = 9216 + j.val) : V m c main_v54 i =
     ROW (m (c, Proc.devRef .tc main_arg0)) (m (c, Proc.devRef .tc main_arg1)) R.val (9760 + j.val) := by
  unfold V
  after_reads_simp
  refine (cat_cols _ (by exact concatenates_S34816x3072_S34816x1024_S34816x1024_S34816x1024_S34816x1024_S34816x1024_S34816x1024_S34816x1024_S34816x512_S34816x512_S34816x256_S34816x256_S34816x11776_d1) i 7 (by simp) _ (by rfl) 9216 (by simp) R j h0 h1).trans ?_
  dsimp only [Matrix.cons_val]
  after_reads_simp
  exact slice_rows 9760 _ _ _ (by decide) R j _ _ (by after_reads_simp; rfl) (by after_reads_simp; rfl)
theorem p16_k (i : S34816x11776.Idx) (R : Fin 34816) (j : Fin 256) (h0 : (i 0).val = R.val)
   (h1 : (i 1).val = 11264 + j.val) : V m c main_v54 i =
     ROW (m (c, Proc.devRef .tc main_arg0)) (m (c, Proc.devRef .tc main_arg1)) R.val (9248 + j.val) := by
  unfold V
  after_reads_simp
  refine (cat_cols _ (by exact concatenates_S34816x3072_S34816x1024_S34816x1024_S34816x1024_S34816x1024_S34816x1024_S34816x1024_S34816x1024_S34816x512_S34816x512_S34816x256_S34816x256_S34816x11776_d1) i 10 (by simp) _ (by rfl) 11264 (by simp) R j h0 h1).trans ?_
  dsimp only [Matrix.cons_val]
  after_reads_simp
  exact slice_rows 9248 _ _ _ (by decide) R j _ _ (by after_reads_simp; rfl) (by after_reads_simp; rfl)
theorem p16_v (i : S34816x11776.Idx) (R : Fin 34816) (j : Fin 256) (h0 : (i 0).val = R.val)
   (h1 : (i 1).val = 11520 + j.val) : V m c main_v54 i =
     ROW (m (c, Proc.devRef .tc main_arg0)) (m (c, Proc.devRef .tc main_arg1)) R.val (9504 + j.val) := by
  unfold V
  after_reads_simp
  refine (cat_cols _ (by exact concatenates_S34816x3072_S34816x1024_S34816x1024_S34816x1024_S34816x1024_S34816x1024_S34816x1024_S34816x1024_S34816x512_S34816x512_S34816x256_S34816x256_S34816x11776_d1) i 11 (by simp) _ (by rfl) 11520 (by simp) R j h0 h1).trans ?_
  dsimp only [Matrix.cons_val]
  after_reads_simp
  exact slice_rows 9504 _ _ _ (by decide) R j _ _ (by after_reads_simp; rfl) (by after_reads_simp; rfl)

/-! ### The rotary table -/

theorem word_row (t : Fin 4096) : (V m c main_v7 (ix1 t) : BitVec 32) = BitVec.ofNat 32 (t.val / 64) := by
  unfold V
  after_reads_at
  revert t
  decide +kernel

theorem word_col (t : Fin 4096) : (V m c main_v14 (ix1 t) : BitVec 32) = BitVec.ofNat 32 (t.val % 64) := by
  unfold V
  after_reads_at
  revert t
  decide +kernel

theorem sitofp_small (n : ℕ) (h : n < 4096) : FloatOps.sitofp (F := Ideal) .f32 (BitVec.ofNat 32 n) = ((n : ℝ) : EReal) := by
  show ((((BitVec.ofNat 32 n).toInt : ℤ) : ℝ) : EReal) = _
  rw [BitVec.toInt_eq_toNat_of_lt (by rw [BitVec.toNat_ofNat]; omega), BitVec.toNat_ofNat, Nat.mod_eq_of_lt (by omega)]
  rfl

end Cert.Att
end
-- ==== Proof.Table.lean ====
/-
  The host line's rotary table, read at an index: cosines of the angles on the left, signed sines on the right, and the
  identity turn on the rows of the context.
-/
module

public import proofs.«01_k».proof.Proof.Host
@[expose] public section
noncomputable section
namespace Cert.Att
open Cert.KernelIdeal Cert.KernelIdeal.Gen Idealize.ShloMosaic Idealize.ShloMosaic.TcCoe Idealize.SL.Sem
variable (m : (ℓ : Loc nD τ sig) → Buf (Elt Ideal) ℓ) (c : Dev nD)
set_option maxHeartbeats 2000000

theorem ofBits_32 : Ideal.ofBits .f32 0x42000000#32 = ((32 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

/-- The inverse frequencies. -/
theorem freq_form (e : ℕ) (h : e < 4096) :
    Ideal.pow (Ideal.ofBits .f32 1176256512#32)
      (Ideal.div (-FloatOps.sitofp (F := Ideal) .f32 (BitVec.ofNat 32 e)) (Ideal.ofBits .f32 1107296256#32)) =
      (((10000 : ℝ) ^ (-(e : ℝ) / 32) : ℝ) : EReal) := by
  rw [ofBits_32, ofBits_10000, sitofp_small e h, Ideal.div_coe (by norm_num), ← EReal.coe_neg, ← EReal.coe_mul, Ideal.pow_coe_coe]
  show (((10000 : ℝ) ^ (-(e : ℝ) * (1 / 32)) : ℝ) : EReal) = _
  congr 2
  ring

theorem ang_row (t : Fin 4096) (e : Fin 32) : V m c main_v13 (ix2 t e) =
    (((t.val / 64 : ℕ) : ℝ) : EReal) * (((10000 : ℝ) ^ (-((e.val : ℕ) : ℝ) / 32) : ℝ) : EReal) := by
  have e1 := word_row m c t
  revert e1
  unfold V
  after_reads_at
  intro e1
  refine congrArg₂ (· * ·) ?_ (freq_form e.val (by omega))
  exact (congrArg (FloatOps.sitofp (F := Ideal) .f32) e1).trans (sitofp_small _ (by omega))

theorem ang_col (t : Fin 4096) (e : Fin 32) : V m c main_v20 (ix2 t e) =
    (((t.val % 64 : ℕ) : ℝ) : EReal) * (((10000 : ℝ) ^ (-((e.val : ℕ) : ℝ) / 32) : ℝ) : EReal) := by
  have e1 := word_col m c t
  revert e1
  unfold V
  after_reads_at
  intro e1
  refine congrArg₂ (· * ·) ?_ (freq_form e.val (by omega))
  exact (congrArg (FloatOps.sitofp (F := Ideal) .f32) e1).trans (sitofp_small _ (by omega))

/-- Four arrays of 32 columns side by side. -/
theorem cat4 (w x y z : S4096x32.Idx → EReal) (h : Shape.Concatenates [S4096x32, S4096x32, S4096x32, S4096x32] S4096x128 1) (t : Fin 4096) (d : Fin 128) :
    concatenate S4096x128 1 [⟨S4096x32, w⟩, ⟨S4096x32, x⟩, ⟨S4096x32, y⟩, ⟨S4096x32, z⟩] h (ix2 t d) =
    if d.val < 32 then w (ix2 t ⟨d.val % 32, by omega⟩) else if d.val < 64 then x (ix2 t ⟨d.val % 32, by omega⟩)
    else if d.val < 96 then y (ix2 t ⟨d.val % 32, by omega⟩) else z (ix2 t ⟨d.val % 32, by omega⟩) := by
  pointwise
  have hd := d.isLt
  by_cases h1 : d.val < 32
  · rw [dif_pos h1, if_pos h1]
    exact congrArg (fun e => w (ix2 t e)) (Fin.ext (by show d.val = d.val % 32; omega))
  rw [dif_neg h1, if_neg h1]
  by_cases h2 : d.val < 64
  · rw [dif_pos (show d.val - 32 < 32 by omega), if_pos h2]
    exact congrArg (fun e => x (ix2 t e)) (Fin.ext (by show d.val - 32 = d.val % 32; omega))
  rw [dif_neg (show ¬ d.val - 32 < 32 by omega), if_neg h2]
  by_cases h3 : d.val < 96
  · rw [dif_pos (show d.val - 32 - 32 < 32 by omega), if_pos h3]
    exact congrArg (fun e => y (ix2 t e)) (Fin.ext (by show d.val - 32 - 32 = d.val % 32; omega))
  · rw [dif_neg (show ¬ d.val - 32 - 32 < 32 by omega), if_neg h3]
    exact congrArg (fun e => z (ix2 t e)) (Fin.ext (by show d.val - 32 - 32 - 32 = d.val % 32; omega))

theorem ANG_row (t d : ℕ) (h : d < 64) :
    (((t / 64 : ℕ) : ℝ) : EReal) * (((10000 : ℝ) ^ (-((d % 32 : ℕ) : ℝ) / 32) : ℝ) : EReal) = ((ANG t d : ℝ) : EReal) := by
  rw [ANG, if_pos h, EReal.coe_mul]

theorem ANG_col (t d : ℕ) (h : ¬ d < 64) :
    (((t % 64 : ℕ) : ℝ) : EReal) * (((10000 : ℝ) ^ (-((d % 32 : ℕ) : ℝ) / 32) : ℝ) : EReal) = ((ANG t d : ℝ) : EReal) := by
  rw [ANG, if_neg h, EReal.coe_mul]

theorem tab_cos (t : Fin 4096) (d : Fin 128) :
    V m c main_v35 (ix2 ⟨t.val, by omega⟩ ⟨d.val, by omega⟩) = ((Real.cos (ANG t.val d.val) : ℝ) : EReal) := by
  have r := ang_row m c t ⟨d.val % 32, by omega⟩
  have q := ang_col m c t ⟨d.val % 32, by omega⟩
  unfold V at r q ⊢
  after_reads_at
  after_reads_simp
  refine (cat4 _ _ _ _ _ _ _).trans ?_
  dsimp only [Matrix.cons_val]
  revert r q
  after_reads_simp
  intro r q
  split_ifs with h1 h2 h3
  · exact (congrArg Ideal.cos (r.trans (ANG_row _ _ (by omega)))).trans rfl
  · exact (congrArg Ideal.cos (r.trans (ANG_row _ _ (by omega)))).trans rfl
  · exact (congrArg Ideal.cos (q.trans (ANG_col _ _ (by omega)))).trans rfl
  · exact (congrArg Ideal.cos (q.trans (ANG_col _ _ (by omega)))).trans rfl

theorem tab_sin (t : Fin 4096) (d : Fin 128) :
    V m c main_v35 (ix2 ⟨t.val, by omega⟩ ⟨128 + d.val, by omega⟩)
      = (((if d.val / 32 % 2 = 0 then -Real.sin (ANG t.val d.val) else Real.sin (ANG t.val d.val)) : ℝ) : EReal) := by
  have r := ang_row m c t ⟨d.val % 32, by omega⟩
  have q := ang_col m c t ⟨d.val % 32, by omega⟩
  unfold V at r q ⊢
  after_reads_at
  after_reads_simp
  refine (cat4 _ _ _ _ _ _ _).trans ?_
  dsimp only [Matrix.cons_val]
  revert r q
  after_reads_simp
  intro r q
  have hd := d.isLt
  split_ifs with h1 h2 h3 h4 h5 h6 h7 <;> first | omega | skip
  · exact (congrArg (fun x => -Ideal.sin x) (r.trans (ANG_row _ _ (by omega)))).trans (EReal.coe_neg _).symm
  · exact (congrArg Ideal.sin (r.trans (ANG_row _ _ (by omega)))).trans rfl
  · exact (congrArg (fun x => -Ideal.sin x) (q.trans (ANG_col _ _ (by omega)))).trans (EReal.coe_neg _).symm
  · exact (congrArg Ideal.sin (q.trans (ANG_col _ _ (by omega)))).trans rfl

theorem tab_one (t : Fin 256) (d : Fin 128) :
    V m c main_v35 (ix2 ⟨4096 + t.val, by omega⟩ ⟨d.val, by omega⟩) = (1 : EReal) := by
  unfold V
  after_reads_at
  after_reads_at

theorem tab_zero (t : Fin 256) (d : Fin 128) :
    V m c main_v35 (ix2 ⟨4096 + t.val, by omega⟩ ⟨128 + d.val, by omega⟩) = (0 : EReal) := by
  unfold V
  after_reads_at
  after_reads_at
  try simp

/-- The rotary table, cosines on the left and signed sines on the right. -/
theorem table_cos (i : S4352x256.Idx) (t : ℕ) (d : Fin 128) (h0 : (i 0).val = t) (h1 : (i 1).val = d.val) :
    V m c main_v35 i = ((COS t d.val : ℝ) : EReal) := by
  have ht : t < 4352 := h0 ▸ (i 0).isLt
  have hi : i = ix2 ⟨t, ht⟩ ⟨d.val, by omega⟩ := by
    funext a; fin_cases a
    · exact Fin.ext h0
    · exact Fin.ext h1
  rw [hi, COS]
  split_ifs with h
  · exact tab_cos m c ⟨t, h⟩ d
  · have e : (⟨t, ht⟩ : Fin 4352) = ⟨4096 + (⟨t - 4096, by omega⟩ : Fin 256).val, by dsimp only; omega⟩ := Fin.ext (by dsimp only; omega)
    rw [e]
    exact (tab_one m c ⟨t - 4096, by omega⟩ d).trans EReal.coe_one.symm

theorem table_sin (i : S4352x256.Idx) (t : ℕ) (d : Fin 128) (h0 : (i 0).val = t) (h1 : (i 1).val = 128 + d.val) :
    V m c main_v35 i = ((SIN t d.val : ℝ) : EReal) := by
  have ht : t < 4352 := h0 ▸ (i 0).isLt
  have hi : i = ix2 ⟨t, ht⟩ ⟨128 + d.val, by omega⟩ := by
    funext a; fin_cases a
    · exact Fin.ext h0
    · exact Fin.ext h1
  rw [hi, SIN]
  by_cases h : t < 4096
  · rw [if_pos h]
    exact tab_sin m c ⟨t, h⟩ d
  · rw [if_neg h]
    have e : (⟨t, ht⟩ : Fin 4352) = ⟨4096 + (⟨t - 4096, by omega⟩ : Fin 256).val, by dsimp only; omega⟩ := Fin.ext (by dsimp only; omega)
    rw [e]
    exact (tab_zero m c ⟨t - 4096, by omega⟩ d).trans EReal.coe_zero.symm

end Cert.Att
end
-- ==== Proof.Inputs.lean ====
/-
  What one step of the grid loads, as entries of the projections and of the rotary table.
-/
module

public import proofs.«01_k».proof.Proof.Table
public import Idealize.ShloMosaic.Lib.Pipeline.ValueKit.Tiles
@[expose] public section
noncomputable section
namespace Cert.Att
open Cert.KernelIdeal Cert.KernelIdeal.Gen Idealize.ShloMosaic Idealize.ShloMosaic.TcCoe Idealize.SL.Sem
variable (m : (ℓ : Loc nD τ sig) → Buf (Elt Ideal) ℓ) (c : Dev nD)
set_option maxHeartbeats 1000000

/-- The arguments as launched. -/
abbrev M0 : S8x4096x13856.Idx → EReal := m (c, Proc.devRef .tc main_arg0)
abbrev M1 : S8x256x13856.Idx → EReal := m (c, Proc.devRef .tc main_arg1)
abbrev M2 : S8.Idx → EReal := m (c, Proc.devRef .tc main_arg2)

/-- Keys and values lie side by side, in the array as in the projections. -/
theorem p16_kv (i : S34816x11776.Idx) (R : ℕ) (j : Fin 512) (h0 : (i 0).val = R) (h1 : (i 1).val = 11264 + j.val) :
    V m c main_v54 i = ROW (M0 m c) (M1 m c) R (9248 + j.val) := by
  by_cases h : j.val < 256
  · exact h0 ▸ p16_k m c i (i 0) ⟨j.val, h⟩ rfl h1
  · refine (p16_v m c i (i 0) ⟨j.val - 256, by omega⟩ rfl (by dsimp only; omega)).trans ?_
    dsimp only
    rw [h0]
    congr 1
    omega

theorem qb_row (t : Fin cfg0.N) (r : Fin 256) : 256 * qb t.val + r.val < 34816 := by
  have := qb_lt t
  omega

theorem in_q (t : Fin cfg0.N) (r : Fin 256) (j : Fin 1024) :
    X0_1 m c t (ix2 r j) = ROW (M0 m c) (M1 m c) (256 * qb t.val + r.val) (8224 + j.val) :=
  (blk_1 m c t r j (ix2 ⟨_, qb_row t r⟩ ⟨8192 + j.val, by omega⟩) rfl rfl).trans (p16_q m c _ ⟨_, qb_row t r⟩ j rfl rfl)

theorem in_g (t : Fin cfg0.N) (r : Fin 256) (j : Fin 1024) :
    X0_2 m c t (ix2 r j) = ROW (M0 m c) (M1 m c) (256 * qb t.val + r.val) (9760 + j.val) :=
  (blk_2 m c t r j (ix2 ⟨_, qb_row t r⟩ ⟨9216 + j.val, by omega⟩) rfl rfl).trans (p16_g m c _ ⟨_, qb_row t r⟩ j rfl rfl)

theorem in_ctx (t : Fin cfg0.N) (r : Fin 256) (j : Fin 512) :
    iblk m c 3 t (ix2 r j) = ROW (M0 m c) (M1 m c) (256 * (128 + t.val / 17) + r.val) (9248 + j.val) :=
  have ht : t.val < 136 := t.isLt
  (blk_3 m c t r j (ix2 ⟨256 * (128 + t.val / 17) + r.val, by omega⟩ ⟨11264 + j.val, by omega⟩) rfl rfl).trans (p16_kv m c _ _ j rfl rfl)

theorem in_mid (t : Fin cfg0.N) (r : Fin 256) (j : Fin 512) :
    iblk m c 4 t (ix2 r j) = ROW (M0 m c) (M1 m c) (256 * qb t.val + r.val) (9248 + j.val) :=
  (blk_4 m c t r j (ix2 ⟨_, qb_row t r⟩ ⟨11264 + j.val, by omega⟩) rfl rfl).trans (p16_kv m c _ _ j rfl rfl)

theorem in_prev (t : Fin cfg0.N) (r : Fin 128) (j : Fin 512) :
    iblk m c 5 t (ix2 r j) = ROW (M0 m c) (M1 m c) (128 * (32 * (t.val / 17) + pb (t.val % 17)) + r.val) (9248 + j.val) :=
  have ht : t.val < 136 := t.isLt
  have hp := pb_lt (t.val % 17)
  (blk_5 m c t r j (ix2 ⟨128 * (32 * (t.val / 17) + pb (t.val % 17)) + r.val, by omega⟩ ⟨11264 + j.val, by omega⟩) rfl rfl).trans
    (p16_kv m c _ _ j rfl rfl)

theorem in_next (t : Fin cfg0.N) (r : Fin 128) (j : Fin 512) :
    iblk m c 6 t (ix2 r j) = ROW (M0 m c) (M1 m c) (128 * (32 * (t.val / 17) + nxb (t.val % 17)) + r.val) (9248 + j.val) :=
  have ht : t.val < 136 := t.isLt
  have hp := nxb_lt (t.val % 17)
  (blk_6 m c t r j (ix2 ⟨128 * (32 * (t.val / 17) + nxb (t.val % 17)) + r.val, by omega⟩ ⟨11264 + j.val, by omega⟩) rfl rfl).trans
    (p16_kv m c _ _ j rfl rfl)

/-- First rows of the four blocks of keys and values a step sees, and of their rows of the table. -/
def srow (t : ℕ) (n : Fin 4) : ℕ :=
  match n with
  | 0 => 128 * (32 * (t / 17) + pb (t % 17))
  | 1 => 256 * qb t
  | 2 => 256 * qb t + 128
  | 3 => 128 * (32 * (t / 17) + nxb (t % 17))
def trow (s : ℕ) (n : Fin 4) : ℕ :=
  match n with
  | 0 => 128 * pb s
  | 1 => 256 * s
  | 2 => 256 * s + 128
  | 3 => 128 * nxb s

theorem src_apply (t : Fin cfg0.N) (h n : Fin 4) (r d : Fin 128) :
    SRC (F := Ideal) (iblk m c 4 t) (iblk m c 5 t) (iblk m c 6 t) h n (ix2 r d)
      = ROW (M0 m c) (M1 m c) (srow t.val n + r.val) (9248 + (128 * h.val + d.val)) := by
  fin_cases n
  · refine (View.ld_unit_apply_of _ _ _ _ _ (ix2 r ⟨128 * h.val + d.val, by omega⟩) ?_).trans (in_prev m c t r ⟨128 * h.val + d.val, by omega⟩)
    intro a; fin_cases a
    · exact (Nat.zero_add _).symm
    · rfl
  · refine (View.ld_unit_apply_of _ _ _ _ _ (ix2 ⟨r.val, by omega⟩ ⟨128 * h.val + d.val, by omega⟩) ?_).trans (in_mid m c t ⟨r.val, by omega⟩ ⟨128 * h.val + d.val, by omega⟩)
    intro a; fin_cases a
    · exact (Nat.zero_add _).symm
    · rfl
  · refine (View.ld_unit_apply_of _ _ _ _ _ (ix2 ⟨128 + r.val, by omega⟩ ⟨128 * h.val + d.val, by omega⟩) ?_).trans
      ((in_mid m c t ⟨128 + r.val, by omega⟩ ⟨128 * h.val + d.val, by omega⟩).trans ?_)
    · intro a; fin_cases a
      · rfl
      · rfl
    · exact congrArg (fun R => ROW _ _ R _) (Nat.add_assoc _ _ _).symm
  · refine (View.ld_unit_apply_of _ _ _ _ _ (ix2 r ⟨128 * h.val + d.val, by omega⟩) ?_).trans (in_next m c t r ⟨128 * h.val + d.val, by omega⟩)
    intro a; fin_cases a
    · exact (Nat.zero_add _).symm
    · rfl

theorem tab_0 (x7 : Vec Ideal S256x256 .f32) (x8 x9 : Vec Ideal S128x256 .f32) (r : Fin 128) (j : Fin 256) :
    TAB x7 x8 x9 0 (ix2 r j) = x8 (ix2 r j) := by
  unfold TAB
  pointwise
theorem tab_1 (x7 : Vec Ideal S256x256 .f32) (x8 x9 : Vec Ideal S128x256 .f32) (r : Fin 128) (j : Fin 256) :
    TAB x7 x8 x9 1 (ix2 r j) = x7 (ix2 ⟨r.val, by omega⟩ j) := by
  unfold TAB
  pointwise
theorem tab_2 (x7 : Vec Ideal S256x256 .f32) (x8 x9 : Vec Ideal S128x256 .f32) (r : Fin 128) (j : Fin 256) :
    TAB x7 x8 x9 2 (ix2 r j) = x7 (ix2 ⟨128 + r.val, by omega⟩ j) := by
  unfold TAB
  pointwise
theorem tab_3 (x7 : Vec Ideal S256x256 .f32) (x8 x9 : Vec Ideal S128x256 .f32) (r : Fin 128) (j : Fin 256) :
    TAB x7 x8 x9 3 (ix2 r j) = x9 (ix2 r j) := by
  unfold TAB
  pointwise

theorem tab_apply (x7 : Vec Ideal S256x256 .f32) (x8 x9 : Vec Ideal S128x256 .f32) (G : ℕ → Fin 256 → EReal) (s : ℕ)
    (h7 : ∀ r j, x7 (ix2 r j) = G (256 * s + r.val) j) (h8 : ∀ r j, x8 (ix2 r j) = G (128 * pb s + r.val) j)
    (h9 : ∀ r j, x9 (ix2 r j) = G (128 * nxb s + r.val) j) (n : Fin 4) (r : Fin 128) (j : Fin 256) :
    TAB x7 x8 x9 n (ix2 r j) = G (trow s n + r.val) j := by
  fin_cases n
  · exact (tab_0 x7 x8 x9 r j).trans (h8 r j)
  · exact (tab_1 x7 x8 x9 r j).trans (h7 ⟨r.val, by omega⟩ j)
  · exact (tab_2 x7 x8 x9 r j).trans ((h7 ⟨128 + r.val, by omega⟩ j).trans (congrArg (fun t => G t j) (Nat.add_assoc _ _ _).symm))
  · exact (tab_3 x7 x8 x9 r j).trans (h9 r j)

/-- The rotary table of every row and lane. -/
def TABLE (t : ℕ) (j : Fin 256) : EReal := if j.val < 128 then ((COS t j.val : ℝ) : EReal) else ((SIN t (j.val - 128) : ℝ) : EReal)

theorem v35_apply (i : S4352x256.Idx) (t : ℕ) (j : Fin 256) (h0 : (i 0).val = t) (h1 : (i 1).val = j.val) : V m c main_v35 i = TABLE t j := by
  unfold TABLE
  split_ifs with h
  · exact table_cos m c i t ⟨j.val, h⟩ h0 h1
  · exact table_sin m c i t ⟨j.val - 128, by omega⟩ h0 (by dsimp only; omega)

theorem tables (t : Fin cfg0.N) (n : Fin 4) (r : Fin 128) (j : Fin 256) :
    TAB (F := Ideal) (iblk m c 7 t) (iblk m c 8 t) (iblk m c 9 t) n (ix2 r j) = TABLE (trow (t.val % 17) n + r.val) j := by
  have hp := pb_lt (t.val % 17)
  have hn := nxb_lt (t.val % 17)
  exact tab_apply _ _ _ TABLE (t.val % 17)
    (fun r j => (blk_7 m c t r j (ix2 ⟨256 * (t.val % 17) + r.val, by omega⟩ j) rfl rfl).trans (v35_apply m c _ _ j rfl rfl))
    (fun r j => (blk_8 m c t r j (ix2 ⟨128 * pb (t.val % 17) + r.val, by omega⟩ j) rfl rfl).trans (v35_apply m c _ _ j rfl rfl))
    (fun r j => (blk_9 m c t r j (ix2 ⟨128 * nxb (t.val % 17) + r.val, by omega⟩ j) rfl rfl).trans (v35_apply m c _ _ j rfl rfl)) n r j

theorem partner_val (d : Fin 128) : (partner d).val = PART d.val := by
  revert d; decide

/-- A turned head of real numbers. -/
theorem turn_apply (x : FVec Ideal S128x128 .f32) (tab : FVec Ideal S128x256 .f32) (r d : Fin 128) (y : ℕ → ℝ) (t : ℕ)
    (hx : ∀ e : Fin 128, x (ix2 r e) = ((y e.val : ℝ) : EReal)) (ht : ∀ j, tab (ix2 r j) = TABLE t j) :
    ROT x tab (ix2 r d) = ((TURN y t d.val : ℝ) : EReal) := by
  rw [rot_apply, hx, hx, ht, ht, partner_val, TURN, TABLE, TABLE, if_pos (by exact d.isLt), if_neg (by simp), EReal.coe_add, EReal.coe_mul, EReal.coe_mul]
  simp

end Cert.Att
end
-- ==== Proof.KernelValue.lean ====
/-
  The kernel's result array is the formula.
-/
module

public import proofs.«01_k».proof.Proof.Inputs
@[expose] public section
noncomputable section
namespace Cert.Att
open Cert.KernelIdeal Cert.KernelIdeal.Gen Idealize.ShloMosaic Idealize.ShloMosaic.TcCoe Idealize.SL.Sem
variable (m : (ℓ : Loc nD τ sig) → Buf (Elt Ideal) ℓ) (c : Dev nD)
set_option maxHeartbeats 1000000

/-- Where the step's blocks of keys lie, for a block inside the sequence. -/
theorem block_rows (t : ℕ) (n : Fin 4) (hs : t % 17 < 16) (h1 : 1 ≤ 2 * (t % 17) + n.val) (h2 : 2 * (t % 17) + n.val ≤ 32) :
    srow t n = 4096 * (t / 17) + 128 * (2 * (t % 17) + n.val - 1) ∧ trow (t % 17) n = 128 * (2 * (t % 17) + n.val - 1) := by
  fin_cases n <;> simp only [srow, trow, qb, pb, nxb, if_pos hs] at h1 h2 ⊢ <;> omega

section Rows
variable (t a r : ℕ) (ha : a < 2) (hr : r < 128)
include ha hr
theorem row_sub : (256 * qb t + (128 * a + r)) / 128 % 2 = a := by omega
theorem row_in : (256 * qb t + (128 * a + r)) % 128 = r := by omega
variable (ht : t < 136)
include ht
theorem row_seg : SEG (256 * qb t + (128 * a + r)) = t % 17 := by
  unfold SEG qb
  split_ifs <;> omega
theorem row_bat : BAT (256 * qb t + (128 * a + r)) = t / 17 := by
  unfold BAT qb
  split_ifs <;> omega
theorem row_pos : POS (256 * qb t + (128 * a + r)) = 256 * (t % 17) + 128 * a + r := by
  unfold POS qb
  split_ifs <;> omega
theorem row_blk (hs : t % 17 < 16) : (256 * qb t + (128 * a + r)) % 4096 / 128 = 2 * (t % 17) + a := by
  unfold qb
  rw [if_pos hs]
  omega
end Rows

theorem sink_in (t : Fin cfg0.N) (h : Fin 8) : ldSink (F := Ideal) (iblk m c 0 t) h = SNK (M2 m c) h.val := by
  refine (View.ld_unit_apply_of (iblk m c 0 t) _ _ _ _ (ix1 h) ?_).trans ?_
  · intro a; fin_cases a; rfl
  · rw [blk_0, V_main_arg2, SNK, dif_pos h.isLt]

theorem ctx_in (t : Fin cfg0.N) (h : Fin 4) (r : Fin 256) (d : Fin 128) :
    ldCtx (F := Ideal) (iblk m c 3 t) h (ix2 r d) = ROW (M0 m c) (M1 m c) (256 * (128 + t.val / 17) + r.val) (9248 + (128 * h.val + d.val)) := by
  refine (View.ld_unit_apply_of _ _ _ _ _ (ix2 r ⟨128 * h.val + d.val, by omega⟩) ?_).trans (in_ctx m c t r ⟨128 * h.val + d.val, by omega⟩)
  intro a; fin_cases a
  · exact (Nat.zero_add _).symm
  · rfl

theorem tile_q (t : Fin cfg0.N) (a : Fin 2) (h : Fin 8) (r d : Fin 128) :
    ldTile (F := Ideal) (X0_1 m c t) a h (ix2 r d) = ROW (M0 m c) (M1 m c) (256 * qb t.val + (128 * a.val + r.val)) (8224 + (128 * h.val + d.val)) := by
  refine (View.ld_unit_apply_of _ _ _ _ _ (ix2 ⟨128 * a.val + r.val, by omega⟩ ⟨128 * h.val + d.val, by omega⟩) ?_).trans (in_q m c t _ _)
  intro a; fin_cases a <;> rfl

theorem tile_g (t : Fin cfg0.N) (a : Fin 2) (h : Fin 8) (r d : Fin 128) :
    ldTile (F := Ideal) (X0_2 m c t) a h (ix2 r d) = ROW (M0 m c) (M1 m c) (256 * qb t.val + (128 * a.val + r.val)) (9760 + (128 * h.val + d.val)) := by
  refine (View.ld_unit_apply_of _ _ _ _ _ (ix2 ⟨128 * a.val + r.val, by omega⟩ ⟨128 * h.val + d.val, by omega⟩) ?_).trans (in_g m c t _ _)
  intro a; fin_cases a <;> rfl

/-- A turned head times a constant. -/
theorem TURN_mul (x : ℕ → ℝ) (k : ℝ) (t d : ℕ) : TURN (fun e => x e * k) t d = TURN x t d * k := by
  unfold TURN
  ring

theorem step_value (hf : Finite (M0 m c) (M1 m c) (M2 m c)) (t : Fin cfg0.N) (a kv : Fin 2) (g : Fin 4) (r d : Fin 128) :
    TILE (F := Ideal) (grid0.coords t) (iblk m c 0 t) (X0_1 m c t) (X0_2 m c t) (iblk m c 3 t) (iblk m c 4 t) (iblk m c 5 t) (iblk m c 6 t)
      (iblk m c 7 t) (iblk m c 8 t) (iblk m c 9 t) a kv g (ix2 r d)
    = RES (M0 m c) (M1 m c) (M2 m c) (256 * qb t.val + (128 * a.val + r.val)) (128 * (4 * kv.val + g.val) + d.val) := by
  have ht : t.val < 136 := t.isLt
  have e1 : (128 * (4 * kv.val + g.val) + d.val) / 128 = 4 * kv.val + g.val := by omega
  have e2 : (128 * (4 * kv.val + g.val) + d.val) / 512 = kv.val := by omega
  have e3 : (128 * (4 * kv.val + g.val) + d.val) % 128 = d.val := by omega
  rw [RES, e1, e2, e3, row_sub _ _ _ a.isLt r.isLt, row_in _ _ _ a.isLt r.isLt, row_seg _ _ _ a.isLt r.isLt ht]
  have hb := row_bat _ _ _ a.isLt r.isLt ht
  have hp := row_pos _ _ _ a.isLt r.isLt ht
  have hk := row_blk _ _ _ a.isLt r.isLt ht
  generalize hR : 256 * qb t.val + (128 * a.val + r.val) = R at *
  refine (tile_apply (grid0.coords t) ⟨t.val % 17, by omega⟩ (coords_1 t) _ _ _ _ _ _ _ _ _ _ a kv g r d
    (fun e => QRY (M0 m c) (M1 m c) R (4 * kv.val + g.val) e.val) (fun c' e => KEY (M0 m c) (M1 m c) R kv.val c'.val e.val)
    (SNK (M2 m c) (4 * kv.val + g.val)).toReal (fun c' => ROW (M0 m c) (M1 m c) (KROW R c'.val) (9504 + 128 * kv.val + d.val)) ?_ ?_ ?_ ?_ ?_ ?_).trans ?_
  · exact (sink_in m c t (hd kv g)).trans (hf.sink _)
  · intro e
    unfold QRY
    rw [mul_assoc, ← TURN_mul]
    refine turn_apply _ _ r e _ _ (fun e => ?_) (fun j => ?_)
    · have e4 : 8224 + (128 * (hd kv g).val + e.val) = 8224 + 128 * (4 * kv.val + g.val) + e.val := by
        show 8224 + (128 * (4 * kv.val + g.val) + e.val) = _
        omega
      rw [upq_apply, tile_q, hR, e4, hf.row _ _ (by omega) (by omega)]
      exact (EReal.coe_mul _ _).symm
    · rw [tables, hp]
      congr 1
      fin_cases a <;> rfl
  · intro c' h e
    rw [ctx_in, KEY, if_pos h, KROW, if_pos h, hb, hf.row _ _ (by omega) (by show 9248 + (128 * kv.val + e.val) < 9504; omega)]
    congr 2
    · dsimp only; omega
    · show 9248 + (128 * kv.val + e.val) = _
      omega
  · intro c' h hv e
    have hs : t.val % 17 < 16 := by
      rcases hv with hv | hv
      · exact absurd hv h
      · exact hv.1
    have hv' : 128 ≤ 128 * (2 * (t.val % 17) + a.val) + (c'.val - 256) ∧ 128 * (2 * (t.val % 17) + a.val) + (c'.val - 256) < 4224 := by
      rcases hv with hv | hv
      · exact absurd hv h
      · exact hv.2.2.2
    obtain ⟨b1, b2⟩ := block_rows t.val (nb a ⟨(c'.val - 256) / 128, by omega⟩) hs (by simp only [nb]; omega) (by simp only [nb]; omega)
    simp only [nb] at b1 b2
    have hk := hk hs
    rw [KEY, if_neg h, KROW, if_neg h, hb]
    refine turn_apply _ _ _ e _ _ (fun e => ?_) (fun j => ?_)
    · rw [up_apply, src_apply, hf.row _ _ (by omega) (by show 9248 + (128 * kv.val + e.val) < 9504; omega)]
      congr 2
      · rw [KPOS, hk, nb, b1]
        dsimp only
        omega
      · show 9248 + (128 * kv.val + e.val) = _
        omega
    · rw [tables, KPOS, hk, nb, b2]
      congr 1
      dsimp only
      omega
  · intro c' h
    rw [ctx_in, KROW, if_pos h, hb]
    congr 1
    · dsimp only; omega
    · show 9248 + (128 * (2 + kv.val) + d.val) = _
      omega
  · intro c' h hv
    have hs : t.val % 17 < 16 := by
      rcases hv with hv | hv
      · exact absurd hv h
      · exact hv.1
    have hv' : 128 ≤ 128 * (2 * (t.val % 17) + a.val) + (c'.val - 256) ∧ 128 * (2 * (t.val % 17) + a.val) + (c'.val - 256) < 4224 := by
      rcases hv with hv | hv
      · exact absurd hv h
      · exact hv.2.2.2
    obtain ⟨b1, b2⟩ := block_rows t.val (nb a ⟨(c'.val - 256) / 128, by omega⟩) hs (by simp only [nb]; omega) (by simp only [nb]; omega)
    simp only [nb] at b1 b2
    have hk := hk hs
    rw [src_apply, KROW, if_neg h, hb, KPOS, hk, nb, b1]
    congr 1
    · dsimp only
      omega
    · show 9248 + (128 * (2 + kv.val) + d.val) = _
      omega
  · rw [tile_g, hR]
    rfl

/-- The result array of the kernel. -/
theorem kernel_value (hf : Finite (M0 m c) (M1 m c) (M2 m c)) :
    (dats m 0 c).arrAt 10 cfg0.N = fun i => RES (M0 m c) (M1 m c) (M2 m c) (i 0).val (i 1).val := by
  refine out_eq m c _ fun t r j i h0 h1 => ?_
  unfold outsAt0
  rw [out_tiles]
  have hr := r.isLt
  have hj := j.isLt
  refine View.canon_ofFn_unit_eq_of_forall _ _ _ _ _ _ ?_ fun k x hx => ?_
  · refine ⟨⟨15 - (8 * (j.val / 512) + 4 * (r.val / 128) + j.val / 128 % 4), by omega⟩, fun a => ?_⟩
    fin_cases a
    · show 128 * ((15 - (15 - (8 * (j.val / 512) + 4 * (r.val / 128) + j.val / 128 % 4))) / 4 % 2) ≤ r.val ∧ r.val <
        128 * ((15 - (15 - (8 * (j.val / 512) + 4 * (r.val / 128) + j.val / 128 % 4))) / 4 % 2) + 128
      omega
    · show 128 * (4 * ((15 - (15 - (8 * (j.val / 512) + 4 * (r.val / 128) + j.val / 128 % 4))) / 8) +
          (15 - (15 - (8 * (j.val / 512) + 4 * (r.val / 128) + j.val / 128 % 4))) % 4) ≤ j.val ∧ j.val <
        128 * (4 * ((15 - (15 - (8 * (j.val / 512) + 4 * (r.val / 128) + j.val / 128 % 4))) / 8) +
          (15 - (15 - (8 * (j.val / 512) + 4 * (r.val / 128) + j.val / 128 % 4))) % 4) + 128
      omega
  · have h2 : r.val = 128 * (subOf k).val + (x 0).val := hx 0
    have h3 : j.val = 128 * (4 * (kvOf k).val + (grpOf k).val) + (x 1).val := hx 1
    have hxe : x = ix2 (x 0) (x 1) := by funext a; fin_cases a <;> rfl
    rw [h0, h1, h2, h3]
    exact (congrArg _ hxe).trans (step_value m c hf t (subOf k) (kvOf k) (grpOf k) (x 0) (x 1))

end Cert.Att
end
-- ==== Proof.RefTurn.lean ====
module

public import proofs.«01_k».proof.Proof.Table
public import proofs.«01_k».proof.Proof.Gen.ReferenceIdeal.Read
public import Idealize.ShloMosaic.Lib.Pointwise

/-! # The reference's turned queries and keys

The reference turns the two halves of a head's lanes by the angles of the row's two coordinates on the grid, a quarter of
the lanes at a time. -/

@[expose] public section

noncomputable section
namespace Cert.AttRef
open Cert.ReferenceIdeal Cert.ReferenceIdeal.Gen Cert.ReferenceIdeal.Read Idealize.ShloMosaic Cert.Att

variable {A0 : S8x4096x13856.Idx → EReal} {A1 : S8x256x13856.Idx → EReal} {A2 : S8.Idx → EReal}

theorem row_lat (b : Fin 8) (t : Fin 4096) (i : Fin 13856) (R j : ℕ) (hR : R = 4096 * b.val + t.val) (hj : i.val = j) :
    A0 (ix3 b t i) = ROW A0 A1 R j := by
  subst hR hj
  rw [ROW, dif_pos (by omega)]
  congr 1
  refine congrArg₂ (fun x y => ix3 x y i) (Fin.ext ?_) (Fin.ext ?_)
  · show b.val = (4096 * b.val + t.val) / 4096; omega
  · show t.val = (4096 * b.val + t.val) % 4096; omega

theorem row_ctx (b : Fin 8) (t : Fin 256) (i : Fin 13856) (R j : ℕ) (hR : R = 32768 + 256 * b.val + t.val) (hj : i.val = j) :
    A1 (ix3 b t i) = ROW A0 A1 R j := by
  subst hR hj
  rw [ROW, dif_neg (by omega), dif_pos (by omega)]
  congr 1
  refine congrArg₂ (fun x y => ix3 x y i) (Fin.ext ?_) (Fin.ext ?_)
  · show b.val = (32768 + 256 * b.val + t.val - 32768) / 256; omega
  · show t.val = (32768 + 256 * b.val + t.val - 32768) % 256; omega

theorem cell_lat (hf : Finite A0 A1 A2) (b : Fin 8) (t : Fin 4096) (i : Fin 13856) (R j : ℕ) (hR : R = 4096 * b.val + t.val)
    (hj : i.val = j) (h1 : 8224 ≤ j) (h2 : j < 9504) : A0 (ix3 b t i) = ((CELL A0 A1 R j : ℝ) : EReal) :=
  (row_lat b t i R j hR hj).trans (hf.row R j h1 h2)

theorem cell_ctx (hf : Finite A0 A1 A2) (b : Fin 8) (t : Fin 256) (i : Fin 13856) (R j : ℕ) (hR : R = 32768 + 256 * b.val + t.val)
    (hj : i.val = j) (h1 : 8224 ≤ j) (h2 : j < 9504) : A1 (ix3 b t i) = ((CELL A0 A1 R j : ℝ) : EReal) :=
  (row_ctx b t i R j hR hj).trans (hf.row R j h1 h2)

/-- The reference's angle. -/
abbrev angle (w e : ℕ) : EReal := FloatOps.sitofp (F := Ideal) .f32 (BitVec.ofNat 32 w) *
  Ideal.pow (Ideal.ofBits .f32 1176256512#32) (Ideal.div (-FloatOps.sitofp (F := Ideal) .f32 (BitVec.ofNat 32 e)) (Ideal.ofBits .f32 1107296256#32))

theorem angle_eq (t d w e : ℕ) (ht : t < 4096) (hw : w = if d < 64 then t / 64 else t % 64) (he : e = d % 32) :
    angle w e = ((ANG t d : ℝ) : EReal) := by
  have hw' : w < 4096 := by subst hw; split <;> omega
  unfold angle
  rw [freq_form e (by omega), sitofp_small w hw', ← EReal.coe_mul, ANG, hw, he]

/-- The first half of a turned pair of quarters. -/
theorem turn_left (x : ℕ → ℝ) (t d w e : ℕ) (X Y : EReal) (ht : t < 4096) (hd : d / 32 % 2 = 0)
    (hw : w = if d < 64 then t / 64 else t % 64) (he : e = d % 32) (hX : X = ((x d : ℝ) : EReal)) (hY : Y = ((x (d + 32) : ℝ) : EReal)) :
    X * Ideal.cos (angle w e) - Y * Ideal.sin (angle w e) = ((TURN x t d : ℝ) : EReal) := by
  rw [angle_eq t d w e ht hw he, hX, hY]
  show ((x d : ℝ) : EReal) * ((Real.cos (ANG t d) : ℝ) : EReal) - ((x (d + 32) : ℝ) : EReal) * ((Real.sin (ANG t d) : ℝ) : EReal) = _
  rw [← EReal.coe_mul, ← EReal.coe_mul, ← EReal.coe_sub, TURN, COS, SIN, PART, if_pos ht, if_pos ht, if_pos hd, if_pos hd]
  congr 1
  ring

/-- The second half. -/
theorem turn_right (x : ℕ → ℝ) (t d w e : ℕ) (X Y : EReal) (ht : t < 4096) (hd : ¬ d / 32 % 2 = 0)
    (hw : w = if d < 64 then t / 64 else t % 64) (he : e = d % 32) (hX : X = ((x d : ℝ) : EReal)) (hY : Y = ((x (d - 32) : ℝ) : EReal)) :
    X * Ideal.cos (angle w e) + Y * Ideal.sin (angle w e) = ((TURN x t d : ℝ) : EReal) := by
  rw [angle_eq t d w e ht hw he, hX, hY]
  show ((x d : ℝ) : EReal) * ((Real.cos (ANG t d) : ℝ) : EReal) + ((x (d - 32) : ℝ) : EReal) * ((Real.sin (ANG t d) : ℝ) : EReal) = _
  rw [← EReal.coe_mul, ← EReal.coe_mul, ← EReal.coe_add, TURN, COS, SIN, PART, if_pos ht, if_pos ht, if_neg hd, if_neg hd]

set_option maxHeartbeats 4000000 in
/-- The turned queries. -/
theorem query_turned (hf : Finite A0 A1 A2) (b : Fin 8) (t : Fin 4096) (h : Fin 8) (d : Fin 128) :
    val_main_v84 (F := Ideal) A0 (ix4 b t h d)
      = ((TURN (fun e => CELL A0 A1 (4096 * b.val + t.val) (8224 + 128 * h.val + e)) t.val d.val : ℝ) : EReal) := by
  pointwise [val_main_v84, val_main_v83, val_main_v82, val_main_v81, val_main_v80, val_main_v79, val_main_v78, val_main_v77,
    val_main_v76, val_main_v75, val_main_v74, val_main_v73, val_main_v72, val_main_v71, val_main_v70, val_main_v69,
    val_main_v68, val_main_v67, val_main_v66, val_main_v65, val_main_v64, val_main_v63, val_main_v62, val_main_v61,
    val_main_v60, val_main_v59, val_main_v58, val_main_v57, val_main_v56, val_main_v55, val_main_v54, val_main_v53,
    val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v0, val_main_cst, val_main_cst_0,
    val_main_cst_1, val_main_cst_2]
  have hd := d.isLt
  have ht := t.isLt
  by_cases h1 : d.val < 64
  · rw [dif_pos h1]
    by_cases h2 : d.val < 32
    · rw [dif_pos h2]
      exact turn_left _ _ _ _ _ _ _ ht (by omega) (if_pos h1).symm (by omega)
        (cell_lat hf b t _ _ _ rfl (by show 8224 + _ = _; omega) (by omega) (by omega))
        (cell_lat hf b t _ _ _ rfl (by show 8224 + _ = _; omega) (by omega) (by omega))
    · rw [dif_neg h2]
      exact turn_right _ _ _ _ _ _ _ ht (by omega) (if_pos h1).symm (by omega)
        (cell_lat hf b t _ _ _ rfl (by show 8224 + _ = _; omega) (by omega) (by omega))
        (cell_lat hf b t _ _ _ rfl (by show 8224 + _ = _; omega) (by omega) (by omega))
  · rw [dif_neg h1]
    by_cases h2 : d.val - 64 < 32
    · rw [dif_pos h2]
      exact turn_left _ _ _ _ _ _ _ ht (by omega) (if_neg h1).symm (by omega)
        (cell_lat hf b t _ _ _ rfl (by show 8224 + _ = _; omega) (by omega) (by omega))
        (cell_lat hf b t _ _ _ rfl (by show 8224 + _ = _; omega) (by omega) (by omega))
    · rw [dif_neg h2]
      exact turn_right _ _ _ _ _ _ _ ht (by omega) (if_neg h1).symm (by omega)
        (cell_lat hf b t _ _ _ rfl (by show 8224 + _ = _; omega) (by omega) (by omega))
        (cell_lat hf b t _ _ _ rfl (by show 8224 + _ = _; omega) (by omega) (by omega))

set_option maxHeartbeats 4000000 in
/-- The turned keys. -/
theorem key_turned (hf : Finite A0 A1 A2) (b : Fin 8) (t : Fin 4096) (h : Fin 2) (d : Fin 128) :
    val_main_v154 (F := Ideal) A0 (ix4 b t h d)
      = ((TURN (fun e => CELL A0 A1 (4096 * b.val + t.val) (9248 + 128 * h.val + e)) t.val d.val : ℝ) : EReal) := by
  pointwise [val_main_v154, val_main_v153, val_main_v152, val_main_v151, val_main_v150, val_main_v149, val_main_v148, val_main_v147,
    val_main_v146, val_main_v145, val_main_v144, val_main_v143, val_main_v142, val_main_v141, val_main_v140, val_main_v139,
    val_main_v138, val_main_v137, val_main_v136, val_main_v135, val_main_v134, val_main_v133, val_main_v132, val_main_v131,
    val_main_v130, val_main_v129, val_main_v128, val_main_v127, val_main_v126, val_main_v125, val_main_v124, val_main_v123,
    val_main_v122, val_main_v121, val_main_v120, val_main_v119, val_main_v118, val_main_v117, val_main_v116, val_main_v115,
    val_main_v114, val_main_v113, val_main_v112, val_main_v111, val_main_v110, val_main_v109, val_main_v108, val_main_v107,
    val_main_v106, val_main_v105, val_main_v104, val_main_v103, val_main_v102, val_main_v101, val_main_v100, val_main_v99,
    val_main_v98, val_main_v97, val_main_v96, val_main_v95, val_main_v94, val_main_v93, val_main_v92, val_main_v91,
    val_main_v90, val_main_v89, val_main_v88, val_main_v87, val_main_v86, val_main_v85, val_main_v14, val_main_v13,
    val_main_v12, val_main_v11, val_main_v10, val_main_v9, val_main_v8, val_main_v1, val_main_cst_3, val_main_cst_4,
    val_main_cst_5, val_main_cst_6]
  have hd := d.isLt
  have ht := t.isLt
  by_cases h1 : d.val < 64
  · rw [dif_pos h1]
    by_cases h2 : d.val < 32
    · rw [dif_pos h2]
      exact turn_left _ _ _ _ _ _ _ ht (by omega) (if_pos h1).symm (by omega)
        (cell_lat hf b t _ _ _ rfl (by show 9248 + _ = _; omega) (by omega) (by omega))
        (cell_lat hf b t _ _ _ rfl (by show 9248 + _ = _; omega) (by omega) (by omega))
    · rw [dif_neg h2]
      exact turn_right _ _ _ _ _ _ _ ht (by omega) (if_pos h1).symm (by omega)
        (cell_lat hf b t _ _ _ rfl (by show 9248 + _ = _; omega) (by omega) (by omega))
        (cell_lat hf b t _ _ _ rfl (by show 9248 + _ = _; omega) (by omega) (by omega))
  · rw [dif_neg h1]
    by_cases h2 : d.val - 64 < 32
    · rw [dif_pos h2]
      exact turn_left _ _ _ _ _ _ _ ht (by omega) (if_neg h1).symm (by omega)
        (cell_lat hf b t _ _ _ rfl (by show 9248 + _ = _; omega) (by omega) (by omega))
        (cell_lat hf b t _ _ _ rfl (by show 9248 + _ = _; omega) (by omega) (by omega))
    · rw [dif_neg h2]
      exact turn_right _ _ _ _ _ _ _ ht (by omega) (if_neg h1).symm (by omega)
        (cell_lat hf b t _ _ _ rfl (by show 9248 + _ = _; omega) (by omega) (by omega))
        (cell_lat hf b t _ _ _ rfl (by show 9248 + _ = _; omega) (by omega) (by omega))

end Cert.AttRef
end
-- ==== Proof.RefSoft.lean ====
module

public import proofs.«01_k».proof.Proof.Formula

/-! # The softmax as the reference writes it

The scores of a row, the sink's first, less their largest, exponentiated and divided by their sum. The largest score is a
real number, so it cancels, and what remains is the share of a visible column in the total weight. -/

@[expose] public section

noncomputable section
namespace Cert.AttRef
open Idealize.ShloMosaic Cert.Att

/-- Column `c`'s share of the total weight. -/
def SHARE {n : ℕ} (vis : Fin n → Prop) [DecidablePred vis] (z : Fin n → ℝ) (σ : ℝ) (c : Fin n) : ℝ :=
  1 / (∑ c, wt vis z c + Real.exp σ) * wt vis z c

theorem exp_shift (z M : ℝ) : Ideal.exp ((z : EReal) - (M : EReal)) = ((Real.exp z * Real.exp (-M) : ℝ) : EReal) := by
  rw [← EReal.coe_sub, Ideal.exp_coe, ← Real.exp_add, sub_eq_add_neg]

theorem exp_score {n : ℕ} (vis : Fin n → Prop) [DecidablePred vis] (z : Fin n → ℝ) (M : ℝ) (c : Fin n) :
    Ideal.exp ((if vis c then ((z c : ℝ) : EReal) else ⊥) - (M : EReal)) = ((wt vis z c * Real.exp (-M) : ℝ) : EReal) := by
  unfold wt
  split
  · exact exp_shift _ _
  · rw [EReal.bot_sub, zero_mul]; rfl

variable {n : ℕ} (vis : Fin n → Prop) [DecidablePred vis] (z : Fin n → ℝ) (σ : ℝ) (S : Fin (n + 1) → EReal)
  (h0 : S 0 = (σ : EReal)) (hS : ∀ c : Fin n, S c.succ = if vis c then ((z c : ℝ) : EReal) else ⊥)

include h0 hS

theorem max_real : ∃ M : ℝ, max ⊥ (Finset.univ.fold max (⊥ : EReal) S) = (M : EReal) := by
  have h1 : max ⊥ (Finset.univ.fold max (⊥ : EReal) S) < ⊤ := max_lt bot_lt_top (fold_max_lt_top _ fun c => by
    refine Fin.cases ?_ (fun c => ?_) c
    · rw [h0]; exact EReal.coe_ne_top _
    · rw [hS]; split
      · exact EReal.coe_ne_top _
      · exact bot_ne_top)
  have h2 : (σ : EReal) ≤ max ⊥ (Finset.univ.fold max (⊥ : EReal) S) :=
    le_max_of_le_right (Finset.le_fold_max (s := Finset.univ) (f := S) (b := ⊥) _ |>.mpr (Or.inr ⟨0, Finset.mem_univ _, h0.ge⟩))
  exact ⟨_, (EReal.coe_toReal h1.ne (lt_of_lt_of_le (EReal.bot_lt_coe σ) h2).ne').symm⟩

/-- The reference's softmax at a column. -/
theorem soft_share (c : Fin n) :
    Ideal.div (Ideal.exp (S c.succ - max ⊥ (Finset.univ.fold max (⊥ : EReal) S)))
        (0 + ∑ k, Ideal.exp (S k - max ⊥ (Finset.univ.fold max (⊥ : EReal) S)))
      = ((SHARE vis z σ c : ℝ) : EReal) := by
  obtain ⟨M, hM⟩ := max_real vis z σ S h0 hS
  have hα : 0 < Real.exp (-M) := Real.exp_pos _
  have hT := total_pos vis z σ
  rw [hM, Fin.sum_univ_succ, h0, exp_shift]
  simp only [hS, exp_score]
  rw [← coe_sum, ← EReal.coe_add, zero_add, ← Finset.sum_mul, ← add_mul,
    Ideal.div_coe (mul_pos (by rw [add_comm]; exact hT) hα).ne', ← EReal.coe_mul]
  congr 1
  unfold SHARE
  rw [add_comm (Real.exp σ)]
  field_simp

omit h0 hS

/-- Shares of the total weight as one weighted sum. -/
theorem share_sum (v : Fin n → EReal) :
    ∑ c, v c * ((SHARE vis z σ c : ℝ) : EReal)
      = ((1 / (∑ c, wt vis z c + Real.exp σ) : ℝ) : EReal) * ∑ c, (wt vis z c : EReal) * v c := by
  rw [coe_mul_sum _ _ (one_div_pos.mpr (total_pos vis z σ)).le]
  refine Finset.sum_congr rfl fun c _ => ?_
  rw [SHARE, EReal.coe_mul, mul_comm (v c), mul_assoc]

end Cert.AttRef
end
-- ==== Proof.RefBand.lean ====
module

public import proofs.«01_k».proof.Proof.RefTurn
public import proofs.«01_k».proof.Proof.RefSoft

/-! # The reference's band

For every block of 128 rows the reference lays three blocks of keys and of values side by side, padded at both ends of the
sequence, and masks the columns outside the window and outside the sequence. -/

@[expose] public section

noncomputable section
namespace Cert.AttRef
open Cert.ReferenceIdeal Cert.ReferenceIdeal.Gen Cert.ReferenceIdeal.Read Idealize.ShloMosaic Cert.Att

variable {A0 : S8x4096x13856.Idx → EReal} {A1 : S8x256x13856.Idx → EReal} {A2 : S8.Idx → EReal}

theorem ofBits_scale : Ideal.ofBits .f32 0x3DB504F3#32 = ((QSC : ℝ) : EReal) := by
  simp [Ideal.ofBits, Ideal.ieee, QSC, -EReal.coe_mul]; norm_num

/-- The scaled queries of the latent rows. -/
theorem query_lat (hf : Finite A0 A1 A2) (b : Fin 8) (n : Fin 32) (r : Fin 128) (h : Fin 2) (g : Fin 4) (e : Fin 128) :
    val_main_v161 (F := Ideal) A0 (ix6 b n r h g e)
      = ((QRY A0 A1 (4096 * b.val + (128 * n.val + r.val)) (4 * h.val + g.val) e.val : ℝ) : EReal) := by
  pointwise [val_main_v161, val_main_v160, val_main_v159, val_main_cst_7]
  rw [query_turned hf, ofBits_scale, ← EReal.coe_mul, QRY]
  have e1 : POS (4096 * b.val + (128 * n.val + r.val)) = n.val * 128 + r.val := by
    rw [POS, if_pos (by omega)]; omega
  rw [e1, show 128 * n.val + r.val = n.val * 128 + r.val by omega, show 4 * h.val + g.val = h.val * 4 + g.val by omega]

/-- The scaled queries of the context's rows. -/
theorem query_ctx (hf : Finite A0 A1 A2) (b : Fin 8) (r : Fin 256) (h : Fin 2) (g : Fin 4) (e : Fin 128) :
    val_main_v237 (F := Ideal) A1 (ix5 b r h g e)
      = ((QRY A0 A1 (32768 + 256 * b.val + r.val) (4 * h.val + g.val) e.val : ℝ) : EReal) := by
  pointwise [val_main_v237, val_main_v236, val_main_v235, val_main_cst_19, val_main_v158, val_main_v4]
  have e1 : ∀ d, POS (32768 + 256 * b.val + r.val) = 4096 + r.val ∧ COS (4096 + r.val) d = 1 ∧ SIN (4096 + r.val) d = 0 := fun d =>
    ⟨by rw [POS, if_neg (by omega)]; omega, if_neg (by omega), if_neg (by omega)⟩
  rw [cell_ctx hf b r _ (32768 + 256 * b.val + r.val) (8224 + 128 * (4 * h.val + g.val) + e.val) rfl
    (by show 8224 + _ = _; omega) (by omega) (by omega), ofBits_scale, ← EReal.coe_mul, QRY, (e1 0).1, TURN, (e1 _).2.1, (e1 _).2.2,
    mul_one, mul_zero, add_zero]

/-- The keys of the context. -/
theorem key_ctx (hf : Finite A0 A1 A2) (b : Fin 8) (c : Fin 256) (h : Fin 2) (e : Fin 128) (R : ℕ) (hR : BAT R = b.val) :
    val_main_v156 (F := Ideal) A1 (ix4 b c h e) = ((KEY A0 A1 R h.val c.val e.val : ℝ) : EReal) := by
  pointwise [val_main_v156, val_main_v5]
  rw [KEY, if_pos c.isLt, KROW, if_pos c.isLt, hR]
  exact cell_ctx hf b c _ _ _ rfl (by show 9248 + _ = _; omega) (by omega) (by omega)

/-- The values of the context. -/
theorem value_ctx (b : Fin 8) (c : Fin 256) (h : Fin 2) (e : Fin 128) (R : ℕ) (hR : BAT R = b.val) :
    val_main_v157 (F := Ideal) A1 (ix4 b c h e) = ROW A0 A1 (KROW R c.val) (9504 + 128 * h.val + e.val) := by
  pointwise [val_main_v157, val_main_v6]
  rw [KROW, if_pos c.isLt, hR]
  exact row_ctx b c _ _ _ rfl (by show 9504 + _ = _; omega)

/-- The keys around a block of rows, where they are rows of the sequence. -/
theorem key_loc (hf : Finite A0 A1 A2) (b : Fin 8) (n : Fin 32) (r : Fin 128) (c : Fin 384) (h : Fin 2) (e : Fin 128)
    (h1 : 128 ≤ 128 * n.val + c.val) (h2 : 128 * n.val + c.val < 4224) :
    val_main_v167 (F := Ideal) A0 (ix5 b n c h e)
      = ((KEY A0 A1 (4096 * b.val + (128 * n.val + r.val)) h.val (256 + c.val) e.val : ℝ) : EReal) := by
  pointwise [val_main_v167, val_main_v166, val_main_v165, val_main_v164, val_main_v163, val_main_v162]
  have key : ∀ (t : Fin 4096), t.val = 128 * n.val + c.val - 128 → val_main_v154 (F := Ideal) A0 (ix4 b t h e)
      = ((KEY A0 A1 (4096 * b.val + (128 * n.val + r.val)) h.val (256 + c.val) e.val : ℝ) : EReal) := by
    intro t ht
    have e1 : KPOS (4096 * b.val + (128 * n.val + r.val)) (256 + c.val) = t.val := by rw [KPOS]; omega
    rw [key_turned hf, KEY, if_neg (by omega), KROW, if_neg (by omega), e1, BAT, if_pos (by omega),
      show (4096 * b.val + (128 * n.val + r.val)) / 4096 = b.val by omega]
  split_ifs <;> first | omega | exact key _ (by dsimp only; omega)

/-- The values around a block of rows, where they are rows of the sequence. -/
theorem value_loc (b : Fin 8) (n : Fin 32) (r : Fin 128) (c : Fin 384) (h : Fin 2) (e : Fin 128)
    (h1 : 128 ≤ 128 * n.val + c.val) (h2 : 128 * n.val + c.val < 4224) :
    val_main_v173 (F := Ideal) A0 (ix5 b n c h e)
      = ROW A0 A1 (KROW (4096 * b.val + (128 * n.val + r.val)) (256 + c.val)) (9504 + 128 * h.val + e.val) := by
  pointwise [val_main_v173, val_main_v172, val_main_v171, val_main_v170, val_main_v169, val_main_v168, val_main_v155, val_main_v2]
  have key : ∀ (t : Fin 4096) (i : Fin 13856), t.val = 128 * n.val + c.val - 128 → i.val = 9504 + 128 * h.val + e.val →
      A0 (ix3 b t i) = ROW A0 A1 (KROW (4096 * b.val + (128 * n.val + r.val)) (256 + c.val)) (9504 + 128 * h.val + e.val) := by
    intro t i ht hi
    refine row_lat b t i _ _ ?_ hi
    rw [KROW, if_neg (by omega), KPOS, BAT, if_pos (by omega)]
    omega
  split_ifs <;> first | omega | exact key _ _ (by dsimp only; omega) (by dsimp only; omega)

/-! ### The mask -/

theorem near_word : ∀ d : Fin 512, IntOp.cmpi .sle (IntOp.absi (IntOp.subi (BitVec.ofNat 32 d.val) 256#32)) 128#32
    = BitVec.ofBool (decide (128 ≤ d.val ∧ d.val ≤ 384)) := by decide +kernel

theorem in_word : ∀ d : Fin 4480, IntOp.andi (IntOp.cmpi .sge (IntOp.subi (BitVec.ofNat 32 d.val) 128#32) 0#32)
      (IntOp.cmpi .slt (IntOp.subi (BitVec.ofNat 32 d.val) 128#32) 4096#32)
    = BitVec.ofBool (decide (128 ≤ d.val ∧ d.val < 4224)) := by decide +kernel

theorem and_words (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem near_shift (c : Fin 384) (r : Fin 128) :
    IntOp.subi (IntOp.subi (BitVec.ofNat 32 c.val) 128#32) (BitVec.ofNat 32 r.val)
      = IntOp.subi (BitVec.ofNat 32 (c.val + 128 - r.val)) 256#32 := by
  have hr := r.isLt
  show BitVec.ofNat 32 c.val - 128#32 - BitVec.ofNat 32 r.val = BitVec.ofNat 32 (c.val + 128 - r.val) - 256#32
  apply BitVec.eq_of_toNat_eq
  simp only [BitVec.toNat_sub, BitVec.toNat_ofNat]
  omega

theorem in_shift (n : Fin 32) (c : Fin 384) :
    IntOp.addi (IntOp.subi (IntOp.muli (BitVec.ofNat 32 n.val) 128#32) 128#32) (BitVec.ofNat 32 c.val)
      = IntOp.subi (BitVec.ofNat 32 (128 * n.val + c.val)) 128#32 := by
  show BitVec.ofNat 32 n.val * 128#32 - 128#32 + BitVec.ofNat 32 c.val = BitVec.ofNat 32 (128 * n.val + c.val) - 128#32
  apply BitVec.eq_of_toNat_eq
  simp only [BitVec.toNat_sub, BitVec.toNat_add, BitVec.toNat_mul, BitVec.toNat_ofNat]
  omega

/-- The reference's mask: the window of 128 rows to either side, inside the sequence. -/
theorem mask_ref (n : Fin 32) (r : Fin 128) (c : Fin 384) :
    val_main_v205 (F := Ideal) (ix3 n r c)
      = BitVec.ofBool (decide ((128 ≤ c.val + 128 - r.val ∧ c.val + 128 - r.val ≤ 384) ∧ (128 ≤ 128 * n.val + c.val ∧ 128 * n.val + c.val < 4224))) := by
  pointwise [val_main_v205, val_main_v204, val_main_v203, val_main_v202, val_main_v201, val_main_v200, val_main_v199, val_main_v198,
    val_main_v197, val_main_v196, val_main_v195, val_main_v194, val_main_v193, val_main_v192, val_main_v191, val_main_v190,
    val_main_v189, val_main_v188, val_main_v187, val_main_v186, val_main_v185, val_main_v184, val_main_v183, val_main_v182,
    val_main_v181, val_main_v180, val_main_v179, val_main_v178, val_main_v177, val_main_v176, val_main_v175, val_main_v174,
    val_main_c_9, val_main_c_10, val_main_c_11, val_main_c_12, val_main_c_13, val_main_c_14]
  rw [near_shift, in_shift, near_word ⟨c.val + 128 - r.val, by omega⟩, in_word ⟨128 * n.val + c.val, by omega⟩, and_words]

end Cert.AttRef
end
-- ==== Proof.RefReduce.lean ====
module

public import proofs.«01_k».proof.Proof.RefSoft
public import Idealize.ShloMosaic.Lib.Pointwise

/-! # A host reduction over the last of six axes -/

@[expose] public section

noncomputable section
namespace Cert.AttRef
open Idealize.ShloMosaic

variable {n0 n1 n2 n3 n4 n5 : ℕ} (h : (⟨6, ![n0, n1, n2, n3, n4, n5]⟩ : Shape).ReducesTo [5] ⟨5, ![n0, n1, n2, n3, n4]⟩)
  (a : Fin n0) (b : Fin n1) (c : Fin n2) (d : Fin n3) (e : Fin n4)

/-- The indices that the reduction sends to one row are those of the row. -/
theorem last_fiber (i : (⟨6, ![n0, n1, n2, n3, n4, n5]⟩ : Shape).Idx) : h.drop i = ix5 a b c d e ↔ ∃ k : Fin n5, ix6 a b c d e k = i := by
  constructor
  · intro w
    refine ⟨i 5, funext fun x => Fin.ext ?_⟩
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem last_max (f : (⟨6, ![n0, n1, n2, n3, n4, n5]⟩ : Shape).Idx → EReal) (v : (⟨0, ![]⟩ : Shape).Idx → EReal) (hu : 0 < (⟨0, ![]⟩ : Shape).numel) :
    Host.reduce (FloatOps.maximumf (F := Ideal) (φ := .f32)) f v h hu (ix5 a b c d e)
      = Finset.univ.fold max (v (Shape.Idx.first hu)) fun k : Fin n5 => f (ix6 a b c d e k) := by
  rw [Host.reduce_eq_fold]
  exact Finset.fold_filter_eq_fold_of_fiber max _ (fun k : Fin n5 => ix6 a b c d e k) (fun _ _ w => congrFun w 5)
    (last_fiber h a b c d e) _ f

theorem last_sum (f : (⟨6, ![n0, n1, n2, n3, n4, n5]⟩ : Shape).Idx → EReal) (v : EReal) :
    Ideal.hostReduceAdd h f v (ix5 a b c d e) = v + ∑ k : Fin n5, f (ix6 a b c d e k) :=
  congrArg (v + ·) (Finset.sum_filter_eq_sum_of_fiber _ (fun k : Fin n5 => ix6 a b c d e k) (fun _ _ w => congrFun w 5)
    (last_fiber h a b c d e) f)

end Cert.AttRef
end
-- ==== Proof.RefScore.lean ====
module

public import proofs.«01_k».proof.Proof.RefBand
public import proofs.«01_k».proof.Proof.RefReduce

/-! # The reference's scores and shares

A row's scores are the sink's, the context's 256 and the 384 of the band; their softmax gives each column its share. -/

@[expose] public section

noncomputable section
namespace Cert.AttRef
open Cert.ReferenceIdeal Cert.ReferenceIdeal.Gen Cert.ReferenceIdeal.Read Idealize.ShloMosaic Cert.Att

variable {A0 : S8x4096x13856.Idx → EReal} {A1 : S8x256x13856.Idx → EReal} {A2 : S8.Idx → EReal}

/-- The score of column `c` for row `R` and head `4 * h + g`. -/
def SCO (A0 : S8x4096x13856.Idx → EReal) (A1 : S8x256x13856.Idx → EReal) (R h g c : ℕ) : ℝ :=
  ∑ e : Fin 128, QRY A0 A1 R (4 * h + g) e.val * KEY A0 A1 R h c e.val

theorem score_sum (R h g c : ℕ) (K Q : Fin 128 → EReal) (hK : ∀ e, K e = ((KEY A0 A1 R h c e.val : ℝ) : EReal))
    (hQ : ∀ e, Q e = ((QRY A0 A1 R (4 * h + g) e.val : ℝ) : EReal)) : ∑ e, K e * Q e = ((SCO A0 A1 R h g c : ℝ) : EReal) := by
  rw [SCO, coe_sum]
  exact Finset.sum_congr rfl fun e _ => by rw [hK, hQ, ← EReal.coe_mul, mul_comm]

theorem sink_at (hf : Finite A0 A1 A2) (i : Fin 8) (h : ℕ) (hi : i.val = h) : A2 (ix1 i) = (((SNK A2 h).toReal : ℝ) : EReal) := by
  rw [← hf.sink, SNK, dif_pos (by omega)]
  exact congrArg (fun i => A2 (ix1 i)) (Fin.ext hi)

/-! ### Latent rows -/

/-- A latent row's number. -/
def LAT (b : Fin 8) (n : Fin 32) (r : Fin 128) : ℕ := 4096 * b.val + (128 * n.val + r.val)

/-- What a row sees. -/
def SEES (R : ℕ) (c : Fin 640) : Prop := Vis (SEG R) (R / 128 % 2) (R % 128) c

instance (R : ℕ) : DecidablePred (SEES R) := fun _ => inferInstanceAs (Decidable (Vis _ _ _ _))

theorem lat_bat (b : Fin 8) (n : Fin 32) (r : Fin 128) : BAT (LAT b n r) = b.val := by
  unfold LAT BAT; rw [if_pos (by omega)]; omega

theorem lat_sees (b : Fin 8) (n : Fin 32) (r : Fin 128) (c : Fin 640) : SEES (LAT b n r) c ↔
    c.val < 256 ∨ (r.val ≤ c.val - 256 ∧ c.val - 256 ≤ r.val + 256 ∧ 128 ≤ 128 * n.val + (c.val - 256) ∧ 128 * n.val + (c.val - 256) < 4224) := by
  have hn := n.isLt
  unfold SEES Vis LAT SEG
  rw [if_pos (by omega)]
  have e1 : (4096 * b.val + (128 * n.val + r.val)) % 4096 / 256 = n.val / 2 := by omega
  have e2 : (4096 * b.val + (128 * n.val + r.val)) / 128 % 2 = n.val % 2 := by omega
  have e3 : (4096 * b.val + (128 * n.val + r.val)) % 128 = r.val := by omega
  rw [e1, e2, e3]
  omega

section lat
variable (hf : Finite A0 A1 A2) (b : Fin 8) (h : Fin 2) (g : Fin 4) (n : Fin 32) (r : Fin 128)

include hf

theorem lat_sink : val_main_v213 (F := Ideal) A0 A1 A2 (ix6 b h g n r 0) = (((SNK A2 (4 * h.val + g.val)).toReal : ℝ) : EReal) := by
  pointwise [val_main_v213, val_main_v212, val_main_v211]
  exact sink_at hf _ _ (by show h.val * 4 + g.val = _; omega)

theorem lat_score_ctx (c : Fin 256) : val_main_v210 (F := Ideal) A0 A1 (ix6 b h g n r c)
    = ((SCO A0 A1 (LAT b n r) h.val g.val c.val : ℝ) : EReal) := by
  pointwise [val_main_v210, val_main_v209]
  exact score_sum _ _ _ _ _ _ (fun e => key_ctx hf b c h e _ (lat_bat b n r)) fun e => query_lat hf b n r h g e

theorem lat_score_loc (c : Fin 384) : val_main_v208 (F := Ideal) A0 (ix6 b h g n r c)
    = if SEES (LAT b n r) ⟨256 + c.val, by omega⟩ then ((SCO A0 A1 (LAT b n r) h.val g.val (256 + c.val) : ℝ) : EReal) else ⊥ := by
  have e : val_main_v208 (F := Ideal) A0 (ix6 b h g n r c) = Scalar.select (val_main_v205 (F := Ideal) (ix3 n r c))
      (∑ e : Fin 128, val_main_v167 (F := Ideal) A0 (ix5 b n c h e) * val_main_v161 (F := Ideal) A0 (ix6 b n r h g e)) (Ideal.ofBits .f32 0xFF800000#32) := by
    pointwise [val_main_v208, val_main_v207, val_main_v206, val_main_call2_v2, val_main_call2_v1, val_main_call2_v0, val_main_cst_15]
    rfl
  rw [e, mask_ref, select_ofBool, ofBits_negInf]
  have hs := lat_sees b n r ⟨256 + c.val, by omega⟩
  dsimp only at hs
  refine ite_congr (propext ?_) (fun hv => ?_) fun _ => rfl
  · rw [hs]; omega
  · rw [hs] at hv
    exact score_sum _ _ _ _ _ _ (fun e => key_loc hf b n r c h e (by omega) (by omega)) fun e => query_lat hf b n r h g e

theorem lat_score (c : Fin 640) :
    val_main_v213 (F := Ideal) A0 A1 A2 (ix6 b h g n r c.succ)
      = if SEES (LAT b n r) c then ((SCO A0 A1 (LAT b n r) h.val g.val c.val : ℝ) : EReal) else ⊥ := by
  pointwise [val_main_v213]
  rw [dif_neg (by show ¬ c.val + 1 < 1; omega)]
  by_cases hc : c.val < 256
  · rw [dif_pos (by show c.val + 1 - 1 < 256; omega), if_pos ((lat_sees b n r c).mpr (Or.inl hc))]
    exact lat_score_ctx hf b h g n r ⟨c.val, hc⟩
  · rw [dif_neg (by show ¬ c.val + 1 - 1 < 256; omega)]
    have := lat_score_loc hf b h g n r ⟨c.val - 256, by omega⟩
    simp only [show 256 + (c.val - 256) = c.val by omega] at this
    exact this

omit hf

theorem lat_max : val_main_v216 (F := Ideal) A0 A1 A2 (ix5 b h g n r)
    = max ⊥ (Finset.univ.fold max (⊥ : EReal) fun k : Fin 641 => val_main_v213 (F := Ideal) A0 A1 A2 (ix6 b h g n r k)) := by
  have e1 : ∀ i, val_main_v215 (F := Ideal) i = ⊥ := fun i => by
    rw [val_main_v215_apply]; exact ofBits_negInf
  rw [val_main_v216_apply, e1]
  refine congrArg (max ⊥) ?_
  unfold val_main_v214
  rw [last_max]
  exact congrArg (fun z => Finset.univ.fold max z _) ofBits_negInf

theorem lat_exp (k : Fin 641) : val_main_v220 (F := Ideal) A0 A1 A2 (ix6 b h g n r k)
    = Ideal.exp (val_main_v213 (F := Ideal) A0 A1 A2 (ix6 b h g n r k) - val_main_v216 (F := Ideal) A0 A1 A2 (ix5 b h g n r)) := by
  rw [val_main_v220_apply, val_main_v219_apply, val_main_v218_apply, val_main_v217_apply]
  refine congrArg (fun i => Ideal.exp (_ - val_main_v216 (F := Ideal) A0 A1 A2 i)) (funext fun a => ?_)
  fin_cases a <;> rfl

theorem lat_total : val_main_v221 (F := Ideal) A0 A1 A2 (ix5 b h g n r)
    = 0 + ∑ k : Fin 641, val_main_v220 (F := Ideal) A0 A1 A2 (ix6 b h g n r k) := by
  unfold val_main_v221
  refine (last_sum _ b h g n r _ _).trans ?_
  exact congrArg (· + _) ofBits_zero

include hf

/-- Column `c`'s share. -/
theorem lat_share (c : Fin 640) (k : Fin 641) (hk : k = c.succ) : val_main_v224 (F := Ideal) A0 A1 A2 (ix6 b h g n r k)
    = ((SHARE (SEES (LAT b n r)) (fun c => SCO A0 A1 (LAT b n r) h.val g.val c.val) (SNK A2 (4 * h.val + g.val)).toReal c : ℝ) : EReal) := by
  subst hk
  have e : val_main_v224 (F := Ideal) A0 A1 A2 (ix6 b h g n r c.succ)
      = Ideal.div (val_main_v220 (F := Ideal) A0 A1 A2 (ix6 b h g n r c.succ)) (val_main_v221 (F := Ideal) A0 A1 A2 (ix5 b h g n r)) := by
    rw [val_main_v224_apply, val_main_v223_apply, val_main_v222_apply]
    refine congrArg (fun i => Ideal.div _ (val_main_v221 (F := Ideal) A0 A1 A2 i)) (funext fun a => ?_)
    fin_cases a <;> rfl
  rw [e, lat_total]
  simp only [lat_exp, lat_max]
  exact soft_share _ _ _ (fun k : Fin 641 => val_main_v213 (F := Ideal) A0 A1 A2 (ix6 b h g n r k)) (lat_sink hf b h g n r)
    (lat_score hf b h g n r) c

/-- The weighted values. -/
theorem lat_sum (e : Fin 128) : val_main_v231 (F := Ideal) A0 A1 A2 (ix6 b n r h g e)
    = ((1 / (∑ c, wt (SEES (LAT b n r)) (fun c => SCO A0 A1 (LAT b n r) h.val g.val c.val) c + Real.exp (SNK A2 (4 * h.val + g.val)).toReal) : ℝ) : EReal)
      * ∑ c, (wt (SEES (LAT b n r)) (fun c => SCO A0 A1 (LAT b n r) h.val g.val c.val) c : EReal)
        * ROW A0 A1 (KROW (LAT b n r) c.val) (9504 + 128 * h.val + e.val) := by
  rw [← share_sum, sum_cols]
  pointwise [val_main_v231, val_main_v230, val_main_v229, val_main_v228, val_main_v227, val_main_v226, val_main_v225]
  refine congrArg₂ (· + ·) (Finset.sum_congr rfl fun c _ => ?_) (Finset.sum_congr rfl fun c _ => ?_)
  · rw [value_ctx b c h e (LAT b n r) (lat_bat b n r)]
    refine congrArg (_ * ·) (lat_share hf b h g n r ⟨c.val, by omega⟩ _ (Fin.ext ?_))
    show 1 + c.val = c.val + 1
    omega
  · refine (congrArg (_ * ·) (lat_share hf b h g n r ⟨256 + c.val, by omega⟩ _ (Fin.ext ?_))).trans ?_
    · show 257 + c.val = 256 + c.val + 1
      omega
    · by_cases hv : SEES (LAT b n r) ⟨256 + c.val, by omega⟩
      · have hv' := (lat_sees b n r ⟨256 + c.val, by omega⟩).mp hv
        dsimp only at hv'
        exact congrArg (· * _) (value_loc (A1 := A1) b n r c h e (by omega) (by omega))
      · rw [SHARE, wt, if_neg hv]
        simp

end lat

end Cert.AttRef
end
-- ==== Proof.RefValue.lean ====
module

public import proofs.«01_k».proof.Proof.RefScore

/-! # The reference's result as the formula -/

@[expose] public section

noncomputable section
namespace Cert.AttRef
open Cert.ReferenceIdeal Cert.ReferenceIdeal.Gen Cert.ReferenceIdeal.Read Idealize.ShloMosaic Cert.Att

variable {A0 : S8x4096x13856.Idx → EReal} {A1 : S8x256x13856.Idx → EReal} {A2 : S8.Idx → EReal}

/-! ### The context's rows -/

/-- A context row's number. -/
def CTX (b : Fin 8) (r : Fin 256) : ℕ := 32768 + 256 * b.val + r.val

theorem ctx_bat (b : Fin 8) (r : Fin 256) : BAT (CTX b r) = b.val := by
  unfold CTX BAT; rw [if_neg (by omega)]; omega

theorem ctx_sees (b : Fin 8) (r : Fin 256) (c : Fin 640) : SEES (CTX b r) c ↔ c.val < 256 := by
  unfold SEES Vis CTX SEG
  rw [if_neg (by omega)]
  omega

section ctx
variable (hf : Finite A0 A1 A2) (b : Fin 8) (h : Fin 2) (g : Fin 4) (r : Fin 256)

include hf

theorem ctx_sink : val_main_v242 (F := Ideal) A1 A2 (ix5 b h g r 0) = (((SNK A2 (4 * h.val + g.val)).toReal : ℝ) : EReal) := by
  pointwise [val_main_v242, val_main_v241, val_main_v240]
  exact sink_at hf _ _ (by show h.val * 4 + g.val = _; omega)

theorem ctx_score_at (c : Fin 256) : val_main_v239 (F := Ideal) A1 (ix5 b h g r c)
    = ((SCO A0 A1 (CTX b r) h.val g.val c.val : ℝ) : EReal) := by
  pointwise [val_main_v239, val_main_v238]
  exact score_sum _ _ _ _ _ _ (fun e => key_ctx hf b c h e _ (ctx_bat b r)) fun e => query_ctx hf b r h g e

theorem ctx_score (c : Fin 256) :
    val_main_v242 (F := Ideal) A1 A2 (ix5 b h g r c.succ)
      = if True then ((SCO A0 A1 (CTX b r) h.val g.val c.val : ℝ) : EReal) else ⊥ := by
  pointwise [val_main_v242]
  rw [dif_neg (by show ¬ c.val + 1 < 1; omega)]
  exact ctx_score_at hf b h g r c

omit hf

theorem ctx_max : val_main_v245 (F := Ideal) A1 A2 (ix4 b h g r)
    = max ⊥ (Finset.univ.fold max (⊥ : EReal) fun k : Fin 257 => val_main_v242 (F := Ideal) A1 A2 (ix5 b h g r k)) := by
  have e1 : ∀ i, val_main_v244 (F := Ideal) i = ⊥ := fun i => by
    rw [val_main_v244_apply]; exact ofBits_negInf
  rw [val_main_v245_apply, e1]
  refine congrArg (max ⊥) ?_
  unfold val_main_v243
  rw [Host.reduce_eq_fold]
  refine (reducesTo_S8x2x4x256x257_S8x2x4x256_d4.fold_fiber_r5_a4 _ _ _ _).trans ?_
  exact congrArg (fun z => Finset.univ.fold max z _) ofBits_negInf

theorem ctx_exp (k : Fin 257) : val_main_v249 (F := Ideal) A1 A2 (ix5 b h g r k)
    = Ideal.exp (val_main_v242 (F := Ideal) A1 A2 (ix5 b h g r k) - val_main_v245 (F := Ideal) A1 A2 (ix4 b h g r)) := by
  rw [val_main_v249_apply, val_main_v248_apply, val_main_v247_apply, val_main_v246_apply]
  refine congrArg (fun i => Ideal.exp (_ - val_main_v245 (F := Ideal) A1 A2 i)) (funext fun a => ?_)
  fin_cases a <;> rfl

theorem ctx_total : val_main_v250 (F := Ideal) A1 A2 (ix4 b h g r)
    = 0 + ∑ k : Fin 257, val_main_v249 (F := Ideal) A1 A2 (ix5 b h g r k) := by
  unfold val_main_v250
  refine (Ideal.hostReduceAdd_r5_a4 _ _ _ _).trans ?_
  exact congrArg (· + _) ofBits_zero

include hf

/-- Column `c`'s share. -/
theorem ctx_share (c : Fin 256) (k : Fin 257) (hk : k = c.succ) : val_main_v253 (F := Ideal) A1 A2 (ix5 b h g r k)
    = ((SHARE (fun _ : Fin 256 => True) (fun c => SCO A0 A1 (CTX b r) h.val g.val c.val) (SNK A2 (4 * h.val + g.val)).toReal c : ℝ) : EReal) := by
  subst hk
  have e : val_main_v253 (F := Ideal) A1 A2 (ix5 b h g r c.succ)
      = Ideal.div (val_main_v249 (F := Ideal) A1 A2 (ix5 b h g r c.succ)) (val_main_v250 (F := Ideal) A1 A2 (ix4 b h g r)) := by
    rw [val_main_v253_apply, val_main_v252_apply, val_main_v251_apply]
    refine congrArg (fun i => Ideal.div _ (val_main_v250 (F := Ideal) A1 A2 i)) (funext fun a => ?_)
    fin_cases a <;> rfl
  rw [e, ctx_total]
  simp only [ctx_exp, ctx_max]
  exact soft_share _ _ _ (fun k : Fin 257 => val_main_v242 (F := Ideal) A1 A2 (ix5 b h g r k)) (ctx_sink hf b h g r)
    (ctx_score hf b h g r) c

/-- The weighted values. -/
theorem ctx_sum (e : Fin 128) : val_main_v256 (F := Ideal) A1 A2 (ix5 b r h g e)
    = ((1 / (∑ c, wt (SEES (CTX b r)) (fun c => SCO A0 A1 (CTX b r) h.val g.val c.val) c + Real.exp (SNK A2 (4 * h.val + g.val)).toReal) : ℝ) : EReal)
      * ∑ c, (wt (SEES (CTX b r)) (fun c => SCO A0 A1 (CTX b r) h.val g.val c.val) c : EReal)
        * ROW A0 A1 (KROW (CTX b r) c.val) (9504 + 128 * h.val + e.val) := by
  have w1 : ∀ c : Fin 256, wt (SEES (CTX b r)) (fun c => SCO A0 A1 (CTX b r) h.val g.val c.val) ⟨c.val, by omega⟩
      = wt (fun _ : Fin 256 => True) (fun c => SCO A0 A1 (CTX b r) h.val g.val c.val) c := fun c => by
    rw [wt, if_pos ((ctx_sees b r _).mpr c.isLt), wt, if_pos trivial]
  have w2 : ∀ c : Fin 384, wt (SEES (CTX b r)) (fun c => SCO A0 A1 (CTX b r) h.val g.val c.val) ⟨256 + c.val, by omega⟩ = 0 := fun c =>
    if_neg fun hv => by have := (ctx_sees b r _).mp hv; dsimp only at this; omega
  rw [sum_cols, sum_cols]
  simp only [w1, w2, EReal.coe_zero, zero_mul, Finset.sum_const_zero, add_zero]
  rw [← share_sum]
  pointwise [val_main_v256, val_main_v255, val_main_v254]
  refine Finset.sum_congr rfl fun c _ => ?_
  rw [value_ctx b c h e (CTX b r) (ctx_bat b r)]
  refine congrArg (_ * ·) (ctx_share hf b h g r c _ (Fin.ext ?_))
  show 1 + c.val = c.val + 1
  omega

end ctx

/-! ### The gate, and the result -/

theorem gate_lat (b : Fin 8) (t : Fin 4096) (j : Fin 1024) (R : ℕ) (hR : R = 4096 * b.val + t.val) : val_main_v233 (F := Ideal) A0 (ix3 b t j)
    = ROW A0 A1 R (9760 + j.val) * Ideal.logistic (ROW A0 A1 R (9760 + j.val)) := by
  rw [← row_lat (A1 := A1) b t ⟨9760 + j.val, by omega⟩ R (9760 + j.val) hR rfl]
  pointwise [val_main_v233, val_main_call3_v5, val_main_call3_v4, val_main_call3_v3, val_main_call3_v2, val_main_call3_v1, val_main_call3_v0,
    val_main_call3_cst, val_main_call3_cst_0, val_main_v3]
  rfl

theorem gate_ctx (b : Fin 8) (t : Fin 256) (j : Fin 1024) (R : ℕ) (hR : R = 32768 + 256 * b.val + t.val) : val_main_v258 (F := Ideal) A1 (ix3 b t j)
    = ROW A0 A1 R (9760 + j.val) * Ideal.logistic (ROW A0 A1 R (9760 + j.val)) := by
  rw [← row_ctx (A0 := A0) b t ⟨9760 + j.val, by omega⟩ R (9760 + j.val) hR rfl]
  pointwise [val_main_v258, val_main_call4_v5, val_main_call4_v4, val_main_call4_v3, val_main_call4_v2, val_main_call4_v1, val_main_call4_v0,
    val_main_call4_cst, val_main_call4_cst_0, val_main_v7]
  rfl

/-- The formula with the columns' heads spelled out. -/
theorem res_form (R j h g e : ℕ) (hj : j = 512 * h + 128 * g + e) (hg : g < 4) (he : e < 128) :
    RES A0 A1 A2 R j = ((1 / (∑ c, wt (SEES R) (fun c => SCO A0 A1 R h g c.val) c + Real.exp (SNK A2 (4 * h + g)).toReal) : ℝ) : EReal)
      * (∑ c, (wt (SEES R) (fun c => SCO A0 A1 R h g c.val) c : EReal) * ROW A0 A1 (KROW R c.val) (9504 + 128 * h + e))
      * (ROW A0 A1 R (9760 + j) * Ideal.logistic (ROW A0 A1 R (9760 + j))) := by
  have e1 : j / 128 = 4 * h + g := by omega
  have e2 : j / 512 = h := by omega
  have e3 : j % 128 = e := by omega
  rw [RES, e1, e2, e3]
  rfl

theorem lat_value (hf : Finite A0 A1 A2) (b : Fin 8) (t : Fin 4096) (j : Fin 1024) (R : ℕ) (hR : R = 4096 * b.val + t.val) :
    val_main_v234 (F := Ideal) A0 A1 A2 (ix3 b t j) = RES A0 A1 A2 R j.val := by
  have hL : LAT b ⟨t.val / 128, by omega⟩ ⟨t.val % 128, by omega⟩ = R := by unfold LAT; dsimp only; omega
  rw [res_form R j.val (j.val / 512) (j.val / 128 % 4) (j.val % 128) (by omega) (by omega) (by omega), val_main_v234_apply,
    gate_lat (A1 := A1) b t j R hR]
  refine congrArg (· * _) ?_
  have s := lat_sum hf b ⟨j.val / 512, by omega⟩ ⟨j.val / 128 % 4, by omega⟩ ⟨t.val / 128, by omega⟩ ⟨t.val % 128, by omega⟩ ⟨j.val % 128, by omega⟩
  rw [hL] at s
  refine Eq.trans ?_ s
  pointwise [val_main_v232]

theorem ctx_value (hf : Finite A0 A1 A2) (b : Fin 8) (t : Fin 256) (j : Fin 1024) (R : ℕ) (hR : R = 32768 + 256 * b.val + t.val) :
    val_main_v259 (F := Ideal) A1 A2 (ix3 b t j) = RES A0 A1 A2 R j.val := by
  have hL : CTX b t = R := hR.symm
  rw [res_form R j.val (j.val / 512) (j.val / 128 % 4) (j.val % 128) (by omega) (by omega) (by omega), val_main_v259_apply,
    gate_ctx (A0 := A0) b t j R hR]
  refine congrArg (· * _) ?_
  have s := ctx_sum hf b ⟨j.val / 512, by omega⟩ ⟨j.val / 128 % 4, by omega⟩ t ⟨j.val % 128, by omega⟩
  rw [hL] at s
  refine Eq.trans ?_ s
  pointwise [val_main_v257]

/-- The reference's result. -/
theorem reference_value (hf : Finite A0 A1 A2) (R : Fin 34816) (j : Fin 1024) :
    val_main_v263 (F := Ideal) A0 A1 A2 (ix2 R j) = RES A0 A1 A2 R.val j.val := by
  pointwise [val_main_v263, val_main_v262, val_main_v261, val_main_v260]
  split
  · exact lat_value hf _ _ j R.val (by dsimp only; omega)
  · exact ctx_value hf _ _ j R.val (by dsimp only; omega)

end Cert.AttRef
end
-- ==== Proof.Columns.lean ====
/-
  The projection's columns: where each column of the call's result comes from among reference.py's, and which are scaled.
-/
module

public import Idealize.ShloMosaic.PureOps.Ideal
public import Idealize.ShloMosaic.Lib.Pointwise
public import Idealize.ShloMosaic.Lib.Pipeline.Value

@[expose] public section
noncomputable section
namespace Cert.Proj
open Idealize.ShloMosaic

/-- The column of the input weights that column `c` of the result is made with. -/
def SRC (c : ℕ) : ℕ :=
  if c < 3072 then 10784 + c else if c < 4096 then 1024 + (c - 3072) else if c < 5120 then 2048 + (c - 4096)
  else if c < 6144 then 3104 + (c - 5120) else if c < 7168 then 6176 + (c - 6144) else if c < 8192 then 7200 + (c - 7168)
  else if c < 9216 then 8224 + (c - 8192) else if c < 10240 then 9760 + (c - 9216) else if c < 10752 then c - 10240
  else if c < 11264 then 512 + (c - 10752) else if c < 11520 then 9248 + (c - 11264) else 9504 + (c - 11520)

/-- The columns of the first mixer's queries, which are scaled. -/
def SCALED (c : ℕ) : Prop := 10240 ≤ c ∧ c < 10752
instance (c : ℕ) : Decidable (SCALED c) := by unfold SCALED; infer_instance

/-- The scale: the float of `128 ^ (-1/2)`. -/
def SCL : EReal := Ideal.ofBits .f32 0x3DB504F3#32

/-- `x` with the scale, on the scaled columns. -/
def WITH (c : ℕ) (x : EReal) : EReal := if SCALED c then x * SCL else x

theorem SCL_real : SCL = ((11863283 / 134217728 : ℝ) : EReal) := by
  unfold SCL
  simp [Ideal.ofBits, Ideal.ieee, -EReal.coe_mul]
  norm_num

/-- A scale that multiplies every term multiplies the sum, of infinite terms too. -/
theorem sum_scale {n : ℕ} (x w : Fin n → EReal) : (∑ k, x k * (w k * SCL)) = (∑ k, x k * w k) * SCL := by
  have h0 : (0 : EReal) ≤ SCL := by rw [SCL_real]; exact EReal.coe_nonneg.mpr (by norm_num)
  have h1 : SCL ≠ ⊤ := by rw [SCL_real]; exact EReal.coe_ne_top _
  simp only [← mul_assoc]
  induction (Finset.univ : Finset (Fin n)) using Finset.induction_on with
  | empty => simp
  | insert a s ha ih => rw [Finset.sum_insert ha, Finset.sum_insert ha, ih, EReal.right_distrib_of_nonneg_of_ne_top h0 h1]

theorem sum_with {n : ℕ} (c : ℕ) (x w : Fin n → EReal) : (∑ k, x k * WITH c (w k)) = WITH c (∑ k, x k * w k) := by
  unfold WITH
  split
  · exact sum_scale x w
  · rfl

/-! ### Twelve blocks of columns side by side -/

/-- Block `k`'s width, its first column in the result, and its first column in the input weights. -/
def WID : Fin 12 → ℕ := ![3072, 1024, 1024, 1024, 1024, 1024, 1024, 1024, 512, 512, 256, 256]
def PRE : Fin 12 → ℕ := ![0, 3072, 4096, 5120, 6144, 7168, 8192, 9216, 10240, 10752, 11264, 11520]
def OFF : Fin 12 → ℕ := ![10784, 1024, 2048, 3104, 6176, 7200, 8224, 9760, 0, 512, 9248, 9504]

theorem block_of (c : ℕ) (hc : c < 11776) : ∃ k : Fin 12, ∃ j : Fin (WID k), c = PRE k + j.val := by
  have h : ∃ k : Fin 12, PRE k ≤ c ∧ c < PRE k + WID k := by
    by_contra hn
    have e : ∀ k : Fin 12, PRE k ≤ c → PRE k + WID k ≤ c := fun k h1 => not_lt.mp fun h2 => hn ⟨k, h1, h2⟩
    simp only [Fin.forall_fin_succ, PRE, WID] at e
    simp at e
    omega
  obtain ⟨k, h1, h2⟩ := h
  exact ⟨k, ⟨c - PRE k, by omega⟩, by dsimp only; omega⟩

set_option maxHeartbeats 2000000 in
theorem src_block (k : Fin 12) (j : Fin (WID k)) : SRC (PRE k + j.val) = OFF k + j.val := by
  obtain ⟨j, hj⟩ := j
  revert hj
  fin_cases k <;> simp only [WID, PRE, OFF, SRC] <;> intro hj <;> simp at hj ⊢ <;> split_ifs <;> omega

theorem with_out (k : Fin 12) (hk : k ≠ 8) (j : Fin (WID k)) (x : EReal) : WITH (PRE k + j.val) x = x := by
  obtain ⟨j, hj⟩ := j
  refine if_neg fun h => ?_
  revert hj h hk
  fin_cases k <;> simp [WID, PRE, SCALED] <;> omega

theorem with_in (j : ℕ) (hj : j < 512) (x : EReal) : WITH (10240 + j) x = x * SCL := if_pos (by unfold SCALED; omega)

theorem widths (n : ℕ) (k : Fin 12) : ((((List.ofFn fun k => (⟨2, ![n, WID k]⟩ : Shape)).take k.val)).map
    fun s => if h : s.rank = 2 then s.size ((1 : Fin 2).cast h.symm) else 0).sum = PRE k := by
  fin_cases k <;> simp [WID, PRE, List.ofFn_succ]

theorem widths_three (n : ℕ) (k : Fin 12) : ((((List.ofFn fun k => (⟨3, ![8, n, WID k]⟩ : Shape)).take k.val)).map
    fun s => if h : s.rank = 3 then s.size ((2 : Fin 3).cast h.symm) else 0).sum = PRE k := by
  fin_cases k <;> simp [WID, PRE, List.ofFn_succ]

theorem cat_two {n : ℕ} (G : Fin n → ℕ → EReal) (xs : List ((s : Shape) × (s.Idx → EReal)))
    (h : Shape.Concatenates (xs.map (·.1)) ⟨2, ![n, 11776]⟩ 1)
    (hs : xs.map (·.1) = List.ofFn fun k : Fin 12 => (⟨2, ![n, WID k]⟩ : Shape)) (hl : xs.length = 12)
    (hx : ∀ k : Fin 12, ∃ x : (⟨2, ![n, WID k]⟩ : Shape).Idx → EReal, xs[k.val] = ⟨_, x⟩ ∧
      ∀ r j, x (ix2 r j) = WITH (PRE k + j.val) (G r (OFF k + j.val)))
    (r : Fin n) (c : Fin 11776) :
    concatenate ⟨2, ![n, 11776]⟩ 1 xs h (ix2 r c) = WITH c.val (G r (SRC c.val)) := by
  obtain ⟨k, j, hc⟩ := block_of c.val c.isLt
  obtain ⟨x, e, hv⟩ := hx k
  rw [hc, src_block, ← hv]
  refine concatenate_apply_piece (t := ⟨2, ![n, 11776]⟩) 1 xs h (ix2 r c) k.val (by omega) _ x e rfl (PRE k) ?_ (ix2 r j) ?_ ?_
  · rw [List.map_take, hs]
    exact widths n k
  · intro b hb
    fin_cases b
    · rfl
    · exact absurd rfl hb
  · exact hc.symm

theorem cat_three {n : ℕ} (G : Fin 8 → Fin n → ℕ → EReal) (xs : List ((s : Shape) × (s.Idx → EReal)))
    (h : Shape.Concatenates (xs.map (·.1)) ⟨3, ![8, n, 11776]⟩ 2)
    (hs : xs.map (·.1) = List.ofFn fun k : Fin 12 => (⟨3, ![8, n, WID k]⟩ : Shape)) (hl : xs.length = 12)
    (hx : ∀ k : Fin 12, ∃ x : (⟨3, ![8, n, WID k]⟩ : Shape).Idx → EReal, xs[k.val] = ⟨_, x⟩ ∧
      ∀ b r j, x (ix3 b r j) = WITH (PRE k + j.val) (G b r (OFF k + j.val)))
    (b : Fin 8) (r : Fin n) (c : Fin 11776) :
    concatenate ⟨3, ![8, n, 11776]⟩ 2 xs h (ix3 b r c) = WITH c.val (G b r (SRC c.val)) := by
  obtain ⟨k, j, hc⟩ := block_of c.val c.isLt
  obtain ⟨x, e, hv⟩ := hx k
  rw [hc, src_block, ← hv]
  refine concatenate_apply_piece (t := ⟨3, ![8, n, 11776]⟩) 2 xs h (ix3 b r c) k.val (by omega) _ x e rfl (PRE k) ?_ (ix3 b r j) ?_ ?_
  · rw [List.map_take, hs]
    exact widths_three n k
  · intro d hd
    fin_cases d
    · rfl
    · rfl
    · exact absurd rfl hd
  · exact hc.symm

end Cert.Proj
end
-- ==== Proof.ProjKernel.lean ====
/-
  The input projection's kernel: every entry of its result is the product of a row with a column of the arranged weights.
-/
module

public import proofs.«01_k».proof.Proof.Columns
public import proofs.«01_k».proof.Proof.Gen.Kernel2Ideal.Value
public import Idealize.ShloMosaic.Lib.Pipeline.ValueKit
public import Idealize.ShloMosaic.Lib.StableHlo.ReadAt
public import Idealize.ShloMosaic.Lib.MatmulPlain

@[expose] public section
noncomputable section
namespace Cert.Proj
open Cert.Kernel2Ideal Cert.Kernel2Ideal.Gen Idealize.ShloMosaic Idealize.ShloMosaic.TcCoe Idealize.SL.Sem
set_option maxHeartbeats 1000000

/-- Entry `(R, k)` of the two inputs one under another: the 32768 latent rows, then the 2048 context rows. -/
def HROW (A0 : S8x4096x1024.Idx → EReal) (A1 : S8x256x1024.Idx → EReal) (R : ℕ) (k : Fin 1024) : EReal :=
  if h : R < 32768 then A0 (ix3 ⟨R / 4096, by omega⟩ ⟨R % 4096, by omega⟩ k)
  else if h : R < 34816 then A1 (ix3 ⟨(R - 32768) / 256, by omega⟩ ⟨(R - 32768) % 256, by omega⟩ k) else 0

/-- Entry `(k, j)` of the input weights. -/
def WGT (A2 : S1024x13856.Idx → EReal) (k : Fin 1024) (j : ℕ) : EReal := if h : j < 13856 then A2 (ix2 k ⟨j, h⟩) else 0

/-- Entry `(R, c)` of the projection. -/
def PROJ (A0 : S8x4096x1024.Idx → EReal) (A1 : S8x256x1024.Idx → EReal) (A2 : S1024x13856.Idx → EReal) (R c : ℕ) : EReal :=
  WITH c (∑ k, HROW A0 A1 R k * WGT A2 k (SRC c))

/-! ### What a grid step reads

Step `t` of the grid is row block `t / 23` and column block `t % 23`. -/

theorem ix_0 : ∀ t : Fin cfg0.N, win0_0.index t = ![min (t.val / 23) 15, 0] := (by decide +kernel : ∀ t : Fin grid0.N, win0_0.index t = ![min (t.val / 23) 15, 0])
theorem ix_1 : ∀ t : Fin cfg0.N, win0_1.index t = ![0, 0] := (by decide +kernel : ∀ t : Fin grid0.N, win0_1.index t = ![0, 0])
theorem ix_2 : ∀ t : Fin cfg0.N, win0_2.index t = ![0, t.val % 23] := (by decide +kernel : ∀ t : Fin grid0.N, win0_2.index t = ![0, t.val % 23])
theorem ix_3 : ∀ t : Fin cfg0.N, win0_3.index t = ![t.val / 23, t.val % 23] := (by decide +kernel : ∀ t : Fin grid0.N, win0_3.index t = ![t.val / 23, t.val % 23])

variable (m : (ℓ : Loc nD τ sig) → Buf (Elt Ideal) ℓ) (c : Dev nD)

theorem blk_0 (t : Fin cfg0.N) (r : Fin 2048) (k : Fin 1024) (i : S32768x1024.Idx)
    (h0 : (i 0).val = 2048 * min (t.val / 23) 15 + r.val) (h1 : (i 1).val = k.val) : iblk m c 0 t (ix2 r k) = V m c main_v17 i := by
  blk_simp [iblk]
  refine congrArg _ (funext fun a => Fin.ext ?_)
  fin_cases a
  · blk_simp [ix_0 t]
    exact (congrArg (· + r.val) (Nat.mul_comm _ _)).trans h0.symm
  · blk_simp [ix_0 t]
    exact h1.symm

theorem blk_1 (t : Fin cfg0.N) (r : Fin 2048) (k : Fin 1024) : iblk m c 1 t (ix2 r k) = V m c main_v19 (ix2 r k) := by
  blk_simp [iblk]
  refine congrArg _ (funext fun a => Fin.ext ?_)
  fin_cases a
  · blk_simp [ix_1 t]
  · blk_simp [ix_1 t]

theorem blk_2 (t : Fin cfg0.N) (k : Fin 1024) (j : Fin 512) (i : S1024x11776.Idx)
    (h0 : (i 0).val = k.val) (h1 : (i 1).val = 512 * (t.val % 23) + j.val) : iblk m c 2 t (ix2 k j) = V m c main_v15 i := by
  blk_simp [iblk]
  refine congrArg _ (funext fun a => Fin.ext ?_)
  fin_cases a
  · blk_simp [ix_2 t]
    exact h0.symm
  · blk_simp [ix_2 t]
    exact (congrArg (· + j.val) (Nat.mul_comm _ _)).trans h1.symm

/-- The output array holds `G` when each step leaves `G`'s entries in its block. -/
theorem out_eq (G : S34816x11776.Idx → EReal)
    (h : ∀ (t : Fin cfg0.N) (r : Fin 2048) (j : Fin 512) (i : S34816x11776.Idx), (i 0).val = 2048 * (t.val / 23) + r.val →
      (i 1).val = 512 * (t.val % 23) + j.val → outsAt0 m c t.val t.isLt (ix2 r j) = G i) :
    (dats m 0 c).arrAt 3 cfg0.N = G := by
  refine (dats m 0 c).arrAt_eq_of_covers 3 _ (by decide +kernel) fun t hf y => ?_
  blk_simp
  rw [after0_3]
  have hy : y = ix2 (y 0) (y 1) := by funext a; fin_cases a <;> rfl
  refine (congrArg (outsAt0 m c t.val t.isLt) hy).trans (h t (y 0) (y 1) _ ?_ ?_)
  · blk_simp [ix_3 t]
    exact congrArg (· + (y 0).val) (Nat.mul_comm _ _)
  · blk_simp [ix_3 t]
    exact congrArg (· + (y 1).val) (Nat.mul_comm _ _)

/-! ### What a grid step leaves -/

theorem pay1_apply (x : S2048x1024.Idx → EReal) (w : S1024x512.Idx → EReal) (r : Fin 2048) (j : Fin 512) :
    k0_pay1 (F := Ideal) x w (ix2 r j) = ∑ k : Fin 1024, x (ix2 r k) * w (ix2 k j) := by
  unfold k0_pay1
  pointwise

theorem pay2_eq (x : S2048x1024.Idx → EReal) (w : S1024x512.Idx → EReal) : k0_pay2 (F := Ideal) x w = k0_pay1 x w := rfl

theorem off_zero : (![0, 0] : Fin 2 → ℕ) = fun _ => 0 := by
  funext a
  fin_cases a <;> rfl

theorem out_A (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x512 .bf16) (harg4 : arg4.IsWhole) (arg5 : Memref sig .tc .vmem S2048x512 .bf16) (harg5 : arg5.IsWhole)
    (hc0 : cond0_0 i) (hc1 : ¬cond0_1 i) (x0 x1 : Vec Ideal S2048x1024 .bf16) (x2 : Vec Ideal S1024x512 .bf16) :
    out0_A_3 c i arg2 harg2 arg3 harg3 arg4 harg4 arg5 harg5 hc0 hc1 x0 x1 x2 = k0_pay1 x0 x2 := by
  unfold out0_A_3
  rw [View.read_writes_eq_canon _ _ _ (cover0_A_3 c i arg2 harg2 arg3 harg3 arg4 harg4 arg5 harg5 hc0 hc1 x0 x1 x2)]
  unfold kernelRun0_A
  dsimp only
  sl_unfold_words
  simp only [View.readAt_eq_ld, harg2.read_unread, harg3.read_unread, harg4.read_unread]
  rw [View.canon_unit_zero off_zero, View.ld_unit_zero off_zero, View.ld_unit_zero off_zero]

theorem out_B (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x512 .bf16) (harg4 : arg4.IsWhole) (arg5 : Memref sig .tc .vmem S2048x512 .bf16) (harg5 : arg5.IsWhole)
    (hc0 : ¬cond0_0 i) (hc1 : cond0_1 i) (x0 x1 : Vec Ideal S2048x1024 .bf16) (x2 : Vec Ideal S1024x512 .bf16) :
    out0_B_3 c i arg2 harg2 arg3 harg3 arg4 harg4 arg5 harg5 hc0 hc1 x0 x1 x2 = k0_pay2 x1 x2 := by
  unfold out0_B_3
  rw [View.read_writes_eq_canon _ _ _ (cover0_B_3 c i arg2 harg2 arg3 harg3 arg4 harg4 arg5 harg5 hc0 hc1 x0 x1 x2)]
  unfold kernelRun0_B
  dsimp only
  sl_unfold_words
  simp only [View.readAt_eq_ld, harg2.read_unread, harg3.read_unread, harg4.read_unread]
  rw [View.canon_unit_zero off_zero, View.ld_unit_zero off_zero, View.ld_unit_zero off_zero]

/-! ### The operands -/

theorem rows_lat (A0 : S8x4096x1024.Idx → EReal) (A1 : S8x256x1024.Idx → EReal) (R : Fin 32768) (k : Fin 1024) :
    shapeCast S32768x1024 A0 shapeCasts_S8x4096x1024_S32768x1024 (ix2 R k) = HROW A0 A1 R.val k := by
  unfold HROW
  rw [dif_pos R.isLt]
  exact shapeCast_apply _ _ (ix2 R k) _ (by
    simp only [Shape.rowMajor_val_three, Shape.rowMajor_val_two, ix2, ix3]; simp; omega)

theorem rows_ctx (A0 : S8x4096x1024.Idx → EReal) (A1 : S8x256x1024.Idx → EReal) (R : Fin 2048) (k : Fin 1024) :
    shapeCast S2048x1024 A1 shapeCasts_S8x256x1024_S2048x1024 (ix2 R k) = HROW A0 A1 (32768 + R.val) k := by
  unfold HROW
  rw [dif_neg (by omega), dif_pos (by omega)]
  exact shapeCast_apply _ _ (ix2 R k) _ (by
    simp only [Shape.rowMajor_val_three, Shape.rowMajor_val_two, ix2, ix3]; simp; omega)

theorem ops_lat (R : Fin 32768) (k : Fin 1024) :
    V m c main_v17 (ix2 R k) = HROW (m (c, Proc.devRef .tc main_arg0)) (m (c, Proc.devRef .tc main_arg1)) R.val k := by
  unfold V
  after_reads_simp
  exact rows_lat _ _ R k

theorem ops_ctx (R : Fin 2048) (k : Fin 1024) :
    V m c main_v19 (ix2 R k) = HROW (m (c, Proc.devRef .tc main_arg0)) (m (c, Proc.devRef .tc main_arg1)) (32768 + R.val) k := by
  unfold V
  after_reads_simp
  exact rows_ctx _ _ R k

theorem slice_w {n : ℕ} (o : ℕ) (A2 : S1024x13856.Idx → EReal) (hs : S1024x13856.Slices ![0, o] ⟨2, ![1024, n]⟩)
    (ho : o + n ≤ 13856) (k : Fin 1024) (j : Fin n) :
    extractStridedSlice ⟨2, ![1024, n]⟩ ![0, o] A2 hs (ix2 k j) = WGT A2 k (o + j.val) := by
  unfold WGT
  rw [dif_pos (by omega)]
  exact extractStridedSlice_apply ![0, o] A2 hs (ix2 k j) (ix2 k ⟨o + j.val, by omega⟩)
      (by intro a; fin_cases a
          · exact (Nat.zero_add _).symm
          · rfl)

theorem cast_w (x : S1024x11776.Idx → EReal) (i : S1024x11776.Idx) :
    truncf (F := Ideal) .bf16 x bitsLt_bf16_f32 i = x i := rfl

theorem ops_w (k : Fin 1024) (j : Fin 11776) :
    V m c main_v15 (ix2 k j) = WITH j.val (WGT (m (c, Proc.devRef .tc main_arg2)) k (SRC j.val)) := by
  unfold V
  after_reads_simp
  refine (cast_w _ (ix2 k j)).trans ?_
  refine cat_two (WGT (m (c, Proc.devRef .tc main_arg2))) _ (by exact concatenates_S1024x3072_S1024x1024_S1024x1024_S1024x1024_S1024x1024_S1024x1024_S1024x1024_S1024x1024_S1024x512_S1024x512_S1024x256_S1024x256_S1024x11776_d1) (by simp [List.ofFn_succ, WID]) (by rfl) ?_ k j
  intro q
  by_cases hq : q = 8
  · subst hq
    refine ⟨_, rfl, fun r j => ?_⟩
    refine Eq.trans ?_ (with_in j.val j.isLt _).symm
    dsimp only [Matrix.cons_val]
    after_reads_simp
    exact congrArg (· * SCL) (slice_w 0 _ _ (by decide) r j)
  · fin_cases q
    case «8» => exact absurd rfl hq
    all_goals
      refine ⟨_, rfl, fun r j => ?_⟩
      refine Eq.trans ?_ (with_out _ hq j _).symm
      dsimp only [Matrix.cons_val]
      after_reads_simp
      exact slice_w _ _ _ (by decide) r j

/-! ### The result -/

/-- A product of a row of the inputs and a column of the arranged weights. -/
theorem entry (R : ℕ) (j : Fin 11776) :
    (∑ k, HROW (m (c, Proc.devRef .tc main_arg0)) (m (c, Proc.devRef .tc main_arg1)) R k * V m c main_v15 (ix2 k j)) =
    PROJ (m (c, Proc.devRef .tc main_arg0)) (m (c, Proc.devRef .tc main_arg1)) (m (c, Proc.devRef .tc main_arg2)) R j.val := by
  refine Eq.trans (Finset.sum_congr rfl fun k _ => ?_) (sum_with _ _ _)
  rw [ops_w]

theorem kernel_value : (dats m 0 c).arrAt 3 cfg0.N = fun i : S34816x11776.Idx =>
    PROJ (m (c, Proc.devRef .tc main_arg0)) (m (c, Proc.devRef .tc main_arg1)) (m (c, Proc.devRef .tc main_arg2)) (i 0).val (i 1).val := by
  refine out_eq m c _ fun t r j i h0 h1 => ?_
  have ht : t.val < 391 := t.isLt
  have hc : 512 * (t.val % 23) + j.val < 11776 := by omega
  have hw : ∀ k : Fin 1024, iblk m c 2 t (ix2 k j) = V m c main_v15 (ix2 k (i 1)) := fun k => blk_2 m c t k j _ rfl h1
  by_cases h : t.val < 368
  · rw [outsAt0_A m c t h (by omega), out_A]
    refine (pay1_apply _ _ r j).trans (Eq.trans (Finset.sum_congr rfl fun k _ => ?_) (entry m c (i 0).val (i 1)))
    have hR : (i 0).val < 32768 := by omega
    rw [hw k, blk_0 m c t r k (ix2 ⟨(i 0).val, hR⟩ k) (by rw [min_eq_left (by omega)]; exact h0) rfl, ops_lat]
  · rw [outsAt0_B m c t h (by omega), out_B, pay2_eq]
    refine (pay1_apply _ _ r j).trans (Eq.trans (Finset.sum_congr rfl fun k _ => ?_) (entry m c (i 0).val (i 1)))
    have hR : (i 0).val = 32768 + r.val := by omega
    rw [hw k, blk_1 m c t r k, ops_ctx, hR]

end Cert.Proj
end
-- ==== Proof.ProjRef.lean ====
/-
  The input projection's reference: every entry of its result is the same product of a row with a column of the weights.
-/
module

public import proofs.«01_k».proof.Proof.ProjKernel
public import proofs.«01_k».proof.Proof.Gen.Reference2Ideal.Read

@[expose] public section
noncomputable section
namespace Cert.ProjRef
open Cert.Reference2Ideal Cert.Reference2Ideal.Gen Cert.Reference2Ideal.Read Idealize.ShloMosaic Cert.Proj
set_option maxHeartbeats 1000000

variable (A0 : S8x4096x1024.Idx → EReal) (A1 : S8x256x1024.Idx → EReal) (A2 : S1024x13856.Idx → EReal)

/-- A latent row times a column of the weights, and a context row times one. -/
def LAT (b : Fin 8) (r : Fin 4096) (j : ℕ) : EReal := ∑ k : Fin 1024, A0 (ix3 b r k) * WGT A2 k j
def CTX (b : Fin 8) (r : Fin 256) (j : ℕ) : EReal := ∑ k : Fin 1024, A1 (ix3 b r k) * WGT A2 k j

theorem lat_at (b : Fin 8) (r : Fin 4096) (j : Fin 13856) : val_main_v0 (F := Ideal) A0 A2 (ix3 b r j) = LAT A0 A2 b r j.val := by
  rw [val_main_v0_apply]
  refine Finset.sum_congr rfl fun k _ => congrArg₂ (· * ·) (congrArg A0 ?_) ?_
  · funext a
    fin_cases a <;> rfl
  · unfold WGT
    rw [dif_pos j.isLt]
    refine congrArg A2 ?_
    funext a
    fin_cases a <;> rfl

theorem ctx_at (b : Fin 8) (r : Fin 256) (j : Fin 13856) : val_main_v18 (F := Ideal) A1 A2 (ix3 b r j) = CTX A1 A2 b r j.val := by
  rw [val_main_v18_apply]
  refine Finset.sum_congr rfl fun k _ => congrArg₂ (· * ·) (congrArg A1 ?_) ?_
  · funext a
    fin_cases a <;> rfl
  · unfold WGT
    rw [dif_pos j.isLt]
    refine congrArg A2 ?_
    funext a
    fin_cases a <;> rfl

theorem slice_three {p n : ℕ} (o : ℕ) (x : (⟨3, ![8, p, 13856]⟩ : Shape).Idx → EReal)
    (hs : (⟨3, ![8, p, 13856]⟩ : Shape).Slices ![0, 0, o] ⟨3, ![8, p, n]⟩) (ho : o + n ≤ 13856) (b : Fin 8) (r : Fin p) (j : Fin n) :
    extractStridedSlice ⟨3, ![8, p, n]⟩ ![0, 0, o] x hs (ix3 b r j) = x (ix3 b r ⟨o + j.val, by omega⟩) :=
  extractStridedSlice_apply ![0, 0, o] x hs (ix3 b r j) (ix3 b r ⟨o + j.val, by omega⟩)
      (by intro a; fin_cases a
          · exact (Nat.zero_add _).symm
          · exact (Nat.zero_add _).symm
          · rfl)

theorem lat_rows (b : Fin 8) (r : Fin 4096) (c : Fin 11776) :
    val_main_v17 (F := Ideal) A0 A2 (ix3 b r c) = WITH c.val (LAT A0 A2 b r (SRC c.val)) := by
  unfold val_main_v17
  refine cat_three (LAT A0 A2) _ (by exact concatenates_S8x4096x3072_S8x4096x1024_S8x4096x1024_S8x4096x1024_S8x4096x1024_S8x4096x1024_S8x4096x1024_S8x4096x1024_S8x4096x512_S8x4096x512_S8x4096x256_S8x4096x256_S8x4096x11776_d2) (by simp [List.ofFn_succ, WID]) (by rfl) ?_ b r c
  intro q
  by_cases hq : q = 8
  · subst hq
    refine ⟨_, rfl, fun b r j => ?_⟩
    refine Eq.trans ?_ (with_in j.val j.isLt _).symm
    exact congrArg (· * SCL) ((slice_three 0 _ _ (by decide) b r j).trans (lat_at A0 A2 b r _))
  · fin_cases q
    case «8» => exact absurd rfl hq
    all_goals
      refine ⟨_, rfl, fun b r j => ?_⟩
      refine Eq.trans ?_ (with_out _ hq j _).symm
      exact (slice_three _ _ _ (by decide) b r j).trans (lat_at A0 A2 b r _)

theorem ctx_rows (b : Fin 8) (r : Fin 256) (c : Fin 11776) :
    val_main_v35 (F := Ideal) A1 A2 (ix3 b r c) = WITH c.val (CTX A1 A2 b r (SRC c.val)) := by
  unfold val_main_v35
  refine cat_three (CTX A1 A2) _ (by exact concatenates_S8x256x3072_S8x256x1024_S8x256x1024_S8x256x1024_S8x256x1024_S8x256x1024_S8x256x1024_S8x256x1024_S8x256x512_S8x256x512_S8x256x256_S8x256x256_S8x256x11776_d2) (by simp [List.ofFn_succ, WID]) (by rfl) ?_ b r c
  intro q
  by_cases hq : q = 8
  · subst hq
    refine ⟨_, rfl, fun b r j => ?_⟩
    refine Eq.trans ?_ (with_in j.val j.isLt _).symm
    exact congrArg (· * SCL) ((slice_three 0 _ _ (by decide) b r j).trans (ctx_at A1 A2 b r _))
  · fin_cases q
    case «8» => exact absurd rfl hq
    all_goals
      refine ⟨_, rfl, fun b r j => ?_⟩
      refine Eq.trans ?_ (with_out _ hq j _).symm
      exact (slice_three _ _ _ (by decide) b r j).trans (ctx_at A1 A2 b r _)

theorem rows_at (x : S32768x11776.Idx → EReal) (y : S2048x11776.Idx → EReal) (R : Fin 34816) (j : Fin 11776) :
    concatenate S34816x11776 0 [⟨S32768x11776, x⟩, ⟨S2048x11776, y⟩]
      concatenates_S32768x11776_S2048x11776_S34816x11776_d0 (ix2 R j) =
    if h : R.val < 32768 then x (ix2 ⟨R.val, h⟩ j) else y (ix2 ⟨R.val - 32768, by omega⟩ j) := by
  pointwise

theorem reference_value (R : Fin 34816) (j : Fin 11776) :
    val_main_v39 (F := Ideal) A0 A1 A2 (ix2 R j) = PROJ A0 A1 A2 R.val j.val := by
  rw [val_main_v39_apply]
  refine (rows_at _ _ R j).trans ?_
  have hR := R.isLt
  unfold PROJ HROW
  by_cases h : R.val < 32768
  · rw [dif_pos h]
    refine (shapeCast_apply _ _ _ (ix3 ⟨R.val / 4096, by omega⟩ ⟨R.val % 4096, by omega⟩ j) (by
      simp only [Shape.rowMajor_val_three, Shape.rowMajor_val_two, ix2, ix3]; simp; omega)).trans ?_
    rw [lat_rows]
    simp only [dif_pos h]
    rfl
  · rw [dif_neg h]
    refine (shapeCast_apply _ _ _ (ix3 ⟨(R.val - 32768) / 256, by omega⟩ ⟨(R.val - 32768) % 256, by omega⟩ j) (by
      simp only [Shape.rowMajor_val_three, Shape.rowMajor_val_two, ix2, ix3]; simp; omega)).trans ?_
    rw [ctx_rows]
    simp only [dif_neg h, dif_pos hR]
    rfl

end Cert.ProjRef
end
-- ==== Proof.MergeTile.lean ====
/-
  One step of the merge kernel as two copies of one chunk of 256 rows.
-/
module

public import proofs.«01_k».proof.Proof.Gen.Kernel3Ideal.Value
public import Idealize.ShloMosaic.Lib.Pipeline.ValueKit

@[expose] public section
noncomputable section
namespace Cert.Mrg
open Cert.Kernel3Ideal Cert.Kernel3Ideal.Gen Idealize.ShloMosaic Idealize.ShloMosaic.TcCoe Idealize.SL.Sem
variable {F : FTy → Type} [FloatOps F]

/-- A block of 256 rows as float values of 32 bits. -/
def UP (x : FVec F S256x1024 .bf16) : FVec F S256x1024 .f32 :=
  extf .f32 (shapeCast S256x1024 x shapeCasts_S256x1024_S256x1024) bitsLt_bf16_f32

/-- One over the root of a mean of squares and the small constant; `n` is the word of the number of columns. -/
def RS (q : FVec F S256 .f32) (n : BitVec 32) : FVec F S256x1 .f32 :=
  rsqrt (addf (divf (shapeCast S256x1 q shapeCasts_S256_S256x1) (broadcast S256x1 (Scalar.ofBits .f32 n)))
    (broadcast S256x1 (Scalar.ofBits .f32 0x358637BD#32)))

/-- Rows of 256, of 128 and of 1024 columns over their root mean square. -/
def NRM256 (x : FVec F S256x256 .f32) : FVec F S256x256 .f32 :=
  mulf x (broadcastTo S256x256 (RS (multiReduction .add [1] S256 (mulf x x) 0x00000000#32 reduces_S256x256_S256 (.inl rfl) rfl) 0x43800000#32) broadcasts_S256x1_S256x256)
def NRM128 (x : FVec F S256x128 .f32) : FVec F S256x128 .f32 :=
  mulf x (broadcastTo S256x128 (RS (multiReduction .add [1] S256 (mulf x x) 0x00000000#32 reduces_S256x128_S256 (.inl rfl) rfl) 0x43000000#32) broadcasts_S256x1_S256x128)
def NRM (x : FVec F S256x1024 .f32) : FVec F S256x1024 .f32 :=
  mulf x (broadcastTo S256x1024 (RS (multiReduction .add [1] S256 (mulf x x) 0x00000000#32 reduces_S256x1024_S256 (.inl rfl) rfl) 0x44800000#32) broadcasts_S256x1_S256x1024)

theorem slices_4 (h : Fin 4) : S256x1024.Slices ![0, 256 * h.val] S256x256 := ⟨rfl, fun a => by revert a; revert h; decide⟩
theorem slices_8 (h : Fin 8) : S256x1024.Slices ![0, 128 * h.val] S256x128 := ⟨rfl, fun a => by revert a; revert h; decide⟩

/-- A head's columns over their root mean square. -/
def HEAD4 (x : FVec F S256x1024 .f32) (h : Fin 4) : FVec F S256x256 .f32 :=
  NRM256 (extractStridedSlice S256x256 ![0, 256 * h.val] x (slices_4 h))
def HEAD8 (x : FVec F S256x1024 .f32) (h : Fin 8) : FVec F S256x128 .f32 :=
  NRM128 (extractStridedSlice S256x128 ![0, 128 * h.val] x (slices_8 h))

/-- The four and the eight heads side by side. -/
def HEADS4 (x : FVec F S256x1024 .f32) : FVec F S256x1024 .f32 :=
  concatenate S256x1024 1 [⟨S256x256, HEAD4 x 0⟩, ⟨S256x256, HEAD4 x 1⟩, ⟨S256x256, HEAD4 x 2⟩, ⟨S256x256, HEAD4 x 3⟩]
    concatenates_S256x256_S256x256_S256x256_S256x256_S256x1024_d1
def HEADS8 (x : FVec F S256x1024 .f32) : FVec F S256x1024 .f32 :=
  concatenate S256x1024 1 [⟨S256x128, HEAD8 x 0⟩, ⟨S256x128, HEAD8 x 1⟩, ⟨S256x128, HEAD8 x 2⟩, ⟨S256x128, HEAD8 x 3⟩,
      ⟨S256x128, HEAD8 x 4⟩, ⟨S256x128, HEAD8 x 5⟩, ⟨S256x128, HEAD8 x 6⟩, ⟨S256x128, HEAD8 x 7⟩]
    concatenates_S256x128_S256x128_S256x128_S256x128_S256x128_S256x128_S256x128_S256x128_S256x1024_d1

/-- Normed heads times the gate's `silu`. -/
def GATED (y : FVec F S256x1024 .f32) (g : FVec F S256x1024 .bf16) : FVec F S256x1024 .bf16 :=
  truncf .bf16 (mulf y (mulf (UP g) (logistic (UP g)))) bitsLt_bf16_f32

/-- A block of rows times a matrix. -/
def PROD (y : FVec F S256x1024 .bf16) (w : FVec F S1024x1024 .bf16) : FVec F S256x1024 .f32 :=
  matmul dot_S256x1024_S1024x1024_S256x1024_1_0_0_1_n_n none y w (constant S256x1024 .f32 0x00000000#32)

/-- A mixer's projection behind its gate. -/
def TERM (m : FVec F S256x1024 .bf16) (y : FVec F S256x1024 .bf16) (w : FVec F S1x1024x1024 .bf16) : FVec F S256x1024 .f32 :=
  mulf (logistic (UP m)) (PROD y (shapeCast S1024x1024 w shapeCasts_S1x1024x1024_S1024x1024))

/-- The stream with the merged mixers added. -/
def STREAM (merged : FVec F S256x1024 .f32) (wo : FVec F S1024x1024 .bf16) (x : FVec F S256x1024 .f32) (md : FVec F S1x1x3072 .f32) : FVec F S256x1024 .f32 :=
  addf (shapeCast S256x1024 x shapeCasts_S256x1024_S256x1024)
    (mulf (broadcastTo S256x1024 (extractStridedSlice S1x1024 ![0, 2048] (shapeCast S1x3072 md shapeCasts_S1x1x3072_S1x3072) slices_S1x3072_o0_2048_S1x1024) broadcasts_S1x1024_S256x1024)
      (PROD (truncf .bf16 merged bitsLt_bf16_f32) (shapeCast S1024x1024 wo shapeCasts_S1024x1024_S1024x1024)))

/-- What a step computes of 256 rows. -/
def CHUNK (a0 a1 ag b0 b1 bg y m0 m1 m2 : FVec F S256x1024 .bf16) (x : FVec F S256x1024 .f32) (md : FVec F S1x1x3072 .f32)
    (w0 w1 w2 : FVec F S1x1024x1024 .bf16) (wo : FVec F S1024x1024 .bf16) (fg : FVec F S1x1024 .f32) : FVec F S256x1024 .f32 :=
  mulf (NRM (STREAM
      (addf (addf (TERM m0 (GATED (HEADS4 (addf (UP a0) (UP a1))) ag) w0) (TERM m1 (GATED (HEADS8 (addf (UP b0) (UP b1))) bg) w1))
        (TERM m2 (shapeCast S256x1024 y shapeCasts_S256x1024_S256x1024) w2)) wo x md))
    (broadcastTo S256x1024 (shapeCast S1x1024 fg shapeCasts_S1x1024_S1x1024) broadcasts_S1x1024_S256x1024)

theorem inb_rows (a : Fin 2) : ∀ d, ![256 * a.val, 0] d + S256x1024.size d ≤ S512x1024.size d := by revert a; decide
theorem inb_mg (a : Fin 2) (n : Fin 3) : ∀ d, ![256 * a.val, 1024 * n.val] d + S256x1024.size d ≤ S512x3072.size d := by revert a n; decide
theorem inb_wb (n : Fin 3) : ∀ d, ![n.val, 0, 0] d + S1x1024x1024.size d ≤ S3x1024x1024.size d := by revert n; decide

/-- Half `a` of a block's rows, of a third of its columns, and one of the three matrices. -/
def ldR {e : EltTy} (x : Vec F S512x1024 e) (a : Fin 2) : Vec F S256x1024 e :=
  View.ld x (Rect.unit (s := S512x1024) ![256 * a.val, 0] S256x1024.size (inb_rows a))
def ldM (x : Vec F S512x3072 .bf16) (a : Fin 2) (n : Fin 3) : Vec F S256x1024 .bf16 :=
  View.ld x (Rect.unit (s := S512x3072) ![256 * a.val, 1024 * n.val] S256x1024.size (inb_mg a n))
def ldW (x : Vec F S3x1024x1024 .bf16) (n : Fin 3) : Vec F S1x1024x1024 .bf16 :=
  View.ld x (Rect.unit (s := S3x1024x1024) ![n.val, 0, 0] S1x1024x1024.size (inb_wb n))

/-- Half `a` of what a step leaves. -/
def HALF (x0 x1 x2 x3 x4 x5 x6 : Vec F S512x1024 .bf16) (x7 : Vec F S512x3072 .bf16) (x8 : Vec F S512x1024 .f32) (x9 : Vec F S1x1x3072 .f32)
    (x10 : Vec F S3x1024x1024 .bf16) (x11 : Vec F S1024x1024 .bf16) (x12 : Vec F S1x1024 .f32) (a : Fin 2) : FVec F S256x1024 .f32 :=
  CHUNK (ldR x0 a) (ldR x1 a) (ldR x2 a) (ldR x3 a) (ldR x4 a) (ldR x5 a) (ldR x6 a) (ldM x7 a 0) (ldM x7 a 1) (ldM x7 a 2) (ldR x8 a)
    (View.ld x9 (Rect.unit (s := S1x1x3072) ![0, 0, 0] S1x1x3072.size inb_S1x1x3072_S1x1x3072_0_0_0))
    (ldW x10 0) (ldW x10 1) (ldW x10 2) (View.ld x11 (Rect.unit (s := S1024x1024) ![0, 0] S1024x1024.size inb_S1024x1024_S1024x1024_0_0))
    (View.ld x12 (Rect.unit (s := S1x1024) ![0, 0] S1x1024.size inb_S1x1024_S1x1024_0_0))

set_option maxHeartbeats 4000000 in
/-- The output block a step leaves, as its two halves, the last stored first. -/
theorem out_halves (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .f32) (harg9 : arg9.IsWhole) (arg10 : Memref sig .tc .vmem S1x1x3072 .f32) (harg10 : arg10.IsWhole) (arg11 : Memref sig .tc .vmem S3x1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S512x1024 .f32) (harg14 : arg14.IsWhole)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x3072 .bf16) (x8 : Vec F S512x1024 .f32) (x9 : Vec F S1x1x3072 .f32) (x10 : Vec F S3x1024x1024 .bf16) (x11 : Vec F S1024x1024 .bf16) (x12 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = View.canon (List.ofFn fun k : Fin 2 => ⟨Rect.unit (s := S512x1024) ![256 * (1 - k : Fin 2).val, 0] S256x1024.size (inb_rows _),
          HALF x0 x1 x2 x3 x4 x5 x6 x7 x8 x9 x10 x11 x12 (1 - k)⟩) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rfl

end Cert.Mrg
end
-- ==== Proof.MergeRow.lean ====
/-
  The merge's result as a formula of a row, and a chunk of the kernel as that formula.
-/
module

public import proofs.«01_k».proof.Proof.MergeTile
public import Idealize.ShloMosaic.Lib.Pointwise

@[expose] public section
noncomputable section
namespace Cert.Mrg
open Cert.Kernel3Ideal Cert.Kernel3Ideal.Gen Idealize.ShloMosaic Idealize.ShloMosaic.TcCoe Idealize.SL.Sem

/-- `n` values over the root of their mean square plus the small constant; `w` is the word of `n`. -/
def HN {n : ℕ} (w : BitVec 32) (o : Fin n → EReal) (j : Fin n) : EReal :=
  o j * Ideal.rsqrt (Ideal.div (∑ i, o i * o i) (Ideal.ofBits .f32 w) + Ideal.ofBits .f32 0x358637BD#32)

def SILU (g : EReal) : EReal := g * Ideal.logistic g

/-- A row of four heads of 256 columns, and of eight of 128, each head normed. -/
def Y4 (o : Fin 1024 → EReal) (k : Fin 1024) : EReal :=
  HN (n := 256) 0x43800000#32 (fun i => o ⟨256 * (k.val / 256) + i.val, by omega⟩) ⟨k.val % 256, Nat.mod_lt _ (by decide)⟩
def Y8 (o : Fin 1024 → EReal) (k : Fin 1024) : EReal :=
  HN (n := 128) 0x43000000#32 (fun i => o ⟨128 * (k.val / 128) + i.val, by omega⟩) ⟨k.val % 128, Nat.mod_lt _ (by decide)⟩

/-- A mixer's row behind its gate times its matrix. -/
def BR (m y : Fin 1024 → EReal) (W : Fin 1024 → Fin 1024 → EReal) (e : Fin 1024) : EReal :=
  Ideal.logistic (m e) * ∑ k, y k * W k e

/-- The stream's row with the merged mixers added. -/
def STR (g : Fin 1024 → EReal) (WO : Fin 1024 → Fin 1024 → EReal) (x md : Fin 1024 → EReal) (d : Fin 1024) : EReal :=
  x d + md d * ∑ e, g e * WO e d

/-- The merge's result of a row. -/
def ROW3 (a ag b bg y m0 m1 m2 : Fin 1024 → EReal) (W0 W1 W2 WO : Fin 1024 → Fin 1024 → EReal) (x md fg : Fin 1024 → EReal) (d : Fin 1024) : EReal :=
  HN 0x44800000#32 (STR (fun e => (BR m0 (fun k => Y4 a k * SILU (ag k)) W0 e + BR m1 (fun k => Y8 b k * SILU (bg k)) W1 e) + BR m2 y W2 e) WO x md) d * fg d

theorem norm256_at (x : FVec Ideal S256x256 .f32) (r : Fin 256) (j : Fin 256) :
    NRM256 (F := Ideal) x (ix2 r j) = HN (n := 256) 0x43800000#32 (fun i => x (ix2 r i)) j := by
  pointwise [NRM256, RS]
  rfl
theorem norm128_at (x : FVec Ideal S256x128 .f32) (r : Fin 256) (j : Fin 128) :
    NRM128 (F := Ideal) x (ix2 r j) = HN (n := 128) 0x43000000#32 (fun i => x (ix2 r i)) j := by
  pointwise [NRM128, RS]
  rfl
theorem norm_at (x : FVec Ideal S256x1024 .f32) (r : Fin 256) (j : Fin 1024) :
    NRM (F := Ideal) x (ix2 r j) = HN (n := 1024) 0x44800000#32 (fun i => x (ix2 r i)) j := by
  pointwise [NRM, RS]
  rfl

theorem head4_at (x : FVec Ideal S256x1024 .f32) (h : Fin 4) (r : Fin 256) (j : Fin 256) :
    HEAD4 (F := Ideal) x h (ix2 r j) = HN (n := 256) 0x43800000#32 (fun i => x (ix2 r ⟨256 * h.val + i.val, by omega⟩)) j := by
  unfold HEAD4
  rw [norm256_at]
  congr 1
  funext i
  exact extractStridedSlice_apply _ x _ (ix2 r i) (ix2 r ⟨256 * h.val + i.val, by omega⟩)
    (by intro a; fin_cases a
        · exact (Nat.zero_add _).symm
        · rfl)
theorem head8_at (x : FVec Ideal S256x1024 .f32) (h : Fin 8) (r : Fin 256) (j : Fin 128) :
    HEAD8 (F := Ideal) x h (ix2 r j) = HN (n := 128) 0x43000000#32 (fun i => x (ix2 r ⟨128 * h.val + i.val, by omega⟩)) j := by
  unfold HEAD8
  rw [norm128_at]
  congr 1
  funext i
  exact extractStridedSlice_apply _ x _ (ix2 r i) (ix2 r ⟨128 * h.val + i.val, by omega⟩)
    (by intro a; fin_cases a
        · exact (Nat.zero_add _).symm
        · rfl)

theorem heads4_at (x : FVec Ideal S256x1024 .f32) (r : Fin 256) (k : Fin 1024) :
    HEADS4 (F := Ideal) x (ix2 r k) = Y4 (fun i => x (ix2 r i)) k := by
  have hl : ∀ h : Fin 4, ∀ j : Fin 256, k.val = 256 * h.val + j.val → HEADS4 (F := Ideal) x (ix2 r k) = HEAD4 (F := Ideal) x h (ix2 r j) := by
    intro h j hk
    unfold HEADS4
    refine concatenate_apply_piece (t := S256x1024) 1 _ _ (ix2 r k) h.val (by exact h.isLt) S256x256 (HEAD4 x h) ?_ rfl (256 * h.val) ?_ (ix2 r j) ?_ hk.symm
    · fin_cases h <;> rfl
    · fin_cases h <;> rfl
    · intro b hb
      fin_cases b
      · rfl
      · exact absurd rfl hb
  rw [hl ⟨k.val / 256, by omega⟩ ⟨k.val % 256, by omega⟩ (by dsimp only; omega), head4_at]
  rfl
theorem heads8_at (x : FVec Ideal S256x1024 .f32) (r : Fin 256) (k : Fin 1024) :
    HEADS8 (F := Ideal) x (ix2 r k) = Y8 (fun i => x (ix2 r i)) k := by
  have hl : ∀ h : Fin 8, ∀ j : Fin 128, k.val = 128 * h.val + j.val → HEADS8 (F := Ideal) x (ix2 r k) = HEAD8 (F := Ideal) x h (ix2 r j) := by
    intro h j hk
    unfold HEADS8
    refine concatenate_apply_piece (t := S256x1024) 1 _ _ (ix2 r k) h.val (by exact h.isLt) S256x128 (HEAD8 x h) ?_ rfl (128 * h.val) ?_ (ix2 r j) ?_ hk.symm
    · fin_cases h <;> rfl
    · fin_cases h <;> rfl
    · intro b hb
      fin_cases b
      · rfl
      · exact absurd rfl hb
  rw [hl ⟨k.val / 128, by omega⟩ ⟨k.val % 128, by omega⟩ (by dsimp only; omega), head8_at]
  rfl

theorem up_at (x : FVec Ideal S256x1024 .bf16) (r : Fin 256) (k : Fin 1024) : UP (F := Ideal) x (ix2 r k) = x (ix2 r k) := by
  pointwise [UP]

theorem gated_at (y : FVec Ideal S256x1024 .f32) (g : FVec Ideal S256x1024 .bf16) (r : Fin 256) (j : Fin 1024) :
    GATED (F := Ideal) y g (ix2 r j) = y (ix2 r j) * SILU (g (ix2 r j)) := by
  pointwise [GATED, UP]
  rfl

theorem term_at (m y : FVec Ideal S256x1024 .bf16) (w : FVec Ideal S1x1024x1024 .bf16) (r : Fin 256) (e : Fin 1024) :
    TERM (F := Ideal) m y w (ix2 r e) = BR (fun e => m (ix2 r e)) (fun k => y (ix2 r k)) (fun k e => w (ix3 0 k e)) e := by
  pointwise [TERM, UP, PROD]
  rfl

theorem stream_at (g : FVec Ideal S256x1024 .f32) (wo : FVec Ideal S1024x1024 .bf16) (x : FVec Ideal S256x1024 .f32) (md : FVec Ideal S1x1x3072 .f32)
    (r : Fin 256) (d : Fin 1024) :
    STREAM (F := Ideal) g wo x md (ix2 r d)
      = STR (fun e => g (ix2 r e)) (fun e d => wo (ix2 e d)) (fun d => x (ix2 r d)) (fun d => md (ix3 0 0 ⟨2048 + d.val, by omega⟩)) d := by
  pointwise [STREAM, PROD]
  rfl

/-- A chunk, row by row. -/
theorem chunk_at (a0 a1 ag b0 b1 bg y m0 m1 m2 : FVec Ideal S256x1024 .bf16) (x : FVec Ideal S256x1024 .f32) (md : FVec Ideal S1x1x3072 .f32)
    (w0 w1 w2 : FVec Ideal S1x1024x1024 .bf16) (wo : FVec Ideal S1024x1024 .bf16) (fg : FVec Ideal S1x1024 .f32) (r : Fin 256) (d : Fin 1024) :
    CHUNK (F := Ideal) a0 a1 ag b0 b1 bg y m0 m1 m2 x md w0 w1 w2 wo fg (ix2 r d)
      = ROW3 (fun k => a0 (ix2 r k) + a1 (ix2 r k)) (fun k => ag (ix2 r k)) (fun k => b0 (ix2 r k) + b1 (ix2 r k)) (fun k => bg (ix2 r k))
          (fun k => y (ix2 r k)) (fun e => m0 (ix2 r e)) (fun e => m1 (ix2 r e)) (fun e => m2 (ix2 r e))
          (fun k e => w0 (ix3 0 k e)) (fun k e => w1 (ix3 0 k e)) (fun k e => w2 (ix3 0 k e)) (fun e d => wo (ix2 e d))
          (fun d => x (ix2 r d)) (fun d => md (ix3 0 0 ⟨2048 + d.val, by omega⟩)) (fun d => fg (ix2 0 d)) d := by
  have hf : broadcastTo S256x1024 (shapeCast S1x1024 fg shapeCasts_S1x1024_S1x1024) broadcasts_S1x1024_S256x1024 (ix2 r d) = fg (ix2 0 d) := by
    pointwise
  have hy : ∀ k, shapeCast S256x1024 y shapeCasts_S256x1024_S256x1024 (ix2 r k) = y (ix2 r k) := by
    intro k
    pointwise
  unfold CHUNK ROW3
  refine congrArg₂ (· * ·) ?_ hf
  rw [norm_at]
  simp only [stream_at]
  refine congrArg (fun g => HN (n := 1024) 0x44800000#32 (STR g _ _ _) d) (funext fun e => ?_)
  refine congrArg₂ (· + ·) (congrArg₂ (· + ·) ?_ ?_) ?_
  · rw [term_at]
    simp only [gated_at, heads4_at]
    congr 1
    funext k
    refine congrArg (Y4 · k * _) (funext fun i => congrArg₂ (· + ·) (up_at a0 r i) (up_at a1 r i))
  · rw [term_at]
    simp only [gated_at, heads8_at]
    congr 1
    funext k
    refine congrArg (Y8 · k * _) (funext fun i => congrArg₂ (· + ·) (up_at b0 r i) (up_at b1 r i))
  · rw [term_at]
    simp only [hy]

end Cert.Mrg
end
-- ==== Proof.MergeBlocks.lean ====
/-
  The merge's grid steps: which entries of the host's arrays each reads, and the entries of its result.
-/
module

public import proofs.«01_k».proof.Proof.MergeRow
public import Idealize.ShloMosaic.Lib.StableHlo.ReadAt

@[expose] public section
noncomputable section
namespace Cert.Mrg
open Cert.Kernel3Ideal Cert.Kernel3Ideal.Gen Idealize.ShloMosaic Idealize.ShloMosaic.TcCoe Idealize.SL.Sem
set_option maxHeartbeats 1000000

/-! ### Where a step's windows stand

Step `t` computes rows `512 t .. 512 t + 511`. -/

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 4] := (by decide +kernel : ∀ t : Fin grid0.N, win0_2.index t = ![t.val, 4])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![t.val, 7] := (by decide +kernel : ∀ t : Fin grid0.N, win0_5.index t = ![t.val, 7])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])
theorem ix_8 : ∀ t : Fin cfg0.N, win0_8.index t = ![t.val, 0] := (by decide +kernel : ∀ t : Fin grid0.N, win0_8.index t = ![t.val, 0])
theorem ix_9 : ∀ t : Fin cfg0.N, win0_9.index t = ![t.val / 8, 0, 0] := (by decide +kernel : ∀ t : Fin grid0.N, win0_9.index t = ![t.val / 8, 0, 0])
theorem ix_10 : ∀ t : Fin cfg0.N, win0_10.index t = ![0, 0, 0] := (by decide +kernel : ∀ t : Fin grid0.N, win0_10.index t = ![0, 0, 0])
theorem ix_11 : ∀ t : Fin cfg0.N, win0_11.index t = ![0, 0] := (by decide +kernel : ∀ t : Fin grid0.N, win0_11.index t = ![0, 0])
theorem ix_12 : ∀ t : Fin cfg0.N, win0_12.index t = ![0, 0] := (by decide +kernel : ∀ t : Fin grid0.N, win0_12.index t = ![0, 0])
theorem ix_13 : ∀ t : Fin cfg0.N, win0_13.index t = ![t.val, 0] := (by decide +kernel : ∀ t : Fin grid0.N, win0_13.index t = ![t.val, 0])

variable (m : (ℓ : Loc nD τ sig) → Buf (Elt Ideal) ℓ) (c : Dev nD)

theorem blk_0 (t : Fin cfg0.N) (r : Fin 512) (j : Fin 1024) (i : S32768x1024.Idx) (h0 : (i 0).val = 512 * t.val + r.val) (h1 : (i 1).val = j.val) :
    iblk m c 0 t (ix2 r j) = V m c main_v38 i := by
  blk_simp [iblk]
  refine congrArg _ (funext fun a => Fin.ext ?_)
  fin_cases a
  · blk_simp [ix_0 t]
    exact (congrArg (· + r.val) (Nat.mul_comm _ _)).trans h0.symm
  · blk_simp [ix_0 t]
    exact h1.symm

theorem blk_1 (t : Fin cfg0.N) (r : Fin 512) (j : Fin 1024) (i : S32768x1024.Idx) (h0 : (i 0).val = 512 * t.val + r.val) (h1 : (i 1).val = j.val) :
    iblk m c 1 t (ix2 r j) = V m c main_v40 i := by
  blk_simp [iblk]
  refine congrArg _ (funext fun a => Fin.ext ?_)
  fin_cases a
  · blk_simp [ix_1 t]
    exact (congrArg (· + r.val) (Nat.mul_comm _ _)).trans h0.symm
  · blk_simp [ix_1 t]
    exact h1.symm

theorem blk_3 (t : Fin cfg0.N) (r : Fin 512) (j : Fin 1024) (i : S32768x1024.Idx) (h0 : (i 0).val = 512 * t.val + r.val) (h1 : (i 1).val = j.val) :
    iblk m c 3 t (ix2 r j) = V m c main_v42 i := by
  blk_simp [iblk]
  refine congrArg _ (funext fun a => Fin.ext ?_)
  fin_cases a
  · blk_simp [ix_3 t]
    exact (congrArg (· + r.val) (Nat.mul_comm _ _)).trans h0.symm
  · blk_simp [ix_3 t]
    exact h1.symm

theorem blk_4 (t : Fin cfg0.N) (r : Fin 512) (j : Fin 1024) (i : S32768x1024.Idx) (h0 : (i 0).val = 512 * t.val + r.val) (h1 : (i 1).val = j.val) :
    iblk m c 4 t (ix2 r j) = V m c main_v44 i := by
  blk_simp [iblk]
  refine congrArg _ (funext fun a => Fin.ext ?_)
  fin_cases a
  · blk_simp [ix_4 t]
    exact (congrArg (· + r.val) (Nat.mul_comm _ _)).trans h0.symm
  · blk_simp [ix_4 t]
    exact h1.symm

theorem blk_6 (t : Fin cfg0.N) (r : Fin 512) (j : Fin 1024) (i : S32768x1024.Idx) (h0 : (i 0).val = 512 * t.val + r.val) (h1 : (i 1).val = j.val) :
    iblk m c 6 t (ix2 r j) = V m c main_v46 i := by
  blk_simp [iblk]
  refine congrArg _ (funext fun a => Fin.ext ?_)
  fin_cases a
  · blk_simp [ix_6 t]
    exact (congrArg (· + r.val) (Nat.mul_comm _ _)).trans h0.symm
  · blk_simp [ix_6 t]
    exact h1.symm

theorem blk_8 (t : Fin cfg0.N) (r : Fin 512) (j : Fin 1024) (i : S32768x1024.Idx) (h0 : (i 0).val = 512 * t.val + r.val) (h1 : (i 1).val = j.val) :
    iblk m c 8 t (ix2 r j) = V m c main_v47 i := by
  blk_simp [iblk]
  refine congrArg _ (funext fun a => Fin.ext ?_)
  fin_cases a
  · blk_simp [ix_8 t]
    exact (congrArg (· + r.val) (Nat.mul_comm _ _)).trans h0.symm
  · blk_simp [ix_8 t]
    exact h1.symm

theorem blk_2 (t : Fin cfg0.N) (r : Fin 512) (j : Fin 1024) (i : S32768x11776.Idx) (h0 : (i 0).val = 512 * t.val + r.val) (h1 : (i 1).val = 4096 + j.val) :
    X0_2 m c t (ix2 r j) = V m c main_v25 i := by
  unfold X0_2 Pipeline.Window.fill
  rw [dif_pos (moved0_2 t _)]
  blk_simp [iblk]
  refine congrArg _ (funext fun a => Fin.ext ?_)
  fin_cases a
  · blk_simp [ix_2 t]
    exact (congrArg (· + r.val) (Nat.mul_comm _ _)).trans h0.symm
  · blk_simp [ix_2 t]
    exact h1.symm

theorem blk_5 (t : Fin cfg0.N) (r : Fin 512) (j : Fin 1024) (i : S32768x11776.Idx) (h0 : (i 0).val = 512 * t.val + r.val) (h1 : (i 1).val = 7168 + j.val) :
    X0_5 m c t (ix2 r j) = V m c main_v25 i := by
  unfold X0_5 Pipeline.Window.fill
  rw [dif_pos (moved0_5 t _)]
  blk_simp [iblk]
  refine congrArg _ (funext fun a => Fin.ext ?_)
  fin_cases a
  · blk_simp [ix_5 t]
    exact (congrArg (· + r.val) (Nat.mul_comm _ _)).trans h0.symm
  · blk_simp [ix_5 t]
    exact h1.symm

theorem blk_7 (t : Fin cfg0.N) (r : Fin 512) (j : Fin 3072) (i : S32768x11776.Idx) (h0 : (i 0).val = 512 * t.val + r.val) (h1 : (i 1).val = j.val) :
    X0_7 m c t (ix2 r j) = V m c main_v25 i := by
  unfold X0_7 Pipeline.Window.fill
  rw [dif_pos (moved0_7 t _)]
  blk_simp [iblk]
  refine congrArg _ (funext fun a => Fin.ext ?_)
  fin_cases a
  · blk_simp [ix_7 t]
    exact (congrArg (· + r.val) (Nat.mul_comm _ _)).trans h0.symm
  · blk_simp [ix_7 t]
    exact h1.symm

theorem blk_9 (t : Fin cfg0.N) (j : Fin 3072) (i : S8x1x3072.Idx) (h0 : (i 0).val = t.val / 8) (h1 : (i 1).val = 0) (h2 : (i 2).val = j.val) :
    iblk m c 9 t (ix3 0 0 j) = V m c main_v48 i := by
  blk_simp [iblk]
  refine congrArg _ (funext fun a => Fin.ext ?_)
  fin_cases a
  · blk_simp [ix_9 t]
    exact h0.symm
  · blk_simp [ix_9 t]
  · blk_simp [ix_9 t]
    exact h2.symm

theorem blk_10 (t : Fin cfg0.N) (n : Fin 3) (k e : Fin 1024) : iblk m c 10 t (ix3 n k e) = V m c main_v52 (ix3 n k e) := by
  blk_simp [iblk]
  refine congrArg _ (funext fun a => Fin.ext ?_)
  fin_cases a <;> blk_simp [ix_10 t]

theorem blk_11 (t : Fin cfg0.N) (k e : Fin 1024) : iblk m c 11 t (ix2 k e) = V m c main_v53 (ix2 k e) := by
  blk_simp [iblk]
  refine congrArg _ (funext fun a => Fin.ext ?_)
  fin_cases a <;> blk_simp [ix_11 t]

theorem blk_12 (t : Fin cfg0.N) (e : Fin 1024) : iblk m c 12 t (ix2 0 e) = V m c main_v54 (ix2 0 e) := by
  blk_simp [iblk]
  refine congrArg _ (funext fun a => Fin.ext ?_)
  fin_cases a <;> blk_simp [ix_12 t]

/-- The output array holds `G` when each step leaves `G`'s entries in its block. -/
theorem out_eq (G : S32768x1024.Idx → EReal)
    (h : ∀ (t : Fin cfg0.N) (r : Fin 512) (j : Fin 1024) (i : S32768x1024.Idx), (i 0).val = 512 * t.val + r.val →
      (i 1).val = j.val → outsAt0 m c t (ix2 r j) = G i) :
    (dats m 0 c).arrAt 13 cfg0.N = G := by
  refine (dats m 0 c).arrAt_eq_of_covers 13 _ (by decide +kernel) fun t hf y => ?_
  blk_simp
  rw [after0_13]
  have hy : y = ix2 (y 0) (y 1) := by funext a; fin_cases a <;> rfl
  refine (congrArg (outsAt0 m c t) hy).trans (h t (y 0) (y 1) _ ?_ ?_)
  · blk_simp [ix_13 t]
    exact congrArg (· + (y 0).val) (Nat.mul_comm _ _)
  · blk_simp [ix_13 t]

/-! ### A half's entries -/

theorem ldR_at {e : EltTy} (x : Vec Ideal S512x1024 e) (a : Fin 2) (r : Fin 256) (k : Fin 1024) :
    ldR x a (ix2 r k) = x (ix2 ⟨256 * a.val + r.val, by omega⟩ k) := by
  refine View.ld_unit_apply_of _ _ _ _ _ (ix2 ⟨256 * a.val + r.val, by omega⟩ k) ?_
  intro d; fin_cases d
  · rfl
  · exact (Nat.zero_add _).symm
theorem ldM_at (x : Vec Ideal S512x3072 .bf16) (a : Fin 2) (n : Fin 3) (r : Fin 256) (k : Fin 1024) :
    ldM x a n (ix2 r k) = x (ix2 ⟨256 * a.val + r.val, by omega⟩ ⟨1024 * n.val + k.val, by omega⟩) := by
  refine View.ld_unit_apply_of _ _ _ _ _ (ix2 ⟨256 * a.val + r.val, by omega⟩ ⟨1024 * n.val + k.val, by omega⟩) ?_
  intro d; fin_cases d
  · rfl
  · rfl
theorem ldW_at (x : Vec Ideal S3x1024x1024 .bf16) (n : Fin 3) (k e : Fin 1024) : ldW x n (ix3 0 k e) = x (ix3 n k e) := by
  refine View.ld_unit_apply_of _ _ _ _ _ (ix3 n k e) ?_
  intro d; fin_cases d
  · rfl
  · exact (Nat.zero_add _).symm
  · exact (Nat.zero_add _).symm

theorem two_zero : (![0, 0] : Fin 2 → ℕ) = fun _ => 0 := by
  funext a
  fin_cases a <;> rfl
theorem three_zero : (![0, 0, 0] : Fin 3 → ℕ) = fun _ => 0 := by
  funext a
  fin_cases a <;> rfl

/-- The formula on the rows of a step's blocks. -/
def BLK (x0 x1 x2 x3 x4 x5 x6 : Vec Ideal S512x1024 .bf16) (x7 : Vec Ideal S512x3072 .bf16) (x8 : Vec Ideal S512x1024 .f32) (x9 : Vec Ideal S1x1x3072 .f32)
    (x10 : Vec Ideal S3x1024x1024 .bf16) (x11 : Vec Ideal S1024x1024 .bf16) (x12 : Vec Ideal S1x1024 .f32) (q : Fin 512) (d : Fin 1024) : EReal :=
  ROW3 (fun k => x0 (ix2 q k) + x1 (ix2 q k)) (fun k => x2 (ix2 q k)) (fun k => x3 (ix2 q k) + x4 (ix2 q k)) (fun k => x5 (ix2 q k))
    (fun k => x6 (ix2 q k)) (fun e => x7 (ix2 q ⟨1024 * (0 : Fin 3).val + e.val, by omega⟩)) (fun e => x7 (ix2 q ⟨1024 * (1 : Fin 3).val + e.val, by omega⟩))
    (fun e => x7 (ix2 q ⟨1024 * (2 : Fin 3).val + e.val, by omega⟩))
    (fun k e => x10 (ix3 0 k e)) (fun k e => x10 (ix3 1 k e)) (fun k e => x10 (ix3 2 k e)) (fun e d => x11 (ix2 e d))
    (fun d => x8 (ix2 q d)) (fun d => x9 (ix3 0 0 ⟨2048 + d.val, by omega⟩)) (fun d => x12 (ix2 0 d)) d

theorem half_at (x0 x1 x2 x3 x4 x5 x6 : Vec Ideal S512x1024 .bf16) (x7 : Vec Ideal S512x3072 .bf16) (x8 : Vec Ideal S512x1024 .f32) (x9 : Vec Ideal S1x1x3072 .f32)
    (x10 : Vec Ideal S3x1024x1024 .bf16) (x11 : Vec Ideal S1024x1024 .bf16) (x12 : Vec Ideal S1x1024 .f32) (a : Fin 2) (r : Fin 256) (d : Fin 1024) :
    HALF (F := Ideal) x0 x1 x2 x3 x4 x5 x6 x7 x8 x9 x10 x11 x12 a (ix2 r d)
      = BLK x0 x1 x2 x3 x4 x5 x6 x7 x8 x9 x10 x11 x12 ⟨256 * a.val + r.val, by omega⟩ d := by
  unfold HALF BLK
  rw [chunk_at]
  rw [View.ld_unit_zero (S := S1x1x3072) three_zero, View.ld_unit_zero (S := S1024x1024) two_zero, View.ld_unit_zero (S := S1x1024) two_zero]
  simp only [ldR_at, ldM_at, ldW_at]

/-- What a step leaves, entry by entry. -/
theorem step_at (t : Fin cfg0.N) (q : Fin 512) (d : Fin 1024) :
    outsAt0 m c t (ix2 q d) = BLK (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t) (iblk m c 12 t) q d := by
  unfold outsAt0
  rw [out_halves]
  have hq := q.isLt
  refine View.canon_ofFn_unit_eq_of_forall _ _ _ _ _ _ ?_ fun k x hx => ?_
  · by_cases h : q.val < 256
    · refine ⟨1, fun a => ?_⟩
      fin_cases a
      · exact ⟨Nat.zero_le _, h⟩
      · exact ⟨Nat.zero_le _, lt_of_lt_of_eq d.isLt (Nat.zero_add _).symm⟩
    · refine ⟨0, fun a => ?_⟩
      fin_cases a
      · exact ⟨not_lt.mp h, hq⟩
      · exact ⟨Nat.zero_le _, lt_of_lt_of_eq d.isLt (Nat.zero_add _).symm⟩
  · have h2 : q.val = 256 * (1 - k : Fin 2).val + (x 0).val := hx 0
    have h3 : d.val = 0 + (x 1).val := hx 1
    have hx1 : x 1 = d := Fin.ext (by omega)
    have hxe : x = ix2 (x 0) (x 1) := by funext a; fin_cases a <;> rfl
    refine (congrArg _ hxe).trans ((half_at _ _ _ _ _ _ _ _ _ _ _ _ _ (1 - k) (x 0) (x 1)).trans ?_)
    rw [hx1]
    congr 1
    exact Fin.ext h2.symm

end Cert.Mrg
end
-- ==== Proof.MergeKernel.lean ====
/-
  The merge's kernel: the host's arrays from the arguments, and every entry of the result.
-/
module

public import proofs.«01_k».proof.Proof.MergeBlocks

@[expose] public section
noncomputable section
namespace Cert.Mrg
open Cert.Kernel3Ideal Cert.Kernel3Ideal.Gen Idealize.ShloMosaic Idealize.ShloMosaic.TcCoe Idealize.SL.Sem
set_option maxHeartbeats 1000000

/-- Row `R`'s batch entry and position. -/
def BAT (R : Fin 32768) : Fin 8 := ⟨R.val / 4096, by omega⟩
def POS (R : Fin 32768) : Fin 4096 := ⟨R.val % 4096, by omega⟩

theorem one_word : Ideal.ofBits .f32 0x3F800000#32 = 1 := by
  simp [Ideal.ofBits, Ideal.ieee, -EReal.coe_mul]
  norm_num

/-- The gain of branch `n`'s column `k`: the head norms' gains repeated, and one. -/
def GAIN (A8 : S256.Idx → EReal) (A9 : S128.Idx → EReal) (n : Fin 3) (k : Fin 1024) : EReal :=
  match n with
  | 0 => A8 (ix1 ⟨k.val % 256, Nat.mod_lt _ (by decide)⟩)
  | 1 => A9 (ix1 ⟨k.val % 128, Nat.mod_lt _ (by decide)⟩)
  | 2 => 1

/-- Branch `n`'s matrix with its gain on the rows. -/
def WB (A10 : S3x1024x1024.Idx → EReal) (A8 : S256.Idx → EReal) (A9 : S128.Idx → EReal) (n : Fin 3) (k e : Fin 1024) : EReal :=
  A10 (ix3 n k e) * GAIN A8 A9 n k

/-- The merge's result from its arguments. -/
def RESM (A0 A1 A2 A3 A4 : S8x4096x1024.Idx → EReal) (A5 : S8x4096x13856.Idx → EReal) (A6 : S8x4096x1024.Idx → EReal) (A7 : S8x3072.Idx → EReal)
    (A8 : S256.Idx → EReal) (A9 : S128.Idx → EReal) (A10 : S3x1024x1024.Idx → EReal) (A11 : S1024x1024.Idx → EReal) (A12 : S1024.Idx → EReal)
    (R : Fin 32768) (d : Fin 1024) : EReal :=
  ROW3 (fun k => A0 (ix3 (BAT R) (POS R) k) + A1 (ix3 (BAT R) (POS R) k)) (fun k => A5 (ix3 (BAT R) (POS R) ⟨2048 + k.val, by omega⟩))
    (fun k => A2 (ix3 (BAT R) (POS R) k) + A3 (ix3 (BAT R) (POS R) k)) (fun k => A5 (ix3 (BAT R) (POS R) ⟨7200 + k.val, by omega⟩))
    (fun k => A4 (ix3 (BAT R) (POS R) k))
    (fun e => A5 (ix3 (BAT R) (POS R) ⟨10784 + (1024 * (0 : Fin 3).val + e.val), by omega⟩))
    (fun e => A5 (ix3 (BAT R) (POS R) ⟨10784 + (1024 * (1 : Fin 3).val + e.val), by omega⟩))
    (fun e => A5 (ix3 (BAT R) (POS R) ⟨10784 + (1024 * (2 : Fin 3).val + e.val), by omega⟩))
    (WB A10 A8 A9 0) (WB A10 A8 A9 1) (WB A10 A8 A9 2)
    (fun e d => A11 (ix2 e d)) (fun d => A6 (ix3 (BAT R) (POS R) d)) (fun d => A7 (ix2 (BAT R) ⟨2048 + d.val, by omega⟩)) (fun d => A12 (ix1 d)) d

theorem rows_at {n : ℕ} (A : (⟨3, ![8, 4096, n]⟩ : Shape).Idx → EReal) (h : Shape.ShapeCasts ⟨3, ![8, 4096, n]⟩ ⟨2, ![32768, n]⟩) (R : Fin 32768) (k : Fin n) :
    shapeCast ⟨2, ![32768, n]⟩ A h (ix2 R k) = A (ix3 (BAT R) (POS R) k) :=
  shapeCast_apply _ _ (ix2 R k) _ (by
    rw [Shape.rowMajor_val_three, Shape.rowMajor_val_two]
    show (R.val / 4096 * 4096 + R.val % 4096) * n + k.val = R.val * n + k.val
    congr 2
    omega)

theorem cast_at {s : Shape} (x : s.Idx → EReal) (h : FTy.bf16.bits < FTy.f32.bits) (i : s.Idx) : truncf (F := Ideal) .bf16 x h i = x i := rfl

theorem weight_at (A G : S3x1024x1024.Idx → EReal) (g : EReal) (h : FTy.bf16.bits < FTy.f32.bits) (i : S3x1024x1024.Idx) (hg : G i = g) :
    truncf (F := Ideal) .bf16 (mulf (F := Ideal) (φ := .f32) A G) h i = A i * g := congrArg (A i * ·) hg

theorem mod_at (A : S8x3072.Idx → EReal) (b : Fin 8) (k : Fin 3072) : shapeCast S8x1x3072 A shapeCasts_S8x3072_S8x1x3072 (ix3 b 0 k) = A (ix2 b k) :=
  shapeCast_apply _ _ (ix3 b 0 k) _ (by
    rw [Shape.rowMajor_val_three, Shape.rowMajor_val_two]
    show b.val * 3072 + k.val = (b.val * 1 + 0) * 3072 + k.val
    omega)

theorem cols_at {n : ℕ} (o : ℕ) (A : S8x4096x13856.Idx → EReal) (hs : S32768x13856.Slices ![0, o] ⟨2, ![32768, n]⟩) (ho : o + n ≤ 13856)
    (R : Fin 32768) (j : Fin n) :
    extractStridedSlice ⟨2, ![32768, n]⟩ ![0, o] (shapeCast S32768x13856 A shapeCasts_S8x4096x13856_S32768x13856) hs (ix2 R j)
      = A (ix3 (BAT R) (POS R) ⟨o + j.val, by omega⟩) :=
  (extractStridedSlice_apply ![0, o] _ hs (ix2 R j) (ix2 R ⟨o + j.val, by omega⟩)
      (by intro a; fin_cases a
          · exact (Nat.zero_add _).symm
          · rfl)).trans (rows_at A _ R _)

theorem cat_at {n : ℕ} (xs : List ((s : Shape) × (s.Idx → EReal))) (h : Shape.Concatenates (xs.map (·.1)) S32768x11776 1)
    (R : Fin 32768) (q : Fin 11776) (k : ℕ) (hk : k < xs.length) (x : (⟨2, ![32768, n]⟩ : Shape).Idx → EReal)
    (hx : xs[k] = ⟨⟨2, ![32768, n]⟩, x⟩) (pre : ℕ)
    (hpre : (((xs.take k).map (·.1)).map fun s => if h : s.rank = 2 then s.size ((1 : Fin 2).cast h.symm) else 0).sum = pre)
    (j : Fin n) (hq : q.val = pre + j.val) :
    concatenate S32768x11776 1 xs h (ix2 R q) = x (ix2 R j) := by
  refine concatenate_apply_piece (t := S32768x11776) 1 xs h (ix2 R q) k hk _ x hx rfl pre hpre (ix2 R j) ?_ hq.symm
  intro b hb
  fin_cases b
  · rfl
  · exact absurd rfl hb

theorem stack_at (x : Fin 3 → S1x1024.Idx → EReal) (n : Fin 3) (k : Fin 1024) :
    concatenate S3x1024 0 [⟨S1x1024, x 0⟩, ⟨S1x1024, x 1⟩, ⟨S1x1024, x 2⟩] concatenates_S1x1024_S1x1024_S1x1024_S3x1024_d0 (ix2 n k) = x n (ix2 0 k) :=
  concatenate_apply_piece (t := S3x1024) 0 _ _ (ix2 n k) n.val (by exact n.isLt) S1x1024 (x n) (by fin_cases n <;> rfl) rfl n.val (by fin_cases n <;> rfl) (ix2 0 k)
    (by intro b hb
        fin_cases b
        · exact absurd rfl hb
        · rfl) (Nat.add_zero _)

theorem tile_4 (A8 : S256.Idx → EReal) (k : Fin 1024) :
    broadcastInDim S1x1024 ![1] bcast_S1024_S1x1024_1
      (shapeCast S1024 (broadcastInDim S4x256 ![0, 1] bcast_S1x256_S4x256_0_1 (shapeCast S1x256 A8 shapeCasts_S256_S1x256)) shapeCasts_S4x256_S1024) (ix2 0 k)
      = A8 (ix1 ⟨k.val % 256, Nat.mod_lt _ (by decide)⟩) := by
  have e := shapeCast_apply (broadcastInDim S4x256 ![0, 1] bcast_S1x256_S4x256_0_1 (shapeCast S1x256 A8 shapeCasts_S256_S1x256))
    shapeCasts_S4x256_S1024 (ix1 k) (ix2 ⟨k.val / 256, by omega⟩ ⟨k.val % 256, by omega⟩) (by
      rw [Shape.rowMajor_val_two, Shape.rowMajor_val_one]
      show k.val / 256 * 256 + k.val % 256 = k.val
      omega)
  have e2 : (broadcastInDim S4x256 ![0, 1] bcast_S1x256_S4x256_0_1 (shapeCast S1x256 A8 shapeCasts_S256_S1x256)) (ix2 ⟨k.val / 256, by omega⟩ ⟨k.val % 256, by omega⟩)
      = A8 (ix1 ⟨k.val % 256, Nat.mod_lt _ (by decide)⟩) := by
    pointwise
  generalize shapeCast S1024 _ shapeCasts_S4x256_S1024 = y at e ⊢
  refine Eq.trans ?_ (e.trans e2)
  pointwise

theorem tile_8 (A9 : S128.Idx → EReal) (k : Fin 1024) :
    broadcastInDim S1x1024 ![1] bcast_S1024_S1x1024_1
      (shapeCast S1024 (broadcastInDim S8x128 ![0, 1] bcast_S1x128_S8x128_0_1 (shapeCast S1x128 A9 shapeCasts_S128_S1x128)) shapeCasts_S8x128_S1024) (ix2 0 k)
      = A9 (ix1 ⟨k.val % 128, Nat.mod_lt _ (by decide)⟩) := by
  have e := shapeCast_apply (broadcastInDim S8x128 ![0, 1] bcast_S1x128_S8x128_0_1 (shapeCast S1x128 A9 shapeCasts_S128_S1x128))
    shapeCasts_S8x128_S1024 (ix1 k) (ix2 ⟨k.val / 128, by omega⟩ ⟨k.val % 128, by omega⟩) (by
      rw [Shape.rowMajor_val_two, Shape.rowMajor_val_one]
      show k.val / 128 * 128 + k.val % 128 = k.val
      omega)
  have e2 : (broadcastInDim S8x128 ![0, 1] bcast_S1x128_S8x128_0_1 (shapeCast S1x128 A9 shapeCasts_S128_S1x128)) (ix2 ⟨k.val / 128, by omega⟩ ⟨k.val % 128, by omega⟩)
      = A9 (ix1 ⟨k.val % 128, Nat.mod_lt _ (by decide)⟩) := by
    pointwise
  generalize shapeCast S1024 _ shapeCasts_S8x128_S1024 = y at e ⊢
  refine Eq.trans ?_ (e.trans e2)
  pointwise

/-- The gains' rows as the host makes them. -/
def GROW (A8 : S256.Idx → EReal) (A9 : S128.Idx → EReal) : Fin 3 → S1x1024.Idx → EReal
  | 0 => broadcastInDim S1x1024 ![1] bcast_S1024_S1x1024_1
      (shapeCast S1024 (broadcastInDim S4x256 ![0, 1] bcast_S1x256_S4x256_0_1 (shapeCast S1x256 A8 shapeCasts_S256_S1x256)) shapeCasts_S4x256_S1024)
  | 1 => broadcastInDim S1x1024 ![1] bcast_S1024_S1x1024_1
      (shapeCast S1024 (broadcastInDim S8x128 ![0, 1] bcast_S1x128_S8x128_0_1 (shapeCast S1x128 A9 shapeCasts_S128_S1x128)) shapeCasts_S8x128_S1024)
  | 2 => broadcastInDim S1x1024 ![1] bcast_S1024_S1x1024_1 (broadcastInDim S1024 ![] bcast_S_S1024 (constant (F := Ideal) S_ .f32 0x3F800000#32))

theorem grow_at (A8 : S256.Idx → EReal) (A9 : S128.Idx → EReal) (n : Fin 3) (k : Fin 1024) : GROW A8 A9 n (ix2 0 k) = GAIN A8 A9 n k := by
  fin_cases n
  · exact tile_4 A8 k
  · exact tile_8 A9 k
  · refine Eq.trans ?_ one_word
    show broadcastInDim S1x1024 ![1] bcast_S1024_S1x1024_1 (broadcastInDim S1024 ![] bcast_S_S1024 (constant (F := Ideal) S_ .f32 0x3F800000#32)) (ix2 0 k) = _
    pointwise

/-- The gains spread over a matrix's columns. -/
theorem spread_at (x : S3x1024.Idx → EReal) (n : Fin 3) (k e : Fin 1024) :
    broadcastInDim S3x1024x1024 ![0, 1, 2] bcast_S3x1024x1_S3x1024x1024_0_1_2 (broadcastInDim S3x1024x1 ![0, 1] bcast_S3x1024_S3x1024x1_0_1 x) (ix3 n k e)
      = x (ix2 n k) := by
  pointwise

variable (m : (ℓ : Loc nD τ sig) → Buf (Elt Ideal) ℓ) (c : Dev nD)

theorem v38 (R : Fin 32768) (k : Fin 1024) : V m c main_v38 (ix2 R k) = m (c, Proc.devRef .tc main_arg0) (ix3 (BAT R) (POS R) k) := by
  unfold V
  after_reads_simp
  exact rows_at _ _ R k
theorem v40 (R : Fin 32768) (k : Fin 1024) : V m c main_v40 (ix2 R k) = m (c, Proc.devRef .tc main_arg1) (ix3 (BAT R) (POS R) k) := by
  unfold V
  after_reads_simp
  exact rows_at _ _ R k
theorem v42 (R : Fin 32768) (k : Fin 1024) : V m c main_v42 (ix2 R k) = m (c, Proc.devRef .tc main_arg2) (ix3 (BAT R) (POS R) k) := by
  unfold V
  after_reads_simp
  exact rows_at _ _ R k
theorem v44 (R : Fin 32768) (k : Fin 1024) : V m c main_v44 (ix2 R k) = m (c, Proc.devRef .tc main_arg3) (ix3 (BAT R) (POS R) k) := by
  unfold V
  after_reads_simp
  exact rows_at _ _ R k
theorem v46 (R : Fin 32768) (k : Fin 1024) : V m c main_v46 (ix2 R k) = m (c, Proc.devRef .tc main_arg4) (ix3 (BAT R) (POS R) k) := by
  unfold V
  after_reads_simp
  exact rows_at _ _ R k
theorem v47 (R : Fin 32768) (k : Fin 1024) : V m c main_v47 (ix2 R k) = m (c, Proc.devRef .tc main_arg6) (ix3 (BAT R) (POS R) k) := by
  unfold V
  after_reads_simp
  exact rows_at _ _ R k
theorem v48 (b : Fin 8) (k : Fin 3072) : V m c main_v48 (ix3 b 0 k) = m (c, Proc.devRef .tc main_arg7) (ix2 b k) := by
  unfold V
  after_reads_simp
  exact mod_at _ b k
theorem v54 (k : Fin 1024) : V m c main_v54 (ix2 0 k) = m (c, Proc.devRef .tc main_arg12) (ix1 k) := by
  unfold V
  after_reads_simp
  pointwise
theorem v53 (k e : Fin 1024) : V m c main_v53 (ix2 k e) = m (c, Proc.devRef .tc main_arg11) (ix2 k e) := by
  unfold V
  after_reads_simp
  rfl
theorem v52 (n : Fin 3) (k e : Fin 1024) : V m c main_v52 (ix3 n k e) = WB (m (c, Proc.devRef .tc main_arg10)) (m (c, Proc.devRef .tc main_arg8))
    (m (c, Proc.devRef .tc main_arg9)) n k e := by
  unfold V
  after_reads_simp
  refine weight_at _ _ (GAIN (m (c, Proc.devRef .tc main_arg8)) (m (c, Proc.devRef .tc main_arg9)) n k) _ (ix3 n k e) ((spread_at _ n k e).trans ?_)
  dsimp only [Matrix.cons_val]
  after_reads_simp
  exact (stack_at (GROW (m (c, Proc.devRef .tc main_arg8)) (m (c, Proc.devRef .tc main_arg9))) n k).trans (grow_at _ _ n k)
theorem v25_mg (R : Fin 32768) (j : Fin 3072) (q : Fin 11776) (hq : q.val = j.val) :
    V m c main_v25 (ix2 R q) = m (c, Proc.devRef .tc main_arg5) (ix3 (BAT R) (POS R) ⟨10784 + j.val, by omega⟩) := by
  unfold V
  after_reads_simp
  refine (cast_at _ _ (ix2 R q)).trans ?_
  refine (cat_at _ (by exact concatenates_S32768x3072_S32768x1024_S32768x1024_S32768x1024_S32768x1024_S32768x1024_S32768x1024_S32768x1024_S32768x512_S32768x512_S32768x256_S32768x256_S32768x11776_d1)
    R q 0 (by exact (by decide : 0 < 12)) _ rfl 0 (by rfl) j (hq.trans (Nat.zero_add _).symm)).trans ?_
  dsimp only [Matrix.cons_val]
  after_reads_simp
  exact cols_at 10784 _ _ (by decide) R j
theorem v25_ga (R : Fin 32768) (j : Fin 1024) (q : Fin 11776) (hq : q.val = 4096 + j.val) :
    V m c main_v25 (ix2 R q) = m (c, Proc.devRef .tc main_arg5) (ix3 (BAT R) (POS R) ⟨2048 + j.val, by omega⟩) := by
  unfold V
  after_reads_simp
  refine (cast_at _ _ (ix2 R q)).trans ?_
  refine (cat_at _ (by exact concatenates_S32768x3072_S32768x1024_S32768x1024_S32768x1024_S32768x1024_S32768x1024_S32768x1024_S32768x1024_S32768x512_S32768x512_S32768x256_S32768x256_S32768x11776_d1)
    R q 2 (by exact (by decide : 2 < 12)) _ rfl 4096 (by rfl) j hq).trans ?_
  dsimp only [Matrix.cons_val]
  after_reads_simp
  exact cols_at 2048 _ _ (by decide) R j
theorem v25_hg (R : Fin 32768) (j : Fin 1024) (q : Fin 11776) (hq : q.val = 7168 + j.val) :
    V m c main_v25 (ix2 R q) = m (c, Proc.devRef .tc main_arg5) (ix3 (BAT R) (POS R) ⟨7200 + j.val, by omega⟩) := by
  unfold V
  after_reads_simp
  refine (cast_at _ _ (ix2 R q)).trans ?_
  refine (cat_at _ (by exact concatenates_S32768x3072_S32768x1024_S32768x1024_S32768x1024_S32768x1024_S32768x1024_S32768x1024_S32768x1024_S32768x512_S32768x512_S32768x256_S32768x256_S32768x11776_d1)
    R q 5 (by exact (by decide : 5 < 12)) _ rfl 7168 (by simp) j hq).trans ?_
  dsimp only [Matrix.cons_val]
  after_reads_simp
  exact cols_at 7200 _ _ (by decide) R j

theorem row3_congr {a a' ag ag' b b' bg bg' y y' m0 m0' m1 m1' m2 m2' x x' md md' fg fg' : Fin 1024 → EReal} {W0 W0' W1 W1' W2 W2' WO WO' : Fin 1024 → Fin 1024 → EReal}
    (ha : ∀ k, a k = a' k) (hag : ∀ k, ag k = ag' k) (hb : ∀ k, b k = b' k) (hbg : ∀ k, bg k = bg' k) (hy : ∀ k, y k = y' k) (hm0 : ∀ k, m0 k = m0' k) (hm1 : ∀ k, m1 k = m1' k) (hm2 : ∀ k, m2 k = m2' k)
    (hW0 : ∀ k e, W0 k e = W0' k e) (hW1 : ∀ k e, W1 k e = W1' k e) (hW2 : ∀ k e, W2 k e = W2' k e) (hWO : ∀ k e, WO k e = WO' k e)
    (hx : ∀ k, x k = x' k) (hmd : ∀ k, md k = md' k) (hfg : ∀ k, fg k = fg' k) (d : Fin 1024) :
    ROW3 a ag b bg y m0 m1 m2 W0 W1 W2 WO x md fg d = ROW3 a' ag' b' bg' y' m0' m1' m2' W0' W1' W2' WO' x' md' fg' d := by
  rw [funext ha, funext hag, funext hb, funext hbg, funext hy, funext hm0, funext hm1, funext hm2, funext hx, funext hmd, funext hfg, funext fun k => funext (hW0 k), funext fun k => funext (hW1 k), funext fun k => funext (hW2 k), funext fun k => funext (hWO k)]

theorem kernel_value : (dats m 0 c).arrAt 13 cfg0.N = fun i : S32768x1024.Idx =>
    RESM (m (c, Proc.devRef .tc main_arg0)) (m (c, Proc.devRef .tc main_arg1)) (m (c, Proc.devRef .tc main_arg2)) (m (c, Proc.devRef .tc main_arg3))
      (m (c, Proc.devRef .tc main_arg4)) (m (c, Proc.devRef .tc main_arg5)) (m (c, Proc.devRef .tc main_arg6)) (m (c, Proc.devRef .tc main_arg7))
      (m (c, Proc.devRef .tc main_arg8)) (m (c, Proc.devRef .tc main_arg9)) (m (c, Proc.devRef .tc main_arg10)) (m (c, Proc.devRef .tc main_arg11))
      (m (c, Proc.devRef .tc main_arg12)) (i 0) (i 1) := by
  refine out_eq m c _ fun t q d i h0 h1 => ?_
  have ht : t.val < 64 := t.isLt
  obtain ⟨R, d', rfl⟩ : ∃ R j, i = ix2 R j := ⟨i 0, i 1, (ix2_eta i).symm⟩
  have h0 : R.val = 512 * t.val + q.val := h0
  obtain rfl : d' = d := Fin.ext h1
  rw [step_at]
  show _ = RESM _ _ _ _ _ _ _ _ _ _ _ _ _ R d'
  have hb : t.val / 8 = R.val / 4096 := by omega
  unfold BLK RESM
  have hR : 512 * t.val + q.val = R.val := h0.symm
  refine row3_congr (fun k => ?_) (fun k => ?_) (fun k => ?_) (fun k => ?_) (fun k => ?_) (fun k => ?_) (fun k => ?_) (fun k => ?_)
    (fun k e => ?_) (fun k e => ?_) (fun k e => ?_) (fun k e => ?_) (fun k => ?_) (fun k => ?_) (fun k => ?_) d'
  · exact congrArg₂ (· + ·) ((blk_0 m c t q k (ix2 R k) h0 rfl).trans (v38 m c R k)) ((blk_1 m c t q k (ix2 R k) h0 rfl).trans (v40 m c R k))
  · exact (blk_2 m c t q k (ix2 R ⟨4096 + k.val, by omega⟩) h0 rfl).trans (v25_ga m c R k _ rfl)
  · exact congrArg₂ (· + ·) ((blk_3 m c t q k (ix2 R k) h0 rfl).trans (v42 m c R k)) ((blk_4 m c t q k (ix2 R k) h0 rfl).trans (v44 m c R k))
  · exact (blk_5 m c t q k (ix2 R ⟨7168 + k.val, by omega⟩) h0 rfl).trans (v25_hg m c R k _ rfl)
  · exact (blk_6 m c t q k (ix2 R k) h0 rfl).trans (v46 m c R k)
  · exact (blk_7 m c t q ⟨1024 * (0 : Fin 3).val + k.val, by omega⟩ (ix2 R ⟨1024 * (0 : Fin 3).val + k.val, by omega⟩) h0 rfl).trans (v25_mg m c R ⟨1024 * (0 : Fin 3).val + k.val, by omega⟩ _ rfl)
  · exact (blk_7 m c t q ⟨1024 * (1 : Fin 3).val + k.val, by omega⟩ (ix2 R ⟨1024 * (1 : Fin 3).val + k.val, by omega⟩) h0 rfl).trans (v25_mg m c R ⟨1024 * (1 : Fin 3).val + k.val, by omega⟩ _ rfl)
  · exact (blk_7 m c t q ⟨1024 * (2 : Fin 3).val + k.val, by omega⟩ (ix2 R ⟨1024 * (2 : Fin 3).val + k.val, by omega⟩) h0 rfl).trans (v25_mg m c R ⟨1024 * (2 : Fin 3).val + k.val, by omega⟩ _ rfl)
  · exact (blk_10 m c t 0 k e).trans (v52 m c 0 k e)
  · exact (blk_10 m c t 1 k e).trans (v52 m c 1 k e)
  · exact (blk_10 m c t 2 k e).trans (v52 m c 2 k e)
  · exact (blk_11 m c t k e).trans (v53 m c k e)
  · exact (blk_8 m c t q k (ix2 R k) h0 rfl).trans (v47 m c R k)
  · exact (blk_9 m c t ⟨2048 + k.val, by omega⟩ (ix3 (BAT R) 0 ⟨2048 + k.val, by omega⟩) hb.symm rfl rfl).trans (v48 m c (BAT R) _)
  · exact (blk_12 m c t k).trans (v54 m c k)

end Cert.Mrg
end
-- ==== Proof.MergeRef.lean ====
/-
  The merge's reference: every entry of its result is the same formula of the arguments.
-/
module

public import proofs.«01_k».proof.Proof.MergeKernel
public import proofs.«01_k».proof.Proof.Gen.Reference3Ideal.Read

@[expose] public section
noncomputable section
namespace Cert.MrgRef
open Cert.Reference3Ideal Cert.Reference3Ideal.Gen Cert.Reference3Ideal.Read Idealize.ShloMosaic Cert.Mrg
set_option maxHeartbeats 1000000

variable (A0 A1 A2 A3 A4 : S8x4096x1024.Idx → EReal) (A5 : S8x4096x13856.Idx → EReal) (A6 : S8x4096x1024.Idx → EReal) (A7 : S8x3072.Idx → EReal)
  (A8 : S256.Idx → EReal) (A9 : S128.Idx → EReal) (A10 : S3x1024x1024.Idx → EReal) (A11 : S1024x1024.Idx → EReal) (A12 : S1024.Idx → EReal)

theorem zero_word : Ideal.ofBits .f32 0x00000000#32 = 0 := by simp [Ideal.ofBits, Ideal.ieee]

/-! ### The two mixers with head norms -/

theorem v15_at (b : Fin 8) (t : Fin 4096) (h : Fin 4) (j : Fin 256) : val_main_v15 (F := Ideal) A0 A1 (ix4 b t h j)
    = A0 (ix3 b t ⟨256 * h.val + j.val, by omega⟩) + A1 (ix3 b t ⟨256 * h.val + j.val, by omega⟩) := by
  unfold val_main_v15
  exact shapeCast_apply (val_main_v14 (F := Ideal) A0 A1) _ (ix4 b t h j) (ix3 b t ⟨256 * h.val + j.val, by omega⟩) (by
    rw [Shape.rowMajor_val_three, Shape.rowMajor_val_four]
    show (b.val * 4096 + t.val) * 1024 + (256 * h.val + j.val) = ((b.val * 4096 + t.val) * 4 + h.val) * 256 + j.val
    omega)

theorem v17_at (b : Fin 8) (t : Fin 4096) (h : Fin 4) : val_main_v17 (F := Ideal) A0 A1 (ix3 b t h)
    = ∑ j : Fin 256, val_main_v15 (F := Ideal) A0 A1 (ix4 b t h j) * val_main_v15 (F := Ideal) A0 A1 (ix4 b t h j) := by
  rw [val_main_v17_apply]
  refine (congrArg (· + _) zero_word).trans ((zero_add _).trans (Finset.sum_congr rfl fun j _ => ?_))
  have e : idx_main_v17 (ix3 b t h) j = ix4 b t h j := by funext a; fin_cases a <;> rfl
  rw [e]
  rfl

theorem v25_at (b : Fin 8) (t : Fin 4096) (h : Fin 4) (j : Fin 256) : val_main_v25 (F := Ideal) A0 A1 (ix4 b t h j)
    = HN (n := 256) 0x43800000#32 (fun i => val_main_v15 (F := Ideal) A0 A1 (ix4 b t h i)) j := by
  pointwise [val_main_v25, val_main_v24, val_main_v23, val_main_v22, val_main_v21, val_main_v20, val_main_v19, val_main_v18, val_main_cst_0, val_main_cst_1]
  rw [v17_at]
  rfl

theorem v31_at (b : Fin 8) (t : Fin 4096) (k : Fin 1024) : val_main_v31 (F := Ideal) A0 A1 A5 A8 (ix3 b t k)
    = (Y4 (fun i => A0 (ix3 b t i) + A1 (ix3 b t i)) k * A8 (ix1 ⟨k.val % 256, Nat.mod_lt _ (by decide)⟩)) * SILU (A5 (ix3 b t ⟨2048 + k.val, by omega⟩)) := by
  have e29 : val_main_v29 (F := Ideal) A0 A1 A8 (ix3 b t k) = val_main_v28 (F := Ideal) A0 A1 A8 (ix4 b t ⟨k.val / 256, by omega⟩ ⟨k.val % 256, by omega⟩) := by
    unfold val_main_v29
    exact shapeCast_apply (val_main_v28 (F := Ideal) A0 A1 A8) _ (ix3 b t k) (ix4 b t ⟨k.val / 256, by omega⟩ ⟨k.val % 256, by omega⟩) (by
      rw [Shape.rowMajor_val_three, Shape.rowMajor_val_four]
      show ((b.val * 4096 + t.val) * 4 + k.val / 256) * 256 + k.val % 256 = (b.val * 4096 + t.val) * 1024 + k.val
      omega)
  have e28 : ∀ (h : Fin 4) (j : Fin 256), val_main_v28 (F := Ideal) A0 A1 A8 (ix4 b t h j) = val_main_v25 (F := Ideal) A0 A1 (ix4 b t h j) * A8 (ix1 j) := by
    intro h j
    pointwise [val_main_v28, val_main_v27, val_main_v26]
  have e30 : val_main_v30 (F := Ideal) A5 (ix3 b t k) = SILU (A5 (ix3 b t ⟨2048 + k.val, by omega⟩)) := by
    pointwise [val_main_v30, val_main_call0_v5, val_main_call0_v4, val_main_call0_v3, val_main_call0_v2, val_main_call0_v1, val_main_call0_v0,
      val_main_call0_cst, val_main_call0_cst_0, val_main_v3]
    rfl
  refine congrArg₂ (· * ·) (e29.trans ((e28 _ _).trans (congrArg (· * _) ?_))) e30
  rw [v25_at]
  simp only [v15_at]
  rfl

theorem v33_at (b : Fin 8) (t : Fin 4096) (h : Fin 8) (j : Fin 128) : val_main_v33 (F := Ideal) A2 A3 (ix4 b t h j)
    = A2 (ix3 b t ⟨128 * h.val + j.val, by omega⟩) + A3 (ix3 b t ⟨128 * h.val + j.val, by omega⟩) := by
  unfold val_main_v33
  exact shapeCast_apply (val_main_v32 (F := Ideal) A2 A3) _ (ix4 b t h j) (ix3 b t ⟨128 * h.val + j.val, by omega⟩) (by
    rw [Shape.rowMajor_val_three, Shape.rowMajor_val_four]
    show (b.val * 4096 + t.val) * 1024 + (128 * h.val + j.val) = ((b.val * 4096 + t.val) * 8 + h.val) * 128 + j.val
    omega)

theorem v35_at (b : Fin 8) (t : Fin 4096) (h : Fin 8) : val_main_v35 (F := Ideal) A2 A3 (ix3 b t h)
    = ∑ j : Fin 128, val_main_v33 (F := Ideal) A2 A3 (ix4 b t h j) * val_main_v33 (F := Ideal) A2 A3 (ix4 b t h j) := by
  rw [val_main_v35_apply]
  refine (congrArg (· + _) zero_word).trans ((zero_add _).trans (Finset.sum_congr rfl fun j _ => ?_))
  have e : idx_main_v35 (ix3 b t h) j = ix4 b t h j := by funext a; fin_cases a <;> rfl
  rw [e]
  rfl

theorem v43_at (b : Fin 8) (t : Fin 4096) (h : Fin 8) (j : Fin 128) : val_main_v43 (F := Ideal) A2 A3 (ix4 b t h j)
    = HN (n := 128) 0x43000000#32 (fun i => val_main_v33 (F := Ideal) A2 A3 (ix4 b t h i)) j := by
  pointwise [val_main_v43, val_main_v42, val_main_v41, val_main_v40, val_main_v39, val_main_v38, val_main_v37, val_main_v36, val_main_cst_3, val_main_cst_4]
  rw [v35_at]
  rfl

theorem v49_at (b : Fin 8) (t : Fin 4096) (k : Fin 1024) : val_main_v49 (F := Ideal) A2 A3 A5 A9 (ix3 b t k)
    = (Y8 (fun i => A2 (ix3 b t i) + A3 (ix3 b t i)) k * A9 (ix1 ⟨k.val % 128, Nat.mod_lt _ (by decide)⟩)) * SILU (A5 (ix3 b t ⟨7200 + k.val, by omega⟩)) := by
  have e47 : val_main_v47 (F := Ideal) A2 A3 A9 (ix3 b t k) = val_main_v46 (F := Ideal) A2 A3 A9 (ix4 b t ⟨k.val / 128, by omega⟩ ⟨k.val % 128, by omega⟩) := by
    unfold val_main_v47
    exact shapeCast_apply (val_main_v46 (F := Ideal) A2 A3 A9) _ (ix3 b t k) (ix4 b t ⟨k.val / 128, by omega⟩ ⟨k.val % 128, by omega⟩) (by
      rw [Shape.rowMajor_val_three, Shape.rowMajor_val_four]
      show ((b.val * 4096 + t.val) * 8 + k.val / 128) * 128 + k.val % 128 = (b.val * 4096 + t.val) * 1024 + k.val
      omega)
  have e46 : ∀ (h : Fin 8) (j : Fin 128), val_main_v46 (F := Ideal) A2 A3 A9 (ix4 b t h j) = val_main_v43 (F := Ideal) A2 A3 (ix4 b t h j) * A9 (ix1 j) := by
    intro h j
    pointwise [val_main_v46, val_main_v45, val_main_v44]
  have e48 : val_main_v48 (F := Ideal) A5 (ix3 b t k) = SILU (A5 (ix3 b t ⟨7200 + k.val, by omega⟩)) := by
    pointwise [val_main_v48, val_main_call1_v5, val_main_call1_v4, val_main_call1_v3, val_main_call1_v2, val_main_call1_v1, val_main_call1_v0,
      val_main_call1_cst, val_main_call1_cst_0, val_main_v8]
    rfl
  refine congrArg₂ (· * ·) (e47.trans ((e46 _ _).trans (congrArg (· * _) ?_))) e48
  rw [v43_at]
  simp only [v33_at]
  rfl

/-! ### The three projections and their gates -/

/-- The three mixers' rows. -/
def YS (n : Fin 3) : S8x4096x1024.Idx → EReal :=
  match n with
  | 0 => val_main_v31 (F := Ideal) A0 A1 A5 A8
  | 1 => val_main_v49 (F := Ideal) A2 A3 A5 A9
  | 2 => A4

theorem v53_at (b : Fin 8) (t : Fin 4096) (n : Fin 3) (k : Fin 1024) :
    val_main_v53 (F := Ideal) A0 A1 A2 A3 A4 A5 A8 A9 (ix4 b t n k) = YS A0 A1 A2 A3 A4 A5 A8 A9 n (ix3 b t k) := by
  have e : ∀ (x : S8x4096x1x1024.Idx → EReal) (y : S8x4096x1024.Idx → EReal), (∀ i, x i = y (ix3 (i 0) (i 1) (i 3))) → x (ix4 b t 0 k) = y (ix3 b t k) :=
    fun x y h => h _
  unfold val_main_v53
  have p : ∀ (xs : List ((s : Shape) × (s.Idx → EReal))) (h : Shape.Concatenates (xs.map (·.1)) S8x4096x3x1024 2) (x : S8x4096x1x1024.Idx → EReal)
      (hk : n.val < xs.length) (hx : xs[n.val] = ⟨S8x4096x1x1024, x⟩)
      (hp : (((xs.take n.val).map (·.1)).map fun s => if h : s.rank = 4 then s.size ((2 : Fin 4).cast h.symm) else 0).sum = n.val),
      concatenate S8x4096x3x1024 2 xs h (ix4 b t n k) = x (ix4 b t 0 k) := by
    intro xs h x hk hx hp
    refine concatenate_apply_piece (t := S8x4096x3x1024) 2 xs h (ix4 b t n k) n.val hk _ x hx rfl n.val hp (ix4 b t 0 k) ?_ (Nat.add_zero _)
    intro d hd
    fin_cases d
    · rfl
    · rfl
    · exact absurd rfl hd
    · rfl
  fin_cases n
  · refine (p _ _ _ (by exact (by decide : 0 < 3)) rfl (by rfl)).trans ?_
    pointwise [val_main_v50]
    rfl
  · refine (p _ _ _ (by exact (by decide : 1 < 3)) rfl (by rfl)).trans ?_
    pointwise [val_main_v51]
    rfl
  · refine (p _ _ _ (by exact (by decide : 2 < 3)) rfl (by rfl)).trans ?_
    pointwise [val_main_v52]
    rfl

theorem v55_at (b : Fin 8) (t : Fin 4096) (n : Fin 3) (e : Fin 1024) :
    val_main_v55 (F := Ideal) A0 A1 A2 A3 A4 A5 A8 A9 A10 (ix4 b t n e) = ∑ k : Fin 1024, A10 (ix3 n k e) * YS A0 A1 A2 A3 A4 A5 A8 A9 n (ix3 b t k) := by
  rw [val_main_v55_apply, val_main_v54_apply]
  refine Finset.sum_congr rfl fun k _ => congrArg₂ (· * ·) (congrArg A10 ?_) ?_
  · funext a
    fin_cases a <;> rfl
  · have e : ridx_main_v54 (idx_main_v55 (ix4 b t n e)) k = ix4 b t n k := by funext a; fin_cases a <;> rfl
    rw [e, v53_at]

theorem v62_at (b : Fin 8) (t : Fin 4096) (n : Fin 3) (e : Fin 1024) :
    val_main_v62 (F := Ideal) A5 (ix4 b t n e) = Ideal.logistic (A5 (ix3 b t ⟨10784 + (1024 * n.val + e.val), by omega⟩)) := by
  have e56 : val_main_v56 (F := Ideal) A5 (ix4 b t n e) = A5 (ix3 b t ⟨10784 + (1024 * n.val + e.val), by omega⟩) := by
    unfold val_main_v56
    refine (shapeCast_apply (val_main_v13 (F := Ideal) A5) _ (ix4 b t n e) (ix3 b t ⟨1024 * n.val + e.val, by omega⟩) (by
      rw [Shape.rowMajor_val_three, Shape.rowMajor_val_four]
      show (b.val * 4096 + t.val) * 3072 + (1024 * n.val + e.val) = ((b.val * 4096 + t.val) * 3 + n.val) * 1024 + e.val
      omega)).trans ?_
    pointwise [val_main_v13]
  rw [← e56]
  pointwise [val_main_v62, val_main_v61, val_main_v60, val_main_v59, val_main_v58, val_main_v57, val_main_cst_5, val_main_cst_6]
  rfl

theorem v64_at (b : Fin 8) (t : Fin 4096) (e : Fin 1024) : val_main_v64 (F := Ideal) A0 A1 A2 A3 A4 A5 A8 A9 A10 (ix3 b t e)
    = ∑ n : Fin 3, Ideal.logistic (A5 (ix3 b t ⟨10784 + (1024 * n.val + e.val), by omega⟩))
        * ∑ k : Fin 1024, A10 (ix3 n k e) * YS A0 A1 A2 A3 A4 A5 A8 A9 n (ix3 b t k) := by
  rw [val_main_v64_apply]
  refine (congrArg (· + _) zero_word).trans ((zero_add _).trans (Finset.sum_congr rfl fun n _ => ?_))
  have e1 : idx_main_v64 (ix3 b t e) n = ix4 b t n e := by funext a; fin_cases a <;> rfl
  rw [e1, val_main_v63_apply, v62_at, v55_at]
  rfl

/-! ### The stream and its norm -/

theorem v72_at (b : Fin 8) (t : Fin 4096) (d : Fin 1024) : val_main_v72 (F := Ideal) A0 A1 A2 A3 A4 A5 A6 A7 A8 A9 A10 A11 (ix3 b t d)
    = STR (fun e => val_main_v64 (F := Ideal) A0 A1 A2 A3 A4 A5 A8 A9 A10 (ix3 b t e)) (fun e d => A11 (ix2 e d)) (fun d => A6 (ix3 b t d))
        (fun d => A7 (ix2 b ⟨2048 + d.val, by omega⟩)) d := by
  have e69 : val_main_v69 (F := Ideal) A0 A1 A2 A3 A4 A5 A8 A9 A10 A11 (ix3 b t d)
      = ∑ e : Fin 1024, val_main_v64 (F := Ideal) A0 A1 A2 A3 A4 A5 A8 A9 A10 (ix3 b t e) * A11 (ix2 e d) := by
    rw [val_main_v69_apply]
    refine Finset.sum_congr rfl fun e _ => congrArg₂ (· * ·) (congrArg (val_main_v64 (F := Ideal) A0 A1 A2 A3 A4 A5 A8 A9 A10) ?_) (congrArg A11 ?_)
    · funext a
      fin_cases a <;> rfl
    · funext a
      fin_cases a <;> rfl
  have e70 : val_main_v70 (F := Ideal) A7 (ix3 b t d) = A7 (ix2 b ⟨2048 + d.val, by omega⟩) := by
    pointwise [val_main_v70, val_main_v68, val_main_v65]
  refine congrArg (_ + ·) ((congrArg₂ (· * ·) e70 e69))

theorem v74_at (b : Fin 8) (t : Fin 4096) : val_main_v74 (F := Ideal) A0 A1 A2 A3 A4 A5 A6 A7 A8 A9 A10 A11 (ix2 b t)
    = ∑ d : Fin 1024, val_main_v72 (F := Ideal) A0 A1 A2 A3 A4 A5 A6 A7 A8 A9 A10 A11 (ix3 b t d)
        * val_main_v72 (F := Ideal) A0 A1 A2 A3 A4 A5 A6 A7 A8 A9 A10 A11 (ix3 b t d) := by
  rw [val_main_v74_apply]
  refine (congrArg (· + _) zero_word).trans ((zero_add _).trans (Finset.sum_congr rfl fun d _ => ?_))
  have e : idx_main_v74 (ix2 b t) d = ix3 b t d := by funext a; fin_cases a <;> rfl
  rw [e]
  rfl

theorem v85_at (b : Fin 8) (t : Fin 4096) (d : Fin 1024) : val_main_v85 (F := Ideal) A0 A1 A2 A3 A4 A5 A6 A7 A8 A9 A10 A11 A12 (ix3 b t d)
    = HN (n := 1024) 0x44800000#32 (fun d => val_main_v72 (F := Ideal) A0 A1 A2 A3 A4 A5 A6 A7 A8 A9 A10 A11 (ix3 b t d)) d * A12 (ix1 d) := by
  pointwise [val_main_v85, val_main_v84, val_main_v83, val_main_v82, val_main_v81, val_main_v80, val_main_v79, val_main_v78, val_main_v77, val_main_v76,
    val_main_v75, val_main_cst_9, val_main_cst_10]
  rw [v74_at]
  rfl

theorem swap (w h g s : EReal) : w * (h * g * s) = h * s * (w * g) := by ac_rfl

theorem reference_value (R : Fin 32768) (d : Fin 1024) :
    val_main_v86 (F := Ideal) A0 A1 A2 A3 A4 A5 A6 A7 A8 A9 A10 A11 A12 (ix2 R d) = RESM A0 A1 A2 A3 A4 A5 A6 A7 A8 A9 A10 A11 A12 R d := by
  unfold val_main_v86
  refine (rows_at (val_main_v85 (F := Ideal) A0 A1 A2 A3 A4 A5 A6 A7 A8 A9 A10 A11 A12) _ R d).trans ?_
  rw [v85_at]
  unfold RESM ROW3
  refine congrArg (· * _) ?_
  simp only [v72_at]
  refine congrArg (fun g => HN (n := 1024) 0x44800000#32 (STR g _ _ _) d) (funext fun e => ?_)
  rw [v64_at, Fin.sum_univ_three]
  refine congrArg₂ (· + ·) (congrArg₂ (· + ·) ?_ ?_) ?_
  · refine congrArg (_ * ·) (Finset.sum_congr rfl fun k _ => ?_)
    refine (congrArg (_ * ·) (v31_at A0 A1 A5 A8 _ _ k)).trans (swap _ _ _ _)
  · refine congrArg (_ * ·) (Finset.sum_congr rfl fun k _ => ?_)
    refine (congrArg (_ * ·) (v49_at A2 A3 A5 A9 _ _ k)).trans (swap _ _ _ _)
  · refine congrArg (_ * ·) (Finset.sum_congr rfl fun k _ => ?_)
    exact (mul_comm _ _).trans (congrArg (_ * ·) (mul_one _).symm)

end Cert.MrgRef
end
-- ==== Proof.ForgetLog.lean ====
/-
  The forget gate's logarithm: the kernel's form and the reference's two nested sums of exponentials are one number.
-/
module

public import Idealize.ShloMosaic.PureOps.Ideal

@[expose] public section
noncomputable section
namespace Cert.Fgt
open Idealize.ShloMosaic

/-- `|x|`, and the decay `e ^ (-|x|)`. -/
def MAG (x : EReal) : EReal := max x (-x)
def DEC (x : EReal) : EReal := Ideal.exp (-MAG x)

/-- The gate's logarithm as the kernel computes it, of the bound and the projection. -/
def GATE (l z : EReal) : EReal :=
  max (Ideal.log (if 0 ≤ z then 1 + l * DEC z else l + DEC z)) (min z 0) - Ideal.log (1 + DEC z)

/-- The logarithm of a sum of exponentials, taken from the larger one. -/
def LAE (u v : EReal) : EReal := max u v + Ideal.log1p (DEC (u - v))

/-- The gate's logarithm as the reference computes it. -/
def GATE' (l z : EReal) : EReal := LAE (Ideal.log l) (Ideal.log1p (-l) + -LAE (-z) 0)

theorem log_zero : Ideal.log (((0 : ℝ)) : EReal) = ⊥ := by
  rw [Ideal.log_coe, if_pos le_rfl]
theorem log_pos {r : ℝ} (h : 0 < r) : Ideal.log (r : EReal) = ((Real.log r : ℝ) : EReal) := by
  rw [Ideal.log_coe, if_neg (not_le.mpr h)]
theorem log_one : Ideal.log (1 : EReal) = 0 := by
  rw [← EReal.coe_one, log_pos one_pos, Real.log_one, EReal.coe_zero]

theorem mag_coe (r : ℝ) : MAG (r : EReal) = ((|r| : ℝ) : EReal) := by
  unfold MAG
  rw [← EReal.coe_neg, ← EReal.coe_strictMono.monotone.map_max]
  rfl
theorem dec_coe (r : ℝ) : DEC (r : EReal) = ((Real.exp (-|r|) : ℝ) : EReal) := by
  unfold DEC
  rw [mag_coe, ← EReal.coe_neg, Ideal.exp_coe]
theorem dec_top : DEC ⊤ = 0 := by simp [DEC, MAG]
theorem dec_bot : DEC ⊥ = 0 := by simp [DEC, MAG]

theorem log1p_zero : Ideal.log1p 0 = 0 := by
  unfold Ideal.log1p
  rw [add_zero, log_one]

theorem lae_coe (x y : ℝ) : LAE (x : EReal) (y : EReal) = ((Real.log (Real.exp x + Real.exp y) : ℝ) : EReal) := by
  unfold LAE Ideal.log1p
  rw [← EReal.coe_sub, dec_coe, ← EReal.coe_one, ← EReal.coe_add, log_pos (by positivity), ← EReal.coe_strictMono.monotone.map_max,
    ← EReal.coe_add]
  refine congrArg _ ?_
  rcases le_total x y with h | h
  · rw [max_eq_right h, abs_of_nonpos (by linarith), neg_neg, ← Real.log_exp y, ← Real.log_mul (by positivity) (by positivity),
      Real.log_exp, mul_add, mul_one, ← Real.exp_add, add_comm]
    congr 3
    ring
  · rw [max_eq_left h, abs_of_nonneg (by linarith), ← Real.log_exp x, ← Real.log_mul (by positivity) (by positivity),
      Real.log_exp, mul_add, mul_one, ← Real.exp_add]
    congr 3
    ring

/-- The sum's logarithm from the logarithms of its two terms, either of which may be zero. -/
theorem lae_log {a b : ℝ} (ha : 0 ≤ a) (hb : 0 ≤ b) :
    LAE (Ideal.log (a : EReal)) (Ideal.log (b : EReal)) = Ideal.log ((a + b : ℝ) : EReal) := by
  rcases ha.eq_or_lt with rfl | ha
  · rcases hb.eq_or_lt with rfl | hb
    · rw [zero_add, log_zero]
      simp [LAE]
    · rw [zero_add, log_zero, log_pos hb]
      unfold LAE
      rw [EReal.bot_sub, dec_bot, log1p_zero, add_zero, max_eq_right bot_le]
  · rcases hb.eq_or_lt with rfl | hb
    · rw [add_zero, log_zero, log_pos ha]
      unfold LAE
      rw [EReal.sub_bot (EReal.coe_ne_bot _), dec_top, log1p_zero, add_zero, max_eq_left bot_le]
    · rw [log_pos ha, log_pos hb, log_pos (add_pos ha hb), lae_coe, Real.exp_log ha, Real.exp_log hb]

theorem log_times {a b : ℝ} (ha : 0 ≤ a) (hb : 0 ≤ b) :
    Ideal.log (a : EReal) + Ideal.log (b : EReal) = Ideal.log ((a * b : ℝ) : EReal) := by
  rcases ha.eq_or_lt with rfl | ha
  · rw [zero_mul, log_zero, EReal.bot_add]
  · rcases hb.eq_or_lt with rfl | hb
    · rw [mul_zero, log_zero, EReal.add_bot]
    · rw [log_pos ha, log_pos hb, log_pos (mul_pos ha hb), ← EReal.coe_add, Real.log_mul ha.ne' hb.ne']

/-- The sigmoid. -/
def SIG : EReal → ℝ
  | ⊥ => 0
  | ⊤ => 1
  | (r : ℝ) => (1 + Real.exp (-r))⁻¹

theorem sig_nonneg (z : EReal) : 0 ≤ SIG z := by
  induction z with
  | bot => exact le_rfl
  | top => exact zero_le_one
  | coe r => show 0 ≤ (1 + Real.exp (-r))⁻¹; positivity

theorem log_sig (z : EReal) : -LAE (-z) 0 = Ideal.log (SIG z : EReal) := by
  induction z with
  | bot =>
    show _ = Ideal.log ((0 : ℝ) : EReal)
    rw [log_zero]
    unfold LAE
    rw [EReal.neg_bot, sub_zero, dec_top, log1p_zero, add_zero, max_eq_left le_top, EReal.neg_top]
  | top =>
    show _ = Ideal.log ((1 : ℝ) : EReal)
    unfold LAE
    rw [EReal.neg_top, sub_zero, dec_bot, log1p_zero, add_zero, max_eq_right bot_le, EReal.coe_one, log_one, neg_zero]
  | coe r =>
    show _ = Ideal.log (((1 + Real.exp (-r))⁻¹ : ℝ) : EReal)
    rw [log_pos (by positivity), ← EReal.coe_neg, ← EReal.coe_zero, lae_coe, Real.exp_zero, Real.log_inv, ← EReal.coe_neg, add_comm]

/-- The reference's gate. -/
theorem gate'_eq (l : ℝ) (h0 : 0 ≤ l) (h1 : l ≤ 1) (z : EReal) :
    GATE' (l : EReal) z = Ideal.log ((l + (1 - l) * SIG z : ℝ) : EReal) := by
  unfold GATE'
  have e : Ideal.log1p (-(l : EReal)) = Ideal.log ((1 - l : ℝ) : EReal) := by
    unfold Ideal.log1p
    rw [← EReal.coe_neg, ← EReal.coe_one, ← EReal.coe_add]
    rfl
  rw [log_sig, e, log_times (by linarith) (sig_nonneg z), lae_log h0 (mul_nonneg (by linarith) (sig_nonneg z))]

theorem quotient {p q s : ℝ} (hp : 0 < p) (hq : 0 < q) (h : p = s * q) :
    Ideal.log (p : EReal) - Ideal.log (q : EReal) = Ideal.log (s : EReal) := by
  have hs : 0 < s := by
    by_contra hn
    have := mul_nonpos_of_nonpos_of_nonneg (not_lt.mp hn) hq.le
    linarith
  rw [log_pos hp, log_pos hq, log_pos hs, ← EReal.coe_sub, h, Real.log_mul hs.ne' hq.ne']
  exact congrArg _ (by ring)

/-- The kernel's gate. -/
theorem gate_eq (l : ℝ) (h0 : 0 ≤ l) (z : EReal) :
    GATE (l : EReal) z = Ideal.log ((l + (1 - l) * SIG z : ℝ) : EReal) := by
  unfold GATE
  induction z with
  | bot =>
    show _ = Ideal.log ((l + (1 - l) * 0 : ℝ) : EReal)
    rw [dec_bot, if_neg (by simp), add_zero, add_zero, log_one, sub_zero, min_eq_left bot_le, max_eq_left bot_le, mul_zero, add_zero]
  | top =>
    show _ = Ideal.log ((l + (1 - l) * 1 : ℝ) : EReal)
    rw [dec_top, if_pos le_top, mul_zero, add_zero, log_one, sub_zero, min_eq_right le_top, max_self, mul_one, add_sub_cancel,
      EReal.coe_one, log_one]
  | coe r =>
    show _ = Ideal.log ((l + (1 - l) * (1 + Real.exp (-r))⁻¹ : ℝ) : EReal)
    have hr := Real.exp_pos (-r)
    rw [dec_coe, ← EReal.coe_one, ← EReal.coe_add, ← EReal.coe_add, ← EReal.coe_mul, ← EReal.coe_add, ← EReal.coe_zero]
    by_cases h : 0 ≤ r
    · rw [if_pos (EReal.coe_le_coe_iff.mpr h), abs_of_nonneg h, min_eq_right (EReal.coe_le_coe_iff.mpr h),
        max_eq_left (by
          rw [log_pos (by positivity), EReal.coe_le_coe_iff]
          exact Real.log_nonneg (by nlinarith))]
      exact quotient (by positivity) (by positivity) (by field_simp; ring)
    · have h := not_le.mp h
      have hp := Real.exp_pos r
      rw [if_neg (by rw [EReal.coe_le_coe_iff]; exact not_le.mpr h), abs_of_neg h, neg_neg,
        min_eq_left (EReal.coe_le_coe_iff.mpr h.le), max_eq_left (by
          rw [log_pos (by positivity), EReal.coe_le_coe_iff, Real.le_log_iff_exp_le (by positivity)]
          linarith)]
      refine quotient (by positivity) (by positivity) ?_
      rw [Real.exp_neg]
      field_simp
      ring

theorem same_gate (l z : EReal) (h0 : 0 ≤ l) (h1 : l ≤ 1) : GATE' l z = GATE l z := by
  induction l with
  | bot => simp at h0
  | top => exact absurd (top_le_iff.mp h1) (EReal.coe_ne_top 1)
  | coe r =>
    have h0 : 0 ≤ r := by exact_mod_cast h0
    rw [gate'_eq r h0 (by exact_mod_cast h1), gate_eq r h0]

end Cert.Fgt
end
-- ==== Proof.ForgetTile.lean ====
/-
  The forget projection's step: each of its two cases leaves eight slabs of 256 rows, all by the same operations.
-/
module

public import proofs.«01_k».proof.Proof.ForgetLog
public import proofs.«01_k».proof.Proof.Gen.Kernel4Ideal.Value
public import Idealize.ShloMosaic.Lib.Pipeline.ValueKit
public import Idealize.ShloMosaic.Lib.StableHlo.ReadAt
public import Idealize.ShloMosaic.Lib.MatmulPlain
public import Idealize.ShloMosaic.Lib.Pointwise

@[expose] public section
noncomputable section
namespace Cert.Fgt
open Cert.Kernel4Ideal Cert.Kernel4Ideal.Gen Idealize.ShloMosaic Idealize.ShloMosaic.TcCoe Idealize.SL.Sem
variable {F : FTy → Type} [FloatOps F]

def ALL (b : BitVec 32) : FVec F S256x256 .f32 := broadcast S256x256 (Scalar.ofBits .f32 b : F .f32)

/-- A slab's product with the weights. -/
def PRD (x : FVec F S256x1024 .bf16) (w : FVec F S1024x256 .bf16) : FVec F S256x256 .f32 :=
  matmul dot_S256x1024_S1024x256_S256x256_1_0_0_1_n_n none (shapeCast S256x1024 x shapeCasts_S256x1024_S256x1024)
    (shapeCast S1024x256 w shapeCasts_S1024x256_S1024x256) (constant S256x256 .f32 0x00000000#32)

/-- The decay of the product, and the bound for every row. -/
def DCY (z : FVec F S256x256 .f32) : FVec F S256x256 .f32 := exp (subf (ALL 0x00000000#32) (absf z))
def BND (l : FVec F S1x256 .f32) : FVec F S256x256 .f32 :=
  broadcastTo S256x256 (shapeCast S1x256 l shapeCasts_S1x256_S1x256) broadcasts_S1x256_S256x256

/-- The gate's logarithm of the product. -/
def LOGF (z : FVec F S256x256 .f32) (l : FVec F S1x256 .f32) : FVec F S256x256 .f32 :=
  subf (maximumf (log (select (cmpf .oge z (ALL 0x00000000#32)) (addf (ALL 0x3F800000#32) (mulf (BND l) (DCY z))) (addf (BND l) (DCY z))))
    (minimumf z (ALL 0x00000000#32))) (log (addf (ALL 0x3F800000#32) (DCY z)))

theorem inb_slab (a : Fin 8) : ∀ d, ![256 * a.val, 0] d + S256x1024.size d ≤ S2048x1024.size d := by revert a; decide
theorem inb_out (a : Fin 8) : ∀ d, ![256 * a.val, 0] d + S256x256.size d ≤ S2048x256.size d := by revert a; decide

def ldX (x : Vec F S2048x1024 .bf16) (a : Fin 8) : Vec F S256x1024 .bf16 :=
  View.ld x (Rect.unit (s := S2048x1024) ![256 * a.val, 0] S256x1024.size (inb_slab a))

/-- Slab `a` of what a step leaves. -/
def SLAB (x : Vec F S2048x1024 .bf16) (w : Vec F S1024x256 .bf16) (l : Vec F S1x256 .f32) (a : Fin 8) : FVec F S256x256 .f32 :=
  LOGF (PRD (ldX x a) (View.ld w (Rect.unit (s := S1024x256) ![0, 0] S1024x256.size inb_S1024x256_S1024x256_0_0)))
    (View.ld l (Rect.unit (s := S1x256) ![0, 0] S1x256.size inb_S1x256_S1x256_0_0))

/-- The slabs, the last stored first. -/
def SLABS (x : Vec F S2048x1024 .bf16) (w : Vec F S1024x256 .bf16) (l : Vec F S1x256 .f32) : List (View.Piece (Elt F) S2048x256 .f32) :=
  List.ofFn fun k : Fin 8 => ⟨Rect.unit (s := S2048x256) ![256 * k.rev.val, 0] S256x256.size (inb_out _), SLAB x w l k.rev⟩

set_option maxHeartbeats 4000000 in
theorem out_A (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x256 .bf16) (harg4 : arg4.IsWhole) (arg5 : Memref sig .tc .vmem S1x256 .f32) (harg5 : arg5.IsWhole) (arg6 : Memref sig .tc .vmem S2048x256 .f32) (harg6 : arg6.IsWhole) (hc0 : cond0_0 i) (hc1 : ¬cond0_1 i)
    (x0 : Vec F S2048x1024 .bf16) (x1 : Vec F S2048x1024 .bf16) (x2 : Vec F S1024x256 .bf16) (x3 : Vec F S1x256 .f32) :
    out0_A_4 c i arg2 harg2 arg3 harg3 arg4 harg4 arg5 harg5 arg6 harg6 hc0 hc1 x0 x1 x2 x3 = View.canon (SLABS x0 x2 x3) := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  simp only [View.readAt_eq_ld, harg2.read_unread, harg3.read_unread, harg4.read_unread, harg5.read_unread]
  rfl

set_option maxHeartbeats 4000000 in
theorem out_B (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x256 .bf16) (harg4 : arg4.IsWhole) (arg5 : Memref sig .tc .vmem S1x256 .f32) (harg5 : arg5.IsWhole) (arg6 : Memref sig .tc .vmem S2048x256 .f32) (harg6 : arg6.IsWhole) (hc0 : ¬cond0_0 i) (hc1 : cond0_1 i)
    (x0 : Vec F S2048x1024 .bf16) (x1 : Vec F S2048x1024 .bf16) (x2 : Vec F S1024x256 .bf16) (x3 : Vec F S1x256 .f32) :
    out0_B_4 c i arg2 harg2 arg3 harg3 arg4 harg4 arg5 harg5 arg6 harg6 hc0 hc1 x0 x1 x2 x3 = View.canon (SLABS x1 x2 x3) := by
  unfold out0_B_4
  rw [View.read_writes_eq_canon _ _ _ (cover0_B_4 c i arg2 harg2 arg3 harg3 arg4 harg4 arg5 harg5 arg6 harg6 hc0 hc1 x0 x1 x2 x3)]
  unfold kernelRun0_B
  dsimp only
  sl_unfold_words
  simp only [View.readAt_eq_ld, harg2.read_unread, harg3.read_unread, harg4.read_unread, harg5.read_unread]
  rfl

end Cert.Fgt
end
-- ==== Proof.ForgetKernel.lean ====
/-
  The forget projection's kernel: every entry of its result is the gate's logarithm of a product and a bound.
-/
module

public import proofs.«01_k».proof.Proof.ForgetTile
public import proofs.«01_k».proof.Proof.ProjKernel

@[expose] public section
noncomputable section
namespace Cert.Fgt
open Cert.Kernel4Ideal Cert.Kernel4Ideal.Gen Idealize.ShloMosaic Idealize.ShloMosaic.TcCoe Idealize.SL.Sem
open Cert.Proj (HROW WGT)
set_option maxHeartbeats 1000000

/-- Entry `(R, j)` of the gates' logarithms. -/
def RESF (A0 : S8x4096x1024.Idx → EReal) (A1 : S8x256x1024.Idx → EReal) (A2 : S1024x13856.Idx → EReal) (A3 : S2x1024.Idx → EReal)
    (R : ℕ) (j : Fin 2048) : EReal :=
  GATE (A3 (ix2 ⟨j.val / 1024, by omega⟩ ⟨j.val % 1024, by omega⟩)) (∑ k, HROW A0 A1 R k * WGT A2 k (4128 + j.val))

/-! ### The operations of a slab -/

theorem zero_bits : Ideal.ofBits .f32 0x00000000#32 = 0 := by simp [Ideal.ofBits, Ideal.ieee]
theorem one_bits : Ideal.ofBits .f32 0x3F800000#32 = 1 := by
  simp [Ideal.ofBits, Ideal.ieee, -EReal.coe_mul]
  norm_num

theorem prd_at (x : S256x1024.Idx → EReal) (w : S1024x256.Idx → EReal) (r : Fin 256) (j : Fin 256) :
    PRD (F := Ideal) x w (ix2 r j) = ∑ k : Fin 1024, x (ix2 r k) * w (ix2 k j) := by
  unfold PRD
  pointwise

theorem bnd_at (l : S1x256.Idx → EReal) (r : Fin 256) (j : Fin 256) : BND (F := Ideal) l (ix2 r j) = l (ix2 0 j) := by
  unfold BND
  pointwise

theorem dcy_at (z : S256x256.Idx → EReal) (i : S256x256.Idx) : DCY (F := Ideal) z i = DEC (z i) := by
  show Ideal.exp (Ideal.ofBits .f32 0x00000000#32 - max (z i) (-(z i))) = _
  rw [zero_bits, zero_sub]
  rfl

theorem choose (z a b : EReal) : (if Ideal.cmp .oge z 0 = 1#1 then a else b) = if 0 ≤ z then a else b := by
  by_cases h : 0 ≤ z <;> simp [Ideal.cmp, h]

theorem logf_at (z : S256x256.Idx → EReal) (l : S1x256.Idx → EReal) (r j : Fin 256) :
    LOGF (F := Ideal) z l (ix2 r j) = GATE (l (ix2 0 j)) (z (ix2 r j)) := by
  show max (Ideal.log (if Ideal.cmp .oge (z (ix2 r j)) (Ideal.ofBits .f32 0x00000000#32) = 1#1
      then Ideal.ofBits .f32 0x3F800000#32 + BND (F := Ideal) l (ix2 r j) * DCY (F := Ideal) z (ix2 r j)
      else BND (F := Ideal) l (ix2 r j) + DCY (F := Ideal) z (ix2 r j))) (min (z (ix2 r j)) (Ideal.ofBits .f32 0x00000000#32))
    - Ideal.log (Ideal.ofBits .f32 0x3F800000#32 + DCY (F := Ideal) z (ix2 r j)) = _
  rw [bnd_at, dcy_at, zero_bits, one_bits, choose]
  rfl

theorem two_zero : (![0, 0] : Fin 2 → ℕ) = fun _ => 0 := by
  funext a
  fin_cases a <;> rfl

theorem ldX_at (x : Vec Ideal S2048x1024 .bf16) (a : Fin 8) (r : Fin 256) (k : Fin 1024) :
    ldX (F := Ideal) x a (ix2 r k) = x (ix2 ⟨256 * a.val + r.val, by omega⟩ k) := by
  unfold ldX
  refine View.ld_unit_apply_of _ _ _ _ _ _ fun d => ?_
  fin_cases d
  · rfl
  · exact (Nat.zero_add _).symm

/-- Entry `(q, j)` of what a step leaves. -/
def BLK (x : S2048x1024.Idx → EReal) (w : S1024x256.Idx → EReal) (l : S1x256.Idx → EReal) (q : Fin 2048) (j : Fin 256) : EReal :=
  GATE (l (ix2 0 j)) (∑ k : Fin 1024, x (ix2 q k) * w (ix2 k j))

theorem slab_at (x : Vec Ideal S2048x1024 .bf16) (w : Vec Ideal S1024x256 .bf16) (l : Vec Ideal S1x256 .f32) (a : Fin 8) (r j : Fin 256) :
    SLAB (F := Ideal) x w l a (ix2 r j) = BLK x w l ⟨256 * a.val + r.val, by omega⟩ j := by
  unfold SLAB BLK
  rw [logf_at, prd_at, View.ld_unit_zero (S := S1024x256) two_zero, View.ld_unit_zero (S := S1x256) two_zero]
  simp only [ldX_at]

theorem slabs_at (x : Vec Ideal S2048x1024 .bf16) (w : Vec Ideal S1024x256 .bf16) (l : Vec Ideal S1x256 .f32) (q : Fin 2048) (j : Fin 256) :
    View.canon (SLABS (F := Ideal) x w l) (ix2 q j) = BLK x w l q j := by
  have hq := q.isLt
  unfold SLABS
  refine View.canon_ofFn_unit_eq_of_forall _ _ _ _ _ _ ?_ fun k x' hx => ?_
  · refine ⟨Fin.rev ⟨q.val / 256, by omega⟩, fun a => ?_⟩
    rw [Fin.rev_rev]
    fin_cases a
    · show 256 * (q.val / 256) ≤ q.val ∧ q.val < 256 * (q.val / 256) + 256
      omega
    · exact ⟨Nat.zero_le _, lt_of_lt_of_eq j.isLt (Nat.zero_add _).symm⟩
  · have h2 : q.val = 256 * k.rev.val + (x' 0).val := hx 0
    have h3 : j.val = 0 + (x' 1).val := hx 1
    have hx1 : x' 1 = j := Fin.ext (by omega)
    have hxe : x' = ix2 (x' 0) (x' 1) := by funext a; fin_cases a <;> rfl
    refine (congrArg _ hxe).trans ((slab_at _ _ _ k.rev (x' 0) (x' 1)).trans ?_)
    rw [hx1]
    congr 1
    exact Fin.ext h2.symm

/-! ### What a grid step reads

Step `t` of the grid is row block `t / 8` and column block `t % 8`. -/

theorem ix_0 : ∀ t : Fin cfg0.N, win0_0.index t = ![min (t.val / 8) 15, 0] := (by decide +kernel : ∀ t : Fin grid0.N, win0_0.index t = ![min (t.val / 8) 15, 0])
theorem ix_1 : ∀ t : Fin cfg0.N, win0_1.index t = ![0, 0] := (by decide +kernel : ∀ t : Fin grid0.N, win0_1.index t = ![0, 0])
theorem ix_2 : ∀ t : Fin cfg0.N, win0_2.index t = ![0, t.val % 8] := (by decide +kernel : ∀ t : Fin grid0.N, win0_2.index t = ![0, t.val % 8])
theorem ix_3 : ∀ t : Fin cfg0.N, win0_3.index t = ![0, t.val % 8] := (by decide +kernel : ∀ t : Fin grid0.N, win0_3.index t = ![0, t.val % 8])
theorem ix_4 : ∀ t : Fin cfg0.N, win0_4.index t = ![t.val / 8, t.val % 8] := (by decide +kernel : ∀ t : Fin grid0.N, win0_4.index t = ![t.val / 8, t.val % 8])

variable (m : (ℓ : Loc nD τ sig) → Buf (Elt Ideal) ℓ) (c : Dev nD)

theorem blk_0 (t : Fin cfg0.N) (r : Fin 2048) (k : Fin 1024) (i : S32768x1024.Idx)
    (h0 : (i 0).val = 2048 * min (t.val / 8) 15 + r.val) (h1 : (i 1).val = k.val) : iblk m c 0 t (ix2 r k) = V m c main_v3 i := by
  blk_simp [iblk]
  refine congrArg _ (funext fun a => Fin.ext ?_)
  fin_cases a
  · blk_simp [ix_0 t]
    exact (congrArg (· + r.val) (Nat.mul_comm _ _)).trans h0.symm
  · blk_simp [ix_0 t]
    exact h1.symm

theorem blk_1 (t : Fin cfg0.N) (r : Fin 2048) (k : Fin 1024) : iblk m c 1 t (ix2 r k) = V m c main_v5 (ix2 r k) := by
  blk_simp [iblk]
  refine congrArg _ (funext fun a => Fin.ext ?_)
  fin_cases a
  · blk_simp [ix_1 t]
  · blk_simp [ix_1 t]

theorem blk_2 (t : Fin cfg0.N) (k : Fin 1024) (j : Fin 256) (i : S1024x2048.Idx)
    (h0 : (i 0).val = k.val) (h1 : (i 1).val = 256 * (t.val % 8) + j.val) : iblk m c 2 t (ix2 k j) = V m c main_v1 i := by
  blk_simp [iblk]
  refine congrArg _ (funext fun a => Fin.ext ?_)
  fin_cases a
  · blk_simp [ix_2 t]
    exact h0.symm
  · blk_simp [ix_2 t]
    exact (congrArg (· + j.val) (Nat.mul_comm _ _)).trans h1.symm

theorem blk_3 (t : Fin cfg0.N) (j : Fin 256) (i : S1x2048.Idx)
    (h1 : (i 1).val = 256 * (t.val % 8) + j.val) : iblk m c 3 t (ix2 0 j) = V m c main_v6 i := by
  blk_simp [iblk]
  refine congrArg _ (funext fun a => Fin.ext ?_)
  fin_cases a
  · blk_simp [ix_3 t]
  · blk_simp [ix_3 t]
    exact (congrArg (· + j.val) (Nat.mul_comm _ _)).trans h1.symm

/-- The output array holds `G` when each step leaves `G`'s entries in its block. -/
theorem out_eq (G : S34816x2048.Idx → EReal)
    (h : ∀ (t : Fin cfg0.N) (r : Fin 2048) (j : Fin 256) (i : S34816x2048.Idx), (i 0).val = 2048 * (t.val / 8) + r.val →
      (i 1).val = 256 * (t.val % 8) + j.val → outsAt0 m c t.val t.isLt (ix2 r j) = G i) :
    (dats m 0 c).arrAt 4 cfg0.N = G := by
  refine (dats m 0 c).arrAt_eq_of_covers 4 _ (by decide +kernel) fun t hf y => ?_
  blk_simp
  rw [after0_4]
  have hy : y = ix2 (y 0) (y 1) := by funext a; fin_cases a <;> rfl
  refine (congrArg (outsAt0 m c t.val t.isLt) hy).trans (h t (y 0) (y 1) _ ?_ ?_)
  · blk_simp [ix_4 t]
    exact congrArg (· + (y 0).val) (Nat.mul_comm _ _)
  · blk_simp [ix_4 t]
    exact congrArg (· + (y 1).val) (Nat.mul_comm _ _)

/-! ### The operands -/

theorem ops_lat (R : Fin 32768) (k : Fin 1024) :
    V m c main_v3 (ix2 R k) = HROW (m (c, Proc.devRef .tc main_arg0)) (m (c, Proc.devRef .tc main_arg1)) R.val k := by
  unfold V
  after_reads_simp
  exact Cert.Proj.rows_lat _ _ R k

theorem ops_ctx (R : Fin 2048) (k : Fin 1024) :
    V m c main_v5 (ix2 R k) = HROW (m (c, Proc.devRef .tc main_arg0)) (m (c, Proc.devRef .tc main_arg1)) (32768 + R.val) k := by
  unfold V
  after_reads_simp
  exact Cert.Proj.rows_ctx _ _ R k

theorem cast_w (x : S1024x2048.Idx → EReal) (i : S1024x2048.Idx) : truncf (F := Ideal) .bf16 x bitsLt_bf16_f32 i = x i := rfl

theorem ops_w (k : Fin 1024) (j : Fin 2048) : V m c main_v1 (ix2 k j) = WGT (m (c, Proc.devRef .tc main_arg2)) k (4128 + j.val) := by
  unfold V
  after_reads_simp
  exact (cast_w _ (ix2 k j)).trans (Cert.Proj.slice_w 4128 _ _ (by decide) k j)

theorem row_bound (A3 : S2x1024.Idx → EReal) (j : Fin 2048) :
    shapeCast S1x2048 A3 shapeCasts_S2x1024_S1x2048 (ix2 0 j) = A3 (ix2 ⟨j.val / 1024, by omega⟩ ⟨j.val % 1024, by omega⟩) :=
  shapeCast_apply _ _ (ix2 0 j) _ (by
    simp only [Shape.rowMajor_val_two, ix2]; simp; omega)

theorem ops_l (j : Fin 2048) :
    V m c main_v6 (ix2 0 j) = (m (c, Proc.devRef .tc main_arg3)) (ix2 ⟨j.val / 1024, by omega⟩ ⟨j.val % 1024, by omega⟩) := by
  unfold V
  after_reads_simp
  exact row_bound _ j

/-! ### The result -/

theorem gate_congr {n : ℕ} {l l' : EReal} {x x' w w' : Fin n → EReal} (hl : l = l') (hx : ∀ k, x k = x' k) (hw : ∀ k, w k = w' k) :
    GATE l (∑ k, x k * w k) = GATE l' (∑ k, x' k * w' k) := by
  rw [hl, funext hx, funext hw]

theorem kernel_value : (dats m 0 c).arrAt 4 cfg0.N = fun i : S34816x2048.Idx =>
    RESF (m (c, Proc.devRef .tc main_arg0)) (m (c, Proc.devRef .tc main_arg1)) (m (c, Proc.devRef .tc main_arg2))
      (m (c, Proc.devRef .tc main_arg3)) (i 0).val (i 1) := by
  refine out_eq m c _ fun t r j i h0 h1 => ?_
  have ht : t.val < 136 := t.isLt
  have hl := (blk_3 m c t j (ix2 0 (i 1)) h1).trans (ops_l m c (i 1))
  have hw : ∀ k : Fin 1024, iblk m c 2 t (ix2 k j) = _ := fun k => (blk_2 m c t k j (ix2 k (i 1)) rfl h1).trans (ops_w m c k (i 1))
  by_cases h : t.val < 128
  · rw [outsAt0_A m c t h (by omega), out_A]
    refine (slabs_at _ _ _ r j).trans (gate_congr hl (fun k => ?_) hw)
    have hR : (i 0).val < 32768 := by omega
    rw [blk_0 m c t r k (ix2 ⟨(i 0).val, hR⟩ k) (by rw [min_eq_left (by omega)]; exact h0) rfl, ops_lat]
  · rw [outsAt0_B m c t h (by omega), out_B]
    refine (slabs_at _ _ _ r j).trans (gate_congr hl (fun k => ?_) hw)
    have hR : (i 0).val = 32768 + r.val := by omega
    rw [blk_1 m c t r k, ops_ctx, hR]

end Cert.Fgt
end
-- ==== Proof.ForgetRef.lean ====
/-
  The forget gate's reference: every entry of its result is the kernel's gate of the same product and bound.
-/
module

public import proofs.«01_k».proof.Defs
public import proofs.«01_k».proof.Proof.ForgetKernel
public import proofs.«01_k».proof.Proof.Gen.Reference4Ideal.Read
public import Idealize.ShloMosaic.Lib.ReduceAll

@[expose] public section
noncomputable section
namespace Cert.FgtRef
open Cert.Reference4Ideal Cert.Reference4Ideal.Gen Cert.Reference4Ideal.Read Idealize.ShloMosaic Cert.Fgt
open Cert.Proj (HROW WGT)
set_option maxHeartbeats 1000000

/-! ### The precondition -/

theorem pre_facts : Cert.Pre_proper_bounds.Facts where
  bcast_S_S2x1024 := by decide
  reducesTo_S2x1024_S_d0_1 := by decide
  h_S_ := by decide

theorem and_left {a b : BitVec 1} (h : IntOp.andi a b = 1#1) : a = 1#1 := by revert a b; decide
theorem and_right {a b : BitVec 1} (h : IntOp.andi a b = 1#1) : b = 1#1 := by revert a b; decide

instance : Subsingleton Cert.Pre_proper_bounds.S_.Idx := ⟨fun _ _ => funext fun d => d.elim0⟩

/-- The precondition read: every bound lies between 0 and 1. -/
theorem bounds_of_pre (A0 : S8x4096x1024.Idx → EReal) (A1 : S8x256x1024.Idx → EReal) (A2 : S1024x13856.Idx → EReal) (A3 : S2x1024.Idx → EReal)
    (h : (letI := pre_facts; Cert.Pre_proper_bounds.fn (F := Ideal) A0 A1 A2 A3) = fun _ => 1#1) (i : S2x1024.Idx) :
    0 ≤ A3 i ∧ A3 i ≤ 1 := by
  have e := congrFun h (fun d => d.elim0)
  simp only [Cert.Pre_proper_bounds.fn] at e
  have e0 : Ideal.cmp .oge (A3 i) (Ideal.ofBits .f32 0x00000000#32) = 1#1 := Host.reduce_andi_all _ _ _ _ _ (and_left e) i
  have e1 : Ideal.cmp .ole (A3 i) (Ideal.ofBits .f32 0x3F800000#32) = 1#1 := Host.reduce_andi_all _ _ _ _ _ (and_right e) i
  rw [zero_bits] at e0
  rw [one_bits] at e1
  constructor
  · by_contra hn
    simp [Ideal.cmp, hn] at e0
  · by_contra hn
    simp [Ideal.cmp, hn] at e1

/-! ### The reference's operations -/

variable (A0 : S8x4096x1024.Idx → EReal) (A1 : S8x256x1024.Idx → EReal) (A2 : S1024x13856.Idx → EReal) (A3 : S2x1024.Idx → EReal)

/-- A number equals itself, so the first choice is never taken. -/
theorem same_self (d e x : EReal) : Scalar.select (Ideal.cmp .une d d) e x = x := by
  simp [Scalar.select, Ideal.cmp]

theorem soft_eq (d e z o : EReal) (ho : o = Ideal.ofBits .f32 0x00000000#32) :
    Scalar.select (Ideal.cmp .une d d) e (max (-z) o + Ideal.log1p (Ideal.exp (-max (-z - o) (-(-z - o))))) = LAE (-z) 0 := by
  rw [same_self, ho, zero_bits]
  rfl

theorem soft_lat (i : S8x4096x2x1024.Idx) : val_main_call0_v1 (F := Ideal) A0 A2 i = LAE (-val_main_v15 (F := Ideal) A0 A2 i) 0 :=
  soft_eq _ _ _ _ rfl
theorem soft_ctx (i : S8x256x2x1024.Idx) : val_main_call1_v1 (F := Ideal) A1 A2 i = LAE (-val_main_v53 (F := Ideal) A1 A2 i) 0 :=
  soft_eq _ _ _ _ rfl

theorem gate_lat (b : Fin 8) (r : Fin 4096) (h : Fin 2) (j : Fin 1024) : val_main_v36 (F := Ideal) A0 A2 A3 (ix4 b r h j) =
    GATE' (A3 (ix2 h j)) (val_main_v15 (F := Ideal) A0 A2 (ix4 b r h j)) := by
  have el : val_main_v24 (F := Ideal) A3 (ix4 b r h j) = Ideal.log (A3 (ix2 h j)) := by
    rw [val_main_v24_apply, val_main_v23_apply]
    refine congrArg (fun i => Ideal.log (A3 i)) ?_
    funext a
    fin_cases a <;> rfl
  have e1 : val_main_v21 (F := Ideal) A3 (ix4 b r h j) = Ideal.log1p (-A3 (ix2 h j)) := by
    rw [val_main_v21_apply, val_main_v20_apply]
    refine congrArg (fun i => Ideal.log1p (-A3 i)) ?_
    funext a
    fin_cases a <;> rfl
  have ev : val_main_v22 (F := Ideal) A0 A2 A3 (ix4 b r h j) =
      Ideal.log1p (-A3 (ix2 h j)) + -LAE (-val_main_v15 (F := Ideal) A0 A2 (ix4 b r h j)) 0 := by
    rw [← e1, ← soft_lat]
    rfl
  refine (same_self _ _ _).trans ?_
  show LAE (val_main_v24 (F := Ideal) A3 (ix4 b r h j)) (val_main_v22 (F := Ideal) A0 A2 A3 (ix4 b r h j)) = _
  rw [el, ev]
  rfl

theorem gate_ctx (b : Fin 8) (r : Fin 256) (h : Fin 2) (j : Fin 1024) : val_main_v74 (F := Ideal) A1 A2 A3 (ix4 b r h j) =
    GATE' (A3 (ix2 h j)) (val_main_v53 (F := Ideal) A1 A2 (ix4 b r h j)) := by
  have el : val_main_v62 (F := Ideal) A3 (ix4 b r h j) = Ideal.log (A3 (ix2 h j)) := by
    rw [val_main_v62_apply, val_main_v61_apply]
    refine congrArg (fun i => Ideal.log (A3 i)) ?_
    funext a
    fin_cases a <;> rfl
  have e1 : val_main_v59 (F := Ideal) A3 (ix4 b r h j) = Ideal.log1p (-A3 (ix2 h j)) := by
    rw [val_main_v59_apply, val_main_v58_apply]
    refine congrArg (fun i => Ideal.log1p (-A3 i)) ?_
    funext a
    fin_cases a <;> rfl
  have ev : val_main_v60 (F := Ideal) A1 A2 A3 (ix4 b r h j) =
      Ideal.log1p (-A3 (ix2 h j)) + -LAE (-val_main_v53 (F := Ideal) A1 A2 (ix4 b r h j)) 0 := by
    rw [← e1, ← soft_ctx]
    rfl
  refine (same_self _ _ _).trans ?_
  show LAE (val_main_v62 (F := Ideal) A3 (ix4 b r h j)) (val_main_v60 (F := Ideal) A1 A2 A3 (ix4 b r h j)) = _
  rw [el, ev]
  rfl

/-! ### The products -/

theorem lat_at (b : Fin 8) (r : Fin 4096) (h : Fin 2) (j : Fin 1024) : val_main_v15 (F := Ideal) A0 A2 (ix4 b r h j) =
    ∑ k : Fin 1024, A0 (ix3 b r k) * WGT A2 k (4128 + (1024 * h.val + j.val)) := by
  have hj : 1024 * h.val + j.val < 2048 := by omega
  unfold val_main_v15
  refine (shapeCast_apply _ _ _ (ix3 b r ⟨1024 * h.val + j.val, hj⟩) (by
    simp only [Shape.rowMajor_val_four, Shape.rowMajor_val_three, ix3, ix4]; simp; omega)).trans ?_
  rw [val_main_v7_apply, val_main_v0_apply]
  refine Finset.sum_congr rfl fun k _ => congrArg₂ (· * ·) (congrArg A0 ?_) ?_
  · funext a
    fin_cases a <;> rfl
  · unfold WGT
    rw [dif_pos (by omega)]
    refine congrArg A2 ?_
    funext a
    fin_cases a <;> rfl

theorem ctx_at (b : Fin 8) (r : Fin 256) (h : Fin 2) (j : Fin 1024) : val_main_v53 (F := Ideal) A1 A2 (ix4 b r h j) =
    ∑ k : Fin 1024, A1 (ix3 b r k) * WGT A2 k (4128 + (1024 * h.val + j.val)) := by
  have hj : 1024 * h.val + j.val < 2048 := by omega
  unfold val_main_v53
  refine (shapeCast_apply _ _ _ (ix3 b r ⟨1024 * h.val + j.val, hj⟩) (by
    simp only [Shape.rowMajor_val_four, Shape.rowMajor_val_three, ix3, ix4]; simp; omega)).trans ?_
  rw [val_main_v45_apply, val_main_v38_apply]
  refine Finset.sum_congr rfl fun k _ => congrArg₂ (· * ·) (congrArg A1 ?_) ?_
  · funext a
    fin_cases a <;> rfl
  · unfold WGT
    rw [dif_pos (by omega)]
    refine congrArg A2 ?_
    funext a
    fin_cases a <;> rfl

theorem rows_at (x : S32768x2048.Idx → EReal) (y : S2048x2048.Idx → EReal) (R : Fin 34816) (j : Fin 2048) :
    concatenate S34816x2048 0 [⟨S32768x2048, x⟩, ⟨S2048x2048, y⟩]
      concatenates_S32768x2048_S2048x2048_S34816x2048_d0 (ix2 R j) =
    if h : R.val < 32768 then x (ix2 ⟨R.val, h⟩ j) else y (ix2 ⟨R.val - 32768, by omega⟩ j) := by
  pointwise

/-- Every entry of the reference's result. -/
theorem reference_value (hA : ∀ i, 0 ≤ A3 i ∧ A3 i ≤ 1) (R : Fin 34816) (j : Fin 2048) :
    val_main_v76 (F := Ideal) A0 A1 A2 A3 (ix2 R j) = RESF A0 A1 A2 A3 R.val j := by
  unfold val_main_v76
  refine (rows_at _ _ R j).trans ?_
  have hR := R.isLt
  have hj : 1024 * (j.val / 1024) + j.val % 1024 = j.val := by omega
  unfold RESF HROW
  rw [← same_gate _ _ (hA _).1 (hA _).2]
  by_cases h : R.val < 32768
  · rw [dif_pos h]
    refine (shapeCast_apply _ _ _ (ix4 ⟨R.val / 4096, by omega⟩ ⟨R.val % 4096, by omega⟩ ⟨j.val / 1024, by omega⟩ ⟨j.val % 1024, by omega⟩) (by
      simp only [Shape.rowMajor_val_four, Shape.rowMajor_val_two, ix2, ix4]; simp; omega)).trans ?_
    rw [gate_lat, lat_at]
    simp only [dif_pos h, hj]
  · rw [dif_neg h]
    refine (shapeCast_apply _ _ _ (ix4 ⟨(R.val - 32768) / 256, by omega⟩ ⟨(R.val - 32768) % 256, by omega⟩ ⟨j.val / 1024, by omega⟩
      ⟨j.val % 1024, by omega⟩) (by
      simp only [Shape.rowMajor_val_four, Shape.rowMajor_val_two, ix2, ix4]; simp; omega)).trans ?_
    rw [gate_ctx, ctx_at]
    simp only [dif_neg h, dif_pos hR, hj]

end Cert.FgtRef
end
-- ==== Proof.FirstTile.lean ====
/-
  The first layer's forget projection: its step leaves eight slabs of 256 rows, each the gate's logarithm for the bound 0.
-/
module

public import proofs.«01_k».proof.Proof.ForgetKernel
public import proofs.«01_k».proof.Proof.Gen.Kernel6Ideal.Value

@[expose] public section
noncomputable section
namespace Cert.Fst
open Cert.Kernel6Ideal Cert.Kernel6Ideal.Gen Idealize.ShloMosaic Idealize.ShloMosaic.TcCoe Idealize.SL.Sem
open Cert.Fgt (PRD DCY ALL ldX inb_out MAG DEC GATE)
variable {F : FTy → Type} [FloatOps F]

/-- The gate's logarithm where the bound is 0. -/
def GATE0 (z : EReal) : EReal := min z 0 - Ideal.log (1 + DEC z)

/-- At the bound 0 the numerator's logarithm is the smaller of the projection and 0. -/
theorem gate_zero (z : EReal) : GATE 0 z = GATE0 z := by
  unfold GATE GATE0
  rw [max_eq_right]
  induction z with
  | bot => rw [Cert.Fgt.dec_bot, if_neg (by simp), add_zero, ← EReal.coe_zero, Cert.Fgt.log_zero]; exact bot_le
  | top => rw [if_pos le_top, zero_mul, add_zero, Cert.Fgt.log_one, min_eq_right le_top]
  | coe r =>
    by_cases h : 0 ≤ r
    · have hz : (0 : EReal) ≤ (r : EReal) := EReal.coe_nonneg.mpr h
      rw [if_pos hz, zero_mul, add_zero, Cert.Fgt.log_one, min_eq_right hz]
    · have h := not_le.mp h
      have hz : (r : EReal) < 0 := EReal.coe_neg'.mpr h
      rw [if_neg (not_le.mpr hz), zero_add, min_eq_left hz.le, Cert.Fgt.dec_coe, abs_of_neg h, neg_neg,
        Cert.Fgt.log_pos (Real.exp_pos r), Real.log_exp]

/-- The gate's logarithm of a slab's product. -/
def LOG0 (z : FVec F S256x256 .f32) : FVec F S256x256 .f32 :=
  subf (minimumf z (ALL 0x00000000#32)) (log (addf (ALL 0x3F800000#32) (DCY z)))

/-- Slab `a` of what a step leaves, and the slabs, the last stored first. -/
def SLAB0 (x : Vec F S2048x1024 .bf16) (w : Vec F S1024x256 .bf16) (a : Fin 8) : FVec F S256x256 .f32 :=
  LOG0 (PRD (ldX x a) (View.ld w (Rect.unit (s := S1024x256) ![0, 0] S1024x256.size inb_S1024x256_S1024x256_0_0)))

def SLABS0 (x : Vec F S2048x1024 .bf16) (w : Vec F S1024x256 .bf16) : List (View.Piece (Elt F) S2048x256 .f32) :=
  List.ofFn fun k : Fin 8 => ⟨Rect.unit (s := S2048x256) ![256 * k.rev.val, 0] S256x256.size (inb_out _), SLAB0 x w k.rev⟩

set_option maxHeartbeats 4000000 in
theorem out_A (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x256 .bf16) (harg4 : arg4.IsWhole) (arg5 : Memref sig .tc .vmem S1x256 .f32) (harg5 : arg5.IsWhole) (arg6 : Memref sig .tc .vmem S2048x256 .f32) (harg6 : arg6.IsWhole) (hc0 : cond0_0 i) (hc1 : ¬cond0_1 i)
    (x0 : Vec F S2048x1024 .bf16) (x1 : Vec F S2048x1024 .bf16) (x2 : Vec F S1024x256 .bf16) (x3 : Vec F S1x256 .f32) :
    out0_A_4 c i arg2 harg2 arg3 harg3 arg4 harg4 arg5 harg5 arg6 harg6 hc0 hc1 x0 x1 x2 x3 = View.canon (SLABS0 x0 x2) := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  simp only [View.readAt_eq_ld, harg2.read_unread, harg3.read_unread, harg4.read_unread, harg5.read_unread]
  rfl

set_option maxHeartbeats 4000000 in
theorem out_B (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x256 .bf16) (harg4 : arg4.IsWhole) (arg5 : Memref sig .tc .vmem S1x256 .f32) (harg5 : arg5.IsWhole) (arg6 : Memref sig .tc .vmem S2048x256 .f32) (harg6 : arg6.IsWhole) (hc0 : ¬cond0_0 i) (hc1 : cond0_1 i)
    (x0 : Vec F S2048x1024 .bf16) (x1 : Vec F S2048x1024 .bf16) (x2 : Vec F S1024x256 .bf16) (x3 : Vec F S1x256 .f32) :
    out0_B_4 c i arg2 harg2 arg3 harg3 arg4 harg4 arg5 harg5 arg6 harg6 hc0 hc1 x0 x1 x2 x3 = View.canon (SLABS0 x1 x2) := by
  unfold out0_B_4
  rw [View.read_writes_eq_canon _ _ _ (cover0_B_4 c i arg2 harg2 arg3 harg3 arg4 harg4 arg5 harg5 arg6 harg6 hc0 hc1 x0 x1 x2 x3)]
  unfold kernelRun0_B
  dsimp only
  sl_unfold_words
  simp only [View.readAt_eq_ld, harg2.read_unread, harg3.read_unread, harg4.read_unread, harg5.read_unread]
  rfl

end Cert.Fst
end
-- ==== Proof.FirstKernel.lean ====
/-
  The first layer's forget projection: every entry of its result is the gate's logarithm of a product for the bound 0.
-/
module

public import proofs.«01_k».proof.Proof.FirstTile

@[expose] public section
noncomputable section
namespace Cert.Fst
open Cert.Kernel6Ideal Cert.Kernel6Ideal.Gen Idealize.ShloMosaic Idealize.ShloMosaic.TcCoe Idealize.SL.Sem
open Cert.Fgt (PRD DCY ldX inb_out DEC GATE BLK RESF prd_at dcy_at ldX_at zero_bits one_bits two_zero cast_w)
open Cert.Proj (HROW WGT)
set_option maxHeartbeats 1000000

/-- Entry `(R, j)` of the gates' logarithms. -/
def RES0 (A0 : S8x4096x1024.Idx → EReal) (A1 : S8x256x1024.Idx → EReal) (A2 : S1024x13856.Idx → EReal) (R : ℕ) (j : Fin 2048) : EReal :=
  GATE 0 (∑ k, HROW A0 A1 R k * WGT A2 k (4128 + j.val))

/-- Where every bound is 0, that is the gate of the bounds. -/
theorem res_eq (A0 : S8x4096x1024.Idx → EReal) (A1 : S8x256x1024.Idx → EReal) (A2 : S1024x13856.Idx → EReal) (A3 : S2x1024.Idx → EReal)
    (h : ∀ i, A3 i = 0) (R : ℕ) (j : Fin 2048) : RESF A0 A1 A2 A3 R j = RES0 A0 A1 A2 R j := by
  unfold RESF RES0
  rw [h]

theorem log0_at (z : S256x256.Idx → EReal) (i : S256x256.Idx) : LOG0 (F := Ideal) z i = GATE 0 (z i) := by
  show min (z i) (Ideal.ofBits .f32 0x00000000#32) - Ideal.log (Ideal.ofBits .f32 0x3F800000#32 + DCY (F := Ideal) z i) = _
  rw [dcy_at, zero_bits, one_bits, gate_zero]
  rfl

theorem slab_at (x : Vec Ideal S2048x1024 .bf16) (w : Vec Ideal S1024x256 .bf16) (a : Fin 8) (r j : Fin 256) :
    SLAB0 (F := Ideal) x w a (ix2 r j) = BLK x w (fun _ => 0) ⟨256 * a.val + r.val, by omega⟩ j := by
  unfold SLAB0 BLK
  rw [log0_at, prd_at, View.ld_unit_zero (S := S1024x256) two_zero]
  simp only [ldX_at]

theorem slabs_at (x : Vec Ideal S2048x1024 .bf16) (w : Vec Ideal S1024x256 .bf16) (q : Fin 2048) (j : Fin 256) :
    View.canon (SLABS0 (F := Ideal) x w) (ix2 q j) = BLK x w (fun _ => 0) q j := by
  have hq := q.isLt
  unfold SLABS0
  refine View.canon_ofFn_unit_eq_of_forall _ _ _ _ _ _ ?_ fun k x' hx => ?_
  · refine ⟨Fin.rev ⟨q.val / 256, by omega⟩, fun a => ?_⟩
    rw [Fin.rev_rev]
    fin_cases a
    · show 256 * (q.val / 256) ≤ q.val ∧ q.val < 256 * (q.val / 256) + 256
      omega
    · exact ⟨Nat.zero_le _, lt_of_lt_of_eq j.isLt (Nat.zero_add _).symm⟩
  · have h2 : q.val = 256 * k.rev.val + (x' 0).val := hx 0
    have h3 : j.val = 0 + (x' 1).val := hx 1
    have hx1 : x' 1 = j := Fin.ext (by omega)
    have hxe : x' = ix2 (x' 0) (x' 1) := by funext a; fin_cases a <;> rfl
    refine (congrArg _ hxe).trans ((slab_at _ _ k.rev (x' 0) (x' 1)).trans ?_)
    rw [hx1]
    congr 1
    exact Fin.ext h2.symm

/-! ### What a grid step reads

Step `t` of the grid is row block `t / 8` and column block `t % 8`. -/

theorem ix_0 : ∀ t : Fin cfg0.N, win0_0.index t = ![min (t.val / 8) 15, 0] := (by decide +kernel : ∀ t : Fin grid0.N, win0_0.index t = ![min (t.val / 8) 15, 0])
theorem ix_1 : ∀ t : Fin cfg0.N, win0_1.index t = ![0, 0] := (by decide +kernel : ∀ t : Fin grid0.N, win0_1.index t = ![0, 0])
theorem ix_2 : ∀ t : Fin cfg0.N, win0_2.index t = ![0, t.val % 8] := (by decide +kernel : ∀ t : Fin grid0.N, win0_2.index t = ![0, t.val % 8])
theorem ix_4 : ∀ t : Fin cfg0.N, win0_4.index t = ![t.val / 8, t.val % 8] := (by decide +kernel : ∀ t : Fin grid0.N, win0_4.index t = ![t.val / 8, t.val % 8])

variable (m : (ℓ : Loc nD τ sig) → Buf (Elt Ideal) ℓ) (c : Dev nD)

theorem blk_0 (t : Fin cfg0.N) (r : Fin 2048) (k : Fin 1024) (i : S32768x1024.Idx)
    (h0 : (i 0).val = 2048 * min (t.val / 8) 15 + r.val) (h1 : (i 1).val = k.val) : iblk m c 0 t (ix2 r k) = V m c main_v3 i := by
  blk_simp [iblk]
  refine congrArg _ (funext fun a => Fin.ext ?_)
  fin_cases a
  · blk_simp [ix_0 t]
    exact (congrArg (· + r.val) (Nat.mul_comm _ _)).trans h0.symm
  · blk_simp [ix_0 t]
    exact h1.symm

theorem blk_1 (t : Fin cfg0.N) (r : Fin 2048) (k : Fin 1024) : iblk m c 1 t (ix2 r k) = V m c main_v5 (ix2 r k) := by
  blk_simp [iblk]
  refine congrArg _ (funext fun a => Fin.ext ?_)
  fin_cases a
  · blk_simp [ix_1 t]
  · blk_simp [ix_1 t]

theorem blk_2 (t : Fin cfg0.N) (k : Fin 1024) (j : Fin 256) (i : S1024x2048.Idx)
    (h0 : (i 0).val = k.val) (h1 : (i 1).val = 256 * (t.val % 8) + j.val) : iblk m c 2 t (ix2 k j) = V m c main_v1 i := by
  blk_simp [iblk]
  refine congrArg _ (funext fun a => Fin.ext ?_)
  fin_cases a
  · blk_simp [ix_2 t]
    exact h0.symm
  · blk_simp [ix_2 t]
    exact (congrArg (· + j.val) (Nat.mul_comm _ _)).trans h1.symm

/-- The output array holds `G` when each step leaves `G`'s entries in its block. -/
theorem out_eq (G : S34816x2048.Idx → EReal)
    (h : ∀ (t : Fin cfg0.N) (r : Fin 2048) (j : Fin 256) (i : S34816x2048.Idx), (i 0).val = 2048 * (t.val / 8) + r.val →
      (i 1).val = 256 * (t.val % 8) + j.val → outsAt0 m c t.val t.isLt (ix2 r j) = G i) :
    (dats m 0 c).arrAt 4 cfg0.N = G := by
  refine (dats m 0 c).arrAt_eq_of_covers 4 _ (by decide +kernel) fun t hf y => ?_
  blk_simp
  rw [after0_4]
  have hy : y = ix2 (y 0) (y 1) := by funext a; fin_cases a <;> rfl
  refine (congrArg (outsAt0 m c t.val t.isLt) hy).trans (h t (y 0) (y 1) _ ?_ ?_)
  · blk_simp [ix_4 t]
    exact congrArg (· + (y 0).val) (Nat.mul_comm _ _)
  · blk_simp [ix_4 t]
    exact congrArg (· + (y 1).val) (Nat.mul_comm _ _)

/-! ### The operands -/

theorem ops_lat (R : Fin 32768) (k : Fin 1024) :
    V m c main_v3 (ix2 R k) = HROW (m (c, Proc.devRef .tc main_arg0)) (m (c, Proc.devRef .tc main_arg1)) R.val k := by
  unfold V
  after_reads_simp
  exact Cert.Proj.rows_lat _ _ R k

theorem ops_ctx (R : Fin 2048) (k : Fin 1024) :
    V m c main_v5 (ix2 R k) = HROW (m (c, Proc.devRef .tc main_arg0)) (m (c, Proc.devRef .tc main_arg1)) (32768 + R.val) k := by
  unfold V
  after_reads_simp
  exact Cert.Proj.rows_ctx _ _ R k

theorem cast_w (x : S1024x2048.Idx → EReal) (i : S1024x2048.Idx) : truncf (F := Ideal) .bf16 x bitsLt_bf16_f32 i = x i := rfl

theorem ops_w (k : Fin 1024) (j : Fin 2048) : V m c main_v1 (ix2 k j) = WGT (m (c, Proc.devRef .tc main_arg2)) k (4128 + j.val) := by
  unfold V
  after_reads_simp
  exact (cast_w _ (ix2 k j)).trans (Cert.Proj.slice_w 4128 _ _ (by decide) k j)

/-! ### The result -/

theorem gate_congr {n : ℕ} {x x' w w' : Fin n → EReal} (hx : ∀ k, x k = x' k) (hw : ∀ k, w k = w' k) :
    GATE 0 (∑ k, x k * w k) = GATE 0 (∑ k, x' k * w' k) := by
  rw [funext hx, funext hw]

theorem kernel_value : (dats m 0 c).arrAt 4 cfg0.N = fun i : S34816x2048.Idx =>
    RES0 (m (c, Proc.devRef .tc main_arg0)) (m (c, Proc.devRef .tc main_arg1)) (m (c, Proc.devRef .tc main_arg2)) (i 0).val (i 1) := by
  refine out_eq m c _ fun t r j i h0 h1 => ?_
  have ht : t.val < 136 := t.isLt
  have hw : ∀ k : Fin 1024, iblk m c 2 t (ix2 k j) = _ := fun k => (blk_2 m c t k j (ix2 k (i 1)) rfl h1).trans (ops_w m c k (i 1))
  by_cases h : t.val < 128
  · rw [outsAt0_A m c t h (by omega), out_A]
    refine (slabs_at _ _ r j).trans (gate_congr (fun k => ?_) hw)
    have hR : (i 0).val < 32768 := by omega
    rw [blk_0 m c t r k (ix2 ⟨(i 0).val, hR⟩ k) (by rw [min_eq_left (by omega)]; exact h0) rfl, ops_lat]
  · rw [outsAt0_B m c t h (by omega), out_B]
    refine (slabs_at _ _ r j).trans (gate_congr (fun k => ?_) hw)
    have hR : (i 0).val = 32768 + r.val := by omega
    rw [blk_1 m c t r k, ops_ctx, hR]

end Cert.Fst
end
-- ==== Proof.FirstRef.lean ====
/-
  The forget gate's reference where every bound is 0: its entries are those of the first layer's kernel.
-/
module

public import proofs.«01_k».proof.Proof.ForgetRef
public import proofs.«01_k».proof.Proof.FirstKernel

@[expose] public section
noncomputable section
namespace Cert.FstRef
open Cert.Reference4Ideal Cert.Reference4Ideal.Gen Cert.Reference4Ideal.Read Idealize.ShloMosaic Cert.Fst

theorem pre_facts : Cert.Pre_zero_bounds.Facts where
  bcast_S_S2x1024 := by decide
  reducesTo_S2x1024_S_d0_1 := by decide
  h_S_ := by decide

instance : Subsingleton Cert.Pre_zero_bounds.S_.Idx := ⟨fun _ _ => funext fun d => d.elim0⟩

variable (A0 : S8x4096x1024.Idx → EReal) (A1 : S8x256x1024.Idx → EReal) (A2 : S1024x13856.Idx → EReal) (A3 : S2x1024.Idx → EReal)

/-- The precondition read: every bound is 0. -/
theorem bounds_of_pre
    (h : (letI := pre_facts; Cert.Pre_zero_bounds.fn (F := Ideal) A0 A1 A2 A3) = fun _ => 1#1) (i : S2x1024.Idx) : A3 i = 0 := by
  have e := congrFun h (fun d => d.elim0)
  simp only [Cert.Pre_zero_bounds.fn] at e
  have e0 : Ideal.cmp .oeq (A3 i) (Ideal.ofBits .f32 0x00000000#32) = 1#1 := Host.reduce_andi_all _ _ _ _ _ e i
  rw [Cert.Fgt.zero_bits] at e0
  by_contra hn
  simp [Ideal.cmp, hn] at e0

theorem reference_value (hA : ∀ i, A3 i = 0) (R : Fin 34816) (j : Fin 2048) :
    val_main_v76 (F := Ideal) A0 A1 A2 A3 (ix2 R j) = RES0 A0 A1 A2 R.val j := by
  rw [Cert.FgtRef.reference_value A0 A1 A2 A3 (fun i => by rw [hA i]; exact ⟨le_rfl, zero_le_one⟩) R j, res_eq A0 A1 A2 A3 hA]

end Cert.FstRef
end
-- ==== Proof.NextTile.lean ====
/-
  One step of the merge before another layer: two copies of one chunk of 256 rows, each leaving the stream and its modulated norm.
-/
module

public import proofs.«01_k».proof.Proof.Gen.Kernel5Ideal.Value
public import proofs.«01_k».proof.Proof.MergeRow

@[expose] public section
noncomputable section
namespace Cert.Nxt
open Cert.Kernel5Ideal Cert.Kernel5Ideal.Gen Idealize.ShloMosaic Idealize.ShloMosaic.TcCoe Idealize.SL.Sem
open Cert.Mrg (UP NRM HEADS4 HEADS8 GATED TERM STREAM ldR ldM ldW inb_rows)
variable {F : FTy → Type} [FloatOps F]

/-- The stream's 256 rows that a step computes. -/
def CHX (a0 a1 ag b0 b1 bg y m0 m1 m2 : FVec F S256x1024 .bf16) (x : FVec F S256x1024 .f32) (md : FVec F S1x1x3072 .f32)
    (w0 w1 w2 : FVec F S1x1024x1024 .bf16) (wo : FVec F S1024x1024 .bf16) : FVec F S256x1024 .f32 :=
  STREAM (addf (addf (TERM m0 (GATED (HEADS4 (addf (UP a0) (UP a1))) ag) w0) (TERM m1 (GATED (HEADS8 (addf (UP b0) (UP b1))) bg) w1))
    (TERM m2 (shapeCast S256x1024 y shapeCasts_S256x1024_S256x1024) w2)) wo x md

/-- Rows normed and modulated. -/
def MODN (x : FVec F S256x1024 .f32) (g : FVec F S1x1024 .f32) (nm : FVec F S1x1x3072 .f32) : FVec F S256x1024 .bf16 :=
  truncf .bf16 (addf (mulf (mulf (NRM x) (broadcastTo S256x1024 (shapeCast S1x1024 g shapeCasts_S1x1024_S1x1024) broadcasts_S1x1024_S256x1024))
      (broadcastTo S256x1024 (addf (broadcast S1x1024 (Scalar.ofBits .f32 0x3F800000#32))
        (extractStridedSlice S1x1024 ![0, 1024] (shapeCast S1x3072 nm shapeCasts_S1x1x3072_S1x3072) slices_S1x3072_o0_1024_S1x1024)) broadcasts_S1x1024_S256x1024))
    (broadcastTo S256x1024 (extractStridedSlice S1x1024 ![0, 0] (shapeCast S1x3072 nm shapeCasts_S1x1x3072_S1x3072) slices_S1x3072_o0_0_S1x1024)
      broadcasts_S1x1024_S256x1024)) bitsLt_bf16_f32

/-- Half `a` of the stream a step leaves. -/
def HALFX (x0 x1 x2 x3 x4 x5 x6 : Vec F S512x1024 .bf16) (x7 : Vec F S512x3072 .bf16) (x8 : Vec F S512x1024 .f32) (x9 : Vec F S1x1x3072 .f32)
    (x10 : Vec F S3x1024x1024 .bf16) (x11 : Vec F S1024x1024 .bf16) (a : Fin 2) : FVec F S256x1024 .f32 :=
  CHX (ldR x0 a) (ldR x1 a) (ldR x2 a) (ldR x3 a) (ldR x4 a) (ldR x5 a) (ldR x6 a) (ldM x7 a 0) (ldM x7 a 1) (ldM x7 a 2) (ldR x8 a)
    (View.ld x9 (Rect.unit (s := S1x1x3072) ![0, 0, 0] S1x1x3072.size inb_S1x1x3072_S1x1x3072_0_0_0))
    (ldW x10 0) (ldW x10 1) (ldW x10 2) (View.ld x11 (Rect.unit (s := S1024x1024) ![0, 0] S1024x1024.size inb_S1024x1024_S1024x1024_0_0))

/-- Half `a` of the modulated norm a step leaves. -/
def HALFH (x0 x1 x2 x3 x4 x5 x6 : Vec F S512x1024 .bf16) (x7 : Vec F S512x3072 .bf16) (x8 : Vec F S512x1024 .f32) (x9 : Vec F S1x1x3072 .f32)
    (x10 : Vec F S3x1024x1024 .bf16) (x11 : Vec F S1024x1024 .bf16) (x12 : Vec F S1x1024 .f32) (x13 : Vec F S1x1x3072 .f32) (a : Fin 2) : FVec F S256x1024 .bf16 :=
  MODN (HALFX x0 x1 x2 x3 x4 x5 x6 x7 x8 x9 x10 x11 a) (View.ld x12 (Rect.unit (s := S1x1024) ![0, 0] S1x1024.size inb_S1x1024_S1x1024_0_0))
    (View.ld x13 (Rect.unit (s := S1x1x3072) ![0, 0, 0] S1x1x3072.size inb_S1x1x3072_S1x1x3072_0_0_0))

set_option maxHeartbeats 4000000 in
/-- The stream block a step leaves, as its two halves, the last stored first. -/
theorem out_halves_14 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .f32) (harg9 : arg9.IsWhole) (arg10 : Memref sig .tc .vmem S1x1x3072 .f32) (harg10 : arg10.IsWhole) (arg11 : Memref sig .tc .vmem S3x1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x3072 .f32) (harg14 : arg14.IsWhole) (arg15 : Memref sig .tc .vmem S512x1024 .f32) (harg15 : arg15.IsWhole) (arg16 : Memref sig .tc .vmem S512x1024 .bf16) (harg16 : arg16.IsWhole)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x3072 .bf16) (x8 : Vec F S512x1024 .f32) (x9 : Vec F S1x1x3072 .f32) (x10 : Vec F S3x1024x1024 .bf16) (x11 : Vec F S1024x1024 .bf16) (x12 : Vec F S1x1024 .f32) (x13 : Vec F S1x1x3072 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13
      = View.canon (List.ofFn fun k : Fin 2 => ⟨Rect.unit (s := S512x1024) ![256 * (1 - k : Fin 2).val, 0] S256x1024.size (inb_rows _),
          HALFX x0 x1 x2 x3 x4 x5 x6 x7 x8 x9 x10 x11 (1 - k)⟩) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rfl

set_option maxHeartbeats 4000000 in
/-- The modulated norm a step leaves, as its two halves, the last stored first. -/
theorem out_halves_15 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x3072 .bf16) (harg8 : arg8.IsWhole) (arg9 : Memref sig .tc .vmem S512x1024 .f32) (harg9 : arg9.IsWhole) (arg10 : Memref sig .tc .vmem S1x1x3072 .f32) (harg10 : arg10.IsWhole) (arg11 : Memref sig .tc .vmem S3x1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x3072 .f32) (harg14 : arg14.IsWhole) (arg15 : Memref sig .tc .vmem S512x1024 .f32) (harg15 : arg15.IsWhole) (arg16 : Memref sig .tc .vmem S512x1024 .bf16) (harg16 : arg16.IsWhole)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x3072 .bf16) (x8 : Vec F S512x1024 .f32) (x9 : Vec F S1x1x3072 .f32) (x10 : Vec F S3x1024x1024 .bf16) (x11 : Vec F S1024x1024 .bf16) (x12 : Vec F S1x1024 .f32) (x13 : Vec F S1x1x3072 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13
      = View.canon (List.ofFn fun k : Fin 2 => ⟨Rect.unit (s := S512x1024) ![256 * (1 - k : Fin 2).val, 0] S256x1024.size (inb_rows _),
          HALFH x0 x1 x2 x3 x4 x5 x6 x7 x8 x9 x10 x11 x12 x13 (1 - k)⟩) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rfl

end Cert.Nxt
end
-- ==== Proof.NextBlocks.lean ====
/-
  The merge before another layer: a step's entries, which entries of the host's arrays it reads, and the entries of its two results.
-/
module

public import proofs.«01_k».proof.Proof.NextTile
public import proofs.«01_k».proof.Proof.MergeBlocks

@[expose] public section
noncomputable section
namespace Cert.Nxt
open Cert.Kernel5Ideal Cert.Kernel5Ideal.Gen Idealize.ShloMosaic Idealize.ShloMosaic.TcCoe Idealize.SL.Sem
open Cert.Mrg (UP NRM HEADS4 HEADS8 GATED TERM STREAM ldR ldM ldW inb_rows HN SILU Y4 Y8 BR STR norm_at heads4_at heads8_at up_at gated_at term_at
  stream_at ldR_at ldM_at ldW_at two_zero three_zero)
set_option maxHeartbeats 1000000

/-- The stream's row after the merge. -/
def XROW (a ag b bg y m0 m1 m2 : Fin 1024 → EReal) (W0 W1 W2 WO : Fin 1024 → Fin 1024 → EReal) (x md : Fin 1024 → EReal) (d : Fin 1024) : EReal :=
  STR (fun e => (BR m0 (fun k => Y4 a k * SILU (ag k)) W0 e + BR m1 (fun k => Y8 b k * SILU (bg k)) W1 e) + BR m2 y W2 e) WO x md d

/-- A row over its root mean square, times a gain, times one plus a scale, plus a shift. -/
def NROW (X g sc sh : Fin 1024 → EReal) (d : Fin 1024) : EReal :=
  HN 0x44800000#32 X d * g d * (Ideal.ofBits .f32 0x3F800000#32 + sc d) + sh d

theorem chx_at (a0 a1 ag b0 b1 bg y m0 m1 m2 : FVec Ideal S256x1024 .bf16) (x : FVec Ideal S256x1024 .f32) (md : FVec Ideal S1x1x3072 .f32)
    (w0 w1 w2 : FVec Ideal S1x1024x1024 .bf16) (wo : FVec Ideal S1024x1024 .bf16) (r : Fin 256) (d : Fin 1024) :
    CHX (F := Ideal) a0 a1 ag b0 b1 bg y m0 m1 m2 x md w0 w1 w2 wo (ix2 r d)
      = XROW (fun k => a0 (ix2 r k) + a1 (ix2 r k)) (fun k => ag (ix2 r k)) (fun k => b0 (ix2 r k) + b1 (ix2 r k)) (fun k => bg (ix2 r k))
          (fun k => y (ix2 r k)) (fun e => m0 (ix2 r e)) (fun e => m1 (ix2 r e)) (fun e => m2 (ix2 r e))
          (fun k e => w0 (ix3 0 k e)) (fun k e => w1 (ix3 0 k e)) (fun k e => w2 (ix3 0 k e)) (fun e d => wo (ix2 e d))
          (fun d => x (ix2 r d)) (fun d => md (ix3 0 0 ⟨2048 + d.val, by omega⟩)) d := by
  have hy : ∀ k, shapeCast S256x1024 y shapeCasts_S256x1024_S256x1024 (ix2 r k) = y (ix2 r k) := by
    intro k
    pointwise
  unfold CHX XROW
  refine (stream_at _ wo x md r d).trans ?_
  refine congrArg (fun g => STR g _ _ _ d) (funext fun e => ?_)
  refine congrArg₂ (· + ·) (congrArg₂ (· + ·) ?_ ?_) ?_
  · refine (term_at _ _ _ r e).trans ?_
    congr 1
    funext k
    refine (gated_at _ _ r k).trans (congrArg (· * _) ((heads4_at _ r k).trans ?_))
    exact congrArg (Y4 · k) (funext fun i => congrArg₂ (· + ·) (up_at a0 r i) (up_at a1 r i))
  · refine (term_at _ _ _ r e).trans ?_
    congr 1
    funext k
    refine (gated_at _ _ r k).trans (congrArg (· * _) ((heads8_at _ r k).trans ?_))
    exact congrArg (Y8 · k) (funext fun i => congrArg₂ (· + ·) (up_at b0 r i) (up_at b1 r i))
  · refine (term_at _ _ _ r e).trans ?_
    simp only [hy]

theorem modn_at (x : FVec Ideal S256x1024 .f32) (g : FVec Ideal S1x1024 .f32) (nm : FVec Ideal S1x1x3072 .f32) (r : Fin 256) (d : Fin 1024) :
    MODN (F := Ideal) x g nm (ix2 r d) = NROW (fun i => x (ix2 r i)) (fun d => g (ix2 0 d)) (fun d => nm (ix3 0 0 ⟨1024 + d.val, by omega⟩))
      (fun d => nm (ix3 0 0 ⟨d.val, by omega⟩)) d := by
  have hg : broadcastTo S256x1024 (shapeCast S1x1024 g shapeCasts_S1x1024_S1x1024) broadcasts_S1x1024_S256x1024 (ix2 r d) = g (ix2 0 d) := by
    pointwise
  have h1 : broadcastTo S256x1024 (addf (F := Ideal) (φ := .f32) (broadcast S1x1024 (Scalar.ofBits .f32 0x3F800000#32))
        (extractStridedSlice S1x1024 ![0, 1024] (shapeCast S1x3072 nm shapeCasts_S1x1x3072_S1x3072) slices_S1x3072_o0_1024_S1x1024)) broadcasts_S1x1024_S256x1024 (ix2 r d)
      = Ideal.ofBits .f32 0x3F800000#32 + nm (ix3 0 0 ⟨1024 + d.val, by omega⟩) := by
    pointwise
  have h0 : broadcastTo S256x1024 (extractStridedSlice S1x1024 ![0, 0] (shapeCast S1x3072 nm shapeCasts_S1x1x3072_S1x3072) slices_S1x3072_o0_0_S1x1024)
      broadcasts_S1x1024_S256x1024 (ix2 r d) = nm (ix3 0 0 ⟨d.val, by omega⟩) := by
    pointwise
  exact congrArg₂ (· + ·) (congrArg₂ (· * ·) (congrArg₂ (· * ·) (norm_at x r d) hg) h1) h0

/-! ### Where a step's windows stand

Step `t` computes rows `512 t .. 512 t + 511`. -/

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 4] := (by decide +kernel : ∀ t : Fin grid0.N, win0_2.index t = ![t.val, 4])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![t.val, 7] := (by decide +kernel : ∀ t : Fin grid0.N, win0_5.index t = ![t.val, 7])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])
theorem ix_8 : ∀ t : Fin cfg0.N, win0_8.index t = ![t.val, 0] := (by decide +kernel : ∀ t : Fin grid0.N, win0_8.index t = ![t.val, 0])
theorem ix_9 : ∀ t : Fin cfg0.N, win0_9.index t = ![t.val / 8, 0, 0] := (by decide +kernel : ∀ t : Fin grid0.N, win0_9.index t = ![t.val / 8, 0, 0])
theorem ix_10 : ∀ t : Fin cfg0.N, win0_10.index t = ![0, 0, 0] := (by decide +kernel : ∀ t : Fin grid0.N, win0_10.index t = ![0, 0, 0])
theorem ix_11 : ∀ t : Fin cfg0.N, win0_11.index t = ![0, 0] := (by decide +kernel : ∀ t : Fin grid0.N, win0_11.index t = ![0, 0])
theorem ix_12 : ∀ t : Fin cfg0.N, win0_12.index t = ![0, 0] := (by decide +kernel : ∀ t : Fin grid0.N, win0_12.index t = ![0, 0])
theorem ix_13 : ∀ t : Fin cfg0.N, win0_13.index t = ![t.val / 8, 0, 0] := (by decide +kernel : ∀ t : Fin grid0.N, win0_13.index t = ![t.val / 8, 0, 0])
theorem ix_14 : ∀ t : Fin cfg0.N, win0_14.index t = ![t.val, 0] := (by decide +kernel : ∀ t : Fin grid0.N, win0_14.index t = ![t.val, 0])
theorem ix_15 : ∀ t : Fin cfg0.N, win0_15.index t = ![t.val, 0] := (by decide +kernel : ∀ t : Fin grid0.N, win0_15.index t = ![t.val, 0])

variable (m : (ℓ : Loc nD τ sig) → Buf (Elt Ideal) ℓ) (c : Dev nD)

theorem blk_0 (t : Fin cfg0.N) (r : Fin 512) (j : Fin 1024) (i : S32768x1024.Idx) (h0 : (i 0).val = 512 * t.val + r.val) (h1 : (i 1).val = j.val) :
    iblk m c 0 t (ix2 r j) = V m c main_v38 i := by
  blk_simp [iblk]
  refine congrArg _ (funext fun a => Fin.ext ?_)
  fin_cases a
  · blk_simp [ix_0 t]
    exact (congrArg (· + r.val) (Nat.mul_comm _ _)).trans h0.symm
  · blk_simp [ix_0 t]
    exact h1.symm

theorem blk_1 (t : Fin cfg0.N) (r : Fin 512) (j : Fin 1024) (i : S32768x1024.Idx) (h0 : (i 0).val = 512 * t.val + r.val) (h1 : (i 1).val = j.val) :
    iblk m c 1 t (ix2 r j) = V m c main_v40 i := by
  blk_simp [iblk]
  refine congrArg _ (funext fun a => Fin.ext ?_)
  fin_cases a
  · blk_simp [ix_1 t]
    exact (congrArg (· + r.val) (Nat.mul_comm _ _)).trans h0.symm
  · blk_simp [ix_1 t]
    exact h1.symm

theorem blk_3 (t : Fin cfg0.N) (r : Fin 512) (j : Fin 1024) (i : S32768x1024.Idx) (h0 : (i 0).val = 512 * t.val + r.val) (h1 : (i 1).val = j.val) :
    iblk m c 3 t (ix2 r j) = V m c main_v42 i := by
  blk_simp [iblk]
  refine congrArg _ (funext fun a => Fin.ext ?_)
  fin_cases a
  · blk_simp [ix_3 t]
    exact (congrArg (· + r.val) (Nat.mul_comm _ _)).trans h0.symm
  · blk_simp [ix_3 t]
    exact h1.symm

theorem blk_4 (t : Fin cfg0.N) (r : Fin 512) (j : Fin 1024) (i : S32768x1024.Idx) (h0 : (i 0).val = 512 * t.val + r.val) (h1 : (i 1).val = j.val) :
    iblk m c 4 t (ix2 r j) = V m c main_v44 i := by
  blk_simp [iblk]
  refine congrArg _ (funext fun a => Fin.ext ?_)
  fin_cases a
  · blk_simp [ix_4 t]
    exact (congrArg (· + r.val) (Nat.mul_comm _ _)).trans h0.symm
  · blk_simp [ix_4 t]
    exact h1.symm

theorem blk_6 (t : Fin cfg0.N) (r : Fin 512) (j : Fin 1024) (i : S32768x1024.Idx) (h0 : (i 0).val = 512 * t.val + r.val) (h1 : (i 1).val = j.val) :
    iblk m c 6 t (ix2 r j) = V m c main_v46 i := by
  blk_simp [iblk]
  refine congrArg _ (funext fun a => Fin.ext ?_)
  fin_cases a
  · blk_simp [ix_6 t]
    exact (congrArg (· + r.val) (Nat.mul_comm _ _)).trans h0.symm
  · blk_simp [ix_6 t]
    exact h1.symm

theorem blk_8 (t : Fin cfg0.N) (r : Fin 512) (j : Fin 1024) (i : S32768x1024.Idx) (h0 : (i 0).val = 512 * t.val + r.val) (h1 : (i 1).val = j.val) :
    iblk m c 8 t (ix2 r j) = V m c main_v47 i := by
  blk_simp [iblk]
  refine congrArg _ (funext fun a => Fin.ext ?_)
  fin_cases a
  · blk_simp [ix_8 t]
    exact (congrArg (· + r.val) (Nat.mul_comm _ _)).trans h0.symm
  · blk_simp [ix_8 t]
    exact h1.symm

theorem blk_2 (t : Fin cfg0.N) (r : Fin 512) (j : Fin 1024) (i : S32768x11776.Idx) (h0 : (i 0).val = 512 * t.val + r.val) (h1 : (i 1).val = 4096 + j.val) :
    X0_2 m c t (ix2 r j) = V m c main_v25 i := by
  unfold X0_2 Pipeline.Window.fill
  rw [dif_pos (moved0_2 t _)]
  blk_simp [iblk]
  refine congrArg _ (funext fun a => Fin.ext ?_)
  fin_cases a
  · blk_simp [ix_2 t]
    exact (congrArg (· + r.val) (Nat.mul_comm _ _)).trans h0.symm
  · blk_simp [ix_2 t]
    exact h1.symm

theorem blk_5 (t : Fin cfg0.N) (r : Fin 512) (j : Fin 1024) (i : S32768x11776.Idx) (h0 : (i 0).val = 512 * t.val + r.val) (h1 : (i 1).val = 7168 + j.val) :
    X0_5 m c t (ix2 r j) = V m c main_v25 i := by
  unfold X0_5 Pipeline.Window.fill
  rw [dif_pos (moved0_5 t _)]
  blk_simp [iblk]
  refine congrArg _ (funext fun a => Fin.ext ?_)
  fin_cases a
  · blk_simp [ix_5 t]
    exact (congrArg (· + r.val) (Nat.mul_comm _ _)).trans h0.symm
  · blk_simp [ix_5 t]
    exact h1.symm

theorem blk_7 (t : Fin cfg0.N) (r : Fin 512) (j : Fin 3072) (i : S32768x11776.Idx) (h0 : (i 0).val = 512 * t.val + r.val) (h1 : (i 1).val = j.val) :
    X0_7 m c t (ix2 r j) = V m c main_v25 i := by
  unfold X0_7 Pipeline.Window.fill
  rw [dif_pos (moved0_7 t _)]
  blk_simp [iblk]
  refine congrArg _ (funext fun a => Fin.ext ?_)
  fin_cases a
  · blk_simp [ix_7 t]
    exact (congrArg (· + r.val) (Nat.mul_comm _ _)).trans h0.symm
  · blk_simp [ix_7 t]
    exact h1.symm

theorem blk_9 (t : Fin cfg0.N) (j : Fin 3072) (i : S8x1x3072.Idx) (h0 : (i 0).val = t.val / 8) (h1 : (i 1).val = 0) (h2 : (i 2).val = j.val) :
    iblk m c 9 t (ix3 0 0 j) = V m c main_v48 i := by
  blk_simp [iblk]
  refine congrArg _ (funext fun a => Fin.ext ?_)
  fin_cases a
  · blk_simp [ix_9 t]
    exact h0.symm
  · blk_simp [ix_9 t]
  · blk_simp [ix_9 t]
    exact h2.symm

theorem blk_10 (t : Fin cfg0.N) (n : Fin 3) (k e : Fin 1024) : iblk m c 10 t (ix3 n k e) = V m c main_v52 (ix3 n k e) := by
  blk_simp [iblk]
  refine congrArg _ (funext fun a => Fin.ext ?_)
  fin_cases a <;> blk_simp [ix_10 t]

theorem blk_11 (t : Fin cfg0.N) (k e : Fin 1024) : iblk m c 11 t (ix2 k e) = V m c main_v53 (ix2 k e) := by
  blk_simp [iblk]
  refine congrArg _ (funext fun a => Fin.ext ?_)
  fin_cases a <;> blk_simp [ix_11 t]

theorem blk_12 (t : Fin cfg0.N) (e : Fin 1024) : iblk m c 12 t (ix2 0 e) = V m c main_v55 (ix2 0 e) := by
  blk_simp [iblk]
  refine congrArg _ (funext fun a => Fin.ext ?_)
  fin_cases a <;> blk_simp [ix_12 t]

theorem blk_13 (t : Fin cfg0.N) (j : Fin 3072) (i : S8x1x3072.Idx) (h0 : (i 0).val = t.val / 8) (h1 : (i 1).val = 0) (h2 : (i 2).val = j.val) :
    iblk m c 13 t (ix3 0 0 j) = V m c main_v54 i := by
  blk_simp [iblk]
  refine congrArg _ (funext fun a => Fin.ext ?_)
  fin_cases a
  · blk_simp [ix_13 t]
    exact h0.symm
  · blk_simp [ix_13 t]
  · blk_simp [ix_13 t]
    exact h2.symm

/-- The first output array holds `G` when each step leaves `G`'s entries in its block. -/
theorem out_x (G : S32768x1024.Idx → EReal)
    (h : ∀ (t : Fin cfg0.N) (r : Fin 512) (j : Fin 1024) (i : S32768x1024.Idx), (i 0).val = 512 * t.val + r.val →
      (i 1).val = j.val → (outsAt0 m c t).1 (ix2 r j) = G i) :
    (dats m 0 c).arrAt 14 cfg0.N = G := by
  refine (dats m 0 c).arrAt_eq_of_covers 14 _ (by decide +kernel) fun t hf y => ?_
  blk_simp
  rw [after0_14]
  have hy : y = ix2 (y 0) (y 1) := by funext a; fin_cases a <;> rfl
  refine (congrArg (outsAt0 m c t).1 hy).trans (h t (y 0) (y 1) _ ?_ ?_)
  · blk_simp [ix_14 t]
    exact congrArg (· + (y 0).val) (Nat.mul_comm _ _)
  · blk_simp [ix_14 t]

/-- The second output array holds `G` when each step leaves `G`'s entries in its block. -/
theorem out_h (G : S32768x1024.Idx → EReal)
    (h : ∀ (t : Fin cfg0.N) (r : Fin 512) (j : Fin 1024) (i : S32768x1024.Idx), (i 0).val = 512 * t.val + r.val →
      (i 1).val = j.val → (outsAt0 m c t).2 (ix2 r j) = G i) :
    (dats m 0 c).arrAt 15 cfg0.N = G := by
  refine (dats m 0 c).arrAt_eq_of_covers 15 _ (by decide +kernel) fun t hf y => ?_
  blk_simp
  rw [after0_15]
  have hy : y = ix2 (y 0) (y 1) := by funext a; fin_cases a <;> rfl
  refine (congrArg (outsAt0 m c t).2 hy).trans (h t (y 0) (y 1) _ ?_ ?_)
  · blk_simp [ix_15 t]
    exact congrArg (· + (y 0).val) (Nat.mul_comm _ _)
  · blk_simp [ix_15 t]

/-! ### A half's entries -/

/-- The formulas on the rows of a step's blocks. -/
def BX (x0 x1 x2 x3 x4 x5 x6 : Vec Ideal S512x1024 .bf16) (x7 : Vec Ideal S512x3072 .bf16) (x8 : Vec Ideal S512x1024 .f32) (x9 : Vec Ideal S1x1x3072 .f32)
    (x10 : Vec Ideal S3x1024x1024 .bf16) (x11 : Vec Ideal S1024x1024 .bf16) (q : Fin 512) (d : Fin 1024) : EReal :=
  XROW (fun k => x0 (ix2 q k) + x1 (ix2 q k)) (fun k => x2 (ix2 q k)) (fun k => x3 (ix2 q k) + x4 (ix2 q k)) (fun k => x5 (ix2 q k))
    (fun k => x6 (ix2 q k)) (fun e => x7 (ix2 q ⟨1024 * (0 : Fin 3).val + e.val, by omega⟩)) (fun e => x7 (ix2 q ⟨1024 * (1 : Fin 3).val + e.val, by omega⟩))
    (fun e => x7 (ix2 q ⟨1024 * (2 : Fin 3).val + e.val, by omega⟩))
    (fun k e => x10 (ix3 0 k e)) (fun k e => x10 (ix3 1 k e)) (fun k e => x10 (ix3 2 k e)) (fun e d => x11 (ix2 e d))
    (fun d => x8 (ix2 q d)) (fun d => x9 (ix3 0 0 ⟨2048 + d.val, by omega⟩)) d
def BH (x0 x1 x2 x3 x4 x5 x6 : Vec Ideal S512x1024 .bf16) (x7 : Vec Ideal S512x3072 .bf16) (x8 : Vec Ideal S512x1024 .f32) (x9 : Vec Ideal S1x1x3072 .f32)
    (x10 : Vec Ideal S3x1024x1024 .bf16) (x11 : Vec Ideal S1024x1024 .bf16) (x12 : Vec Ideal S1x1024 .f32) (x13 : Vec Ideal S1x1x3072 .f32) (q : Fin 512) (d : Fin 1024) : EReal :=
  NROW (BX x0 x1 x2 x3 x4 x5 x6 x7 x8 x9 x10 x11 q) (fun d => x12 (ix2 0 d)) (fun d => x13 (ix3 0 0 ⟨1024 + d.val, by omega⟩)) (fun d => x13 (ix3 0 0 ⟨d.val, by omega⟩)) d

theorem halfx_at (x0 x1 x2 x3 x4 x5 x6 : Vec Ideal S512x1024 .bf16) (x7 : Vec Ideal S512x3072 .bf16) (x8 : Vec Ideal S512x1024 .f32) (x9 : Vec Ideal S1x1x3072 .f32)
    (x10 : Vec Ideal S3x1024x1024 .bf16) (x11 : Vec Ideal S1024x1024 .bf16) (a : Fin 2) (r : Fin 256) (d : Fin 1024) :
    HALFX (F := Ideal) x0 x1 x2 x3 x4 x5 x6 x7 x8 x9 x10 x11 a (ix2 r d) = BX x0 x1 x2 x3 x4 x5 x6 x7 x8 x9 x10 x11 ⟨256 * a.val + r.val, by omega⟩ d := by
  unfold HALFX BX
  rw [chx_at]
  rw [View.ld_unit_zero (S := S1x1x3072) three_zero, View.ld_unit_zero (S := S1024x1024) two_zero]
  simp only [ldR_at, ldM_at, ldW_at]

theorem halfh_at (x0 x1 x2 x3 x4 x5 x6 : Vec Ideal S512x1024 .bf16) (x7 : Vec Ideal S512x3072 .bf16) (x8 : Vec Ideal S512x1024 .f32) (x9 : Vec Ideal S1x1x3072 .f32)
    (x10 : Vec Ideal S3x1024x1024 .bf16) (x11 : Vec Ideal S1024x1024 .bf16) (x12 : Vec Ideal S1x1024 .f32) (x13 : Vec Ideal S1x1x3072 .f32) (a : Fin 2) (r : Fin 256) (d : Fin 1024) :
    HALFH (F := Ideal) x0 x1 x2 x3 x4 x5 x6 x7 x8 x9 x10 x11 x12 x13 a (ix2 r d) = BH x0 x1 x2 x3 x4 x5 x6 x7 x8 x9 x10 x11 x12 x13 ⟨256 * a.val + r.val, by omega⟩ d := by
  unfold HALFH BH
  rw [modn_at]
  rw [View.ld_unit_zero (S := S1x1024) two_zero, View.ld_unit_zero (S := S1x1x3072) three_zero]
  simp only [halfx_at]

/-- Two halves of a block, the last stored first, read at an entry. -/
theorem halves_at {e : EltTy} (H : Fin 2 → Vec Ideal S256x1024 e) (G : Fin 512 → Fin 1024 → Elt Ideal e)
    (h : ∀ (a : Fin 2) (r : Fin 256) (d : Fin 1024), H a (ix2 r d) = G ⟨256 * a.val + r.val, by omega⟩ d) (q : Fin 512) (d : Fin 1024) :
    View.canon (List.ofFn fun k : Fin 2 => ⟨Rect.unit (s := S512x1024) ![256 * (1 - k : Fin 2).val, 0] S256x1024.size (inb_rows _), H (1 - k)⟩) (ix2 q d) = G q d := by
  have hq := q.isLt
  refine View.canon_ofFn_unit_eq_of_forall _ _ _ _ _ _ ?_ fun k x hx => ?_
  · by_cases h : q.val < 256
    · refine ⟨1, fun a => ?_⟩
      fin_cases a
      · exact ⟨Nat.zero_le _, h⟩
      · exact ⟨Nat.zero_le _, lt_of_lt_of_eq d.isLt (Nat.zero_add _).symm⟩
    · refine ⟨0, fun a => ?_⟩
      fin_cases a
      · exact ⟨not_lt.mp h, hq⟩
      · exact ⟨Nat.zero_le _, lt_of_lt_of_eq d.isLt (Nat.zero_add _).symm⟩
  · have h2 : q.val = 256 * (1 - k : Fin 2).val + (x 0).val := hx 0
    have h3 : d.val = 0 + (x 1).val := hx 1
    have hx1 : x 1 = d := Fin.ext (by omega)
    have hxe : x = ix2 (x 0) (x 1) := by funext a; fin_cases a <;> rfl
    refine (congrArg _ hxe).trans ((h (1 - k) (x 0) (x 1)).trans ?_)
    rw [hx1]
    congr 1
    exact Fin.ext h2.symm

/-- What a step leaves, entry by entry. -/
theorem stepx_at (t : Fin cfg0.N) (q : Fin 512) (d : Fin 1024) : (outsAt0 m c t).1 (ix2 q d) = BX (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t) q d := by
  unfold outsAt0
  dsimp only
  rw [out_halves_14]
  exact halves_at (e := .f32) (HALFX (F := Ideal) (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t)) (BX (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t)) (fun a r d => halfx_at _ _ _ _ _ _ _ _ _ _ _ _ a r d) q d
theorem steph_at (t : Fin cfg0.N) (q : Fin 512) (d : Fin 1024) : (outsAt0 m c t).2 (ix2 q d) = BH (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t) (iblk m c 12 t) (iblk m c 13 t) q d := by
  unfold outsAt0
  dsimp only
  rw [out_halves_15]
  exact halves_at (e := .bf16) (HALFH (F := Ideal) (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t) (iblk m c 12 t) (iblk m c 13 t)) (BH (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t) (iblk m c 12 t) (iblk m c 13 t))
    (fun a r d => halfh_at _ _ _ _ _ _ _ _ _ _ _ _ _ _ a r d) q d

end Cert.Nxt
end
-- ==== Proof.NextKernel.lean ====
/-
  The merge before another layer: the host's arrays from the arguments, and every entry of the two results.
-/
module

public import proofs.«01_k».proof.Proof.NextBlocks
public import proofs.«01_k».proof.Proof.MergeKernel

@[expose] public section
noncomputable section
namespace Cert.Nxt
open Cert.Kernel5Ideal Cert.Kernel5Ideal.Gen Idealize.ShloMosaic Idealize.ShloMosaic.TcCoe Idealize.SL.Sem
open Cert.Mrg (BAT POS GAIN WB GROW rows_at cast_at weight_at mod_at cols_at cat_at stack_at grow_at spread_at HN STR)
set_option maxHeartbeats 1000000

/-- The stream after the merge, from the arguments. -/
def RESX (A0 A1 A2 A3 A4 : S8x4096x1024.Idx → EReal) (A5 : S8x4096x13856.Idx → EReal) (A6 : S8x4096x1024.Idx → EReal) (A7 : S8x3072.Idx → EReal)
    (A8 : S256.Idx → EReal) (A9 : S128.Idx → EReal) (A10 : S3x1024x1024.Idx → EReal) (A11 : S1024x1024.Idx → EReal)
    (R : Fin 32768) (d : Fin 1024) : EReal :=
  XROW (fun k => A0 (ix3 (BAT R) (POS R) k) + A1 (ix3 (BAT R) (POS R) k)) (fun k => A5 (ix3 (BAT R) (POS R) ⟨2048 + k.val, by omega⟩))
    (fun k => A2 (ix3 (BAT R) (POS R) k) + A3 (ix3 (BAT R) (POS R) k)) (fun k => A5 (ix3 (BAT R) (POS R) ⟨7200 + k.val, by omega⟩))
    (fun k => A4 (ix3 (BAT R) (POS R) k))
    (fun e => A5 (ix3 (BAT R) (POS R) ⟨10784 + (1024 * (0 : Fin 3).val + e.val), by omega⟩))
    (fun e => A5 (ix3 (BAT R) (POS R) ⟨10784 + (1024 * (1 : Fin 3).val + e.val), by omega⟩))
    (fun e => A5 (ix3 (BAT R) (POS R) ⟨10784 + (1024 * (2 : Fin 3).val + e.val), by omega⟩))
    (WB A10 A8 A9 0) (WB A10 A8 A9 1) (WB A10 A8 A9 2)
    (fun e d => A11 (ix2 e d)) (fun d => A6 (ix3 (BAT R) (POS R) d)) (fun d => A7 (ix2 (BAT R) ⟨2048 + d.val, by omega⟩)) d

/-- Its modulated norm. -/
def RESH (A0 A1 A2 A3 A4 : S8x4096x1024.Idx → EReal) (A5 : S8x4096x13856.Idx → EReal) (A6 : S8x4096x1024.Idx → EReal) (A7 : S8x3072.Idx → EReal)
    (A8 : S256.Idx → EReal) (A9 : S128.Idx → EReal) (A10 : S3x1024x1024.Idx → EReal) (A11 : S1024x1024.Idx → EReal) (A12 : S1024.Idx → EReal)
    (A13 : S8x3072.Idx → EReal) (R : Fin 32768) (d : Fin 1024) : EReal :=
  NROW (RESX A0 A1 A2 A3 A4 A5 A6 A7 A8 A9 A10 A11 R) (fun d => A12 (ix1 d)) (fun d => A13 (ix2 (BAT R) ⟨1024 + d.val, by omega⟩))
    (fun d => A13 (ix2 (BAT R) ⟨d.val, by omega⟩)) d

variable (m : (ℓ : Loc nD τ sig) → Buf (Elt Ideal) ℓ) (c : Dev nD)

theorem v38 (R : Fin 32768) (k : Fin 1024) : V m c main_v38 (ix2 R k) = m (c, Proc.devRef .tc main_arg0) (ix3 (BAT R) (POS R) k) := by
  unfold V
  after_reads_simp
  exact rows_at _ _ R k
theorem v40 (R : Fin 32768) (k : Fin 1024) : V m c main_v40 (ix2 R k) = m (c, Proc.devRef .tc main_arg1) (ix3 (BAT R) (POS R) k) := by
  unfold V
  after_reads_simp
  exact rows_at _ _ R k
theorem v42 (R : Fin 32768) (k : Fin 1024) : V m c main_v42 (ix2 R k) = m (c, Proc.devRef .tc main_arg2) (ix3 (BAT R) (POS R) k) := by
  unfold V
  after_reads_simp
  exact rows_at _ _ R k
theorem v44 (R : Fin 32768) (k : Fin 1024) : V m c main_v44 (ix2 R k) = m (c, Proc.devRef .tc main_arg3) (ix3 (BAT R) (POS R) k) := by
  unfold V
  after_reads_simp
  exact rows_at _ _ R k
theorem v46 (R : Fin 32768) (k : Fin 1024) : V m c main_v46 (ix2 R k) = m (c, Proc.devRef .tc main_arg4) (ix3 (BAT R) (POS R) k) := by
  unfold V
  after_reads_simp
  exact rows_at _ _ R k
theorem v47 (R : Fin 32768) (k : Fin 1024) : V m c main_v47 (ix2 R k) = m (c, Proc.devRef .tc main_arg6) (ix3 (BAT R) (POS R) k) := by
  unfold V
  after_reads_simp
  exact rows_at _ _ R k
theorem v48 (b : Fin 8) (k : Fin 3072) : V m c main_v48 (ix3 b 0 k) = m (c, Proc.devRef .tc main_arg7) (ix2 b k) := by
  unfold V
  after_reads_simp
  exact mod_at _ b k
theorem v54 (b : Fin 8) (k : Fin 3072) : V m c main_v54 (ix3 b 0 k) = m (c, Proc.devRef .tc main_arg13) (ix2 b k) := by
  unfold V
  after_reads_simp
  exact mod_at _ b k
theorem v55 (k : Fin 1024) : V m c main_v55 (ix2 0 k) = m (c, Proc.devRef .tc main_arg12) (ix1 k) := by
  unfold V
  after_reads_simp
  pointwise
theorem v53 (k e : Fin 1024) : V m c main_v53 (ix2 k e) = m (c, Proc.devRef .tc main_arg11) (ix2 k e) := by
  unfold V
  after_reads_simp
  rfl
theorem v52 (n : Fin 3) (k e : Fin 1024) : V m c main_v52 (ix3 n k e) = WB (m (c, Proc.devRef .tc main_arg10)) (m (c, Proc.devRef .tc main_arg8))
    (m (c, Proc.devRef .tc main_arg9)) n k e := by
  unfold V
  after_reads_simp
  refine weight_at _ _ (GAIN (m (c, Proc.devRef .tc main_arg8)) (m (c, Proc.devRef .tc main_arg9)) n k) _ (ix3 n k e) ((spread_at _ n k e).trans ?_)
  dsimp only [Matrix.cons_val]
  after_reads_simp
  exact (stack_at (GROW (m (c, Proc.devRef .tc main_arg8)) (m (c, Proc.devRef .tc main_arg9))) n k).trans (grow_at _ _ n k)
theorem v25_mg (R : Fin 32768) (j : Fin 3072) (q : Fin 11776) (hq : q.val = j.val) :
    V m c main_v25 (ix2 R q) = m (c, Proc.devRef .tc main_arg5) (ix3 (BAT R) (POS R) ⟨10784 + j.val, by omega⟩) := by
  unfold V
  after_reads_simp
  refine (cast_at _ _ (ix2 R q)).trans ?_
  refine (cat_at _ (by exact concatenates_S32768x3072_S32768x1024_S32768x1024_S32768x1024_S32768x1024_S32768x1024_S32768x1024_S32768x1024_S32768x512_S32768x512_S32768x256_S32768x256_S32768x11776_d1)
    R q 0 (by exact (by decide : 0 < 12)) _ rfl 0 (by rfl) j (hq.trans (Nat.zero_add _).symm)).trans ?_
  dsimp only [Matrix.cons_val]
  after_reads_simp
  exact cols_at 10784 _ _ (by decide) R j
theorem v25_ga (R : Fin 32768) (j : Fin 1024) (q : Fin 11776) (hq : q.val = 4096 + j.val) :
    V m c main_v25 (ix2 R q) = m (c, Proc.devRef .tc main_arg5) (ix3 (BAT R) (POS R) ⟨2048 + j.val, by omega⟩) := by
  unfold V
  after_reads_simp
  refine (cast_at _ _ (ix2 R q)).trans ?_
  refine (cat_at _ (by exact concatenates_S32768x3072_S32768x1024_S32768x1024_S32768x1024_S32768x1024_S32768x1024_S32768x1024_S32768x1024_S32768x512_S32768x512_S32768x256_S32768x256_S32768x11776_d1)
    R q 2 (by exact (by decide : 2 < 12)) _ rfl 4096 (by rfl) j hq).trans ?_
  dsimp only [Matrix.cons_val]
  after_reads_simp
  exact cols_at 2048 _ _ (by decide) R j
theorem v25_hg (R : Fin 32768) (j : Fin 1024) (q : Fin 11776) (hq : q.val = 7168 + j.val) :
    V m c main_v25 (ix2 R q) = m (c, Proc.devRef .tc main_arg5) (ix3 (BAT R) (POS R) ⟨7200 + j.val, by omega⟩) := by
  unfold V
  after_reads_simp
  refine (cast_at _ _ (ix2 R q)).trans ?_
  refine (cat_at _ (by exact concatenates_S32768x3072_S32768x1024_S32768x1024_S32768x1024_S32768x1024_S32768x1024_S32768x1024_S32768x1024_S32768x512_S32768x512_S32768x256_S32768x256_S32768x11776_d1)
    R q 5 (by exact (by decide : 5 < 12)) _ rfl 7168 (by simp) j hq).trans ?_
  dsimp only [Matrix.cons_val]
  after_reads_simp
  exact cols_at 7200 _ _ (by decide) R j

theorem xrow_congr {a a' ag ag' b b' bg bg' y y' m0 m0' m1 m1' m2 m2' x x' md md' : Fin 1024 → EReal} {W0 W0' W1 W1' W2 W2' WO WO' : Fin 1024 → Fin 1024 → EReal}
    (ha : ∀ k, a k = a' k) (hag : ∀ k, ag k = ag' k) (hb : ∀ k, b k = b' k) (hbg : ∀ k, bg k = bg' k) (hy : ∀ k, y k = y' k) (hm0 : ∀ k, m0 k = m0' k) (hm1 : ∀ k, m1 k = m1' k) (hm2 : ∀ k, m2 k = m2' k)
    (hW0 : ∀ k e, W0 k e = W0' k e) (hW1 : ∀ k e, W1 k e = W1' k e) (hW2 : ∀ k e, W2 k e = W2' k e) (hWO : ∀ k e, WO k e = WO' k e)
    (hx : ∀ k, x k = x' k) (hmd : ∀ k, md k = md' k) (d : Fin 1024) :
    XROW a ag b bg y m0 m1 m2 W0 W1 W2 WO x md d = XROW a' ag' b' bg' y' m0' m1' m2' W0' W1' W2' WO' x' md' d := by
  rw [funext ha, funext hag, funext hb, funext hbg, funext hy, funext hm0, funext hm1, funext hm2, funext hx, funext hmd, funext fun k => funext (hW0 k), funext fun k => funext (hW1 k), funext fun k => funext (hW2 k), funext fun k => funext (hWO k)]

theorem nrow_congr {X X' g g' sc sc' sh sh' : Fin 1024 → EReal} (hX : ∀ k, X k = X' k) (hg : ∀ k, g k = g' k) (hc : ∀ k, sc k = sc' k)
    (hs : ∀ k, sh k = sh' k) (d : Fin 1024) : NROW X g sc sh d = NROW X' g' sc' sh' d := by
  rw [funext hX, funext hg, funext hc, funext hs]

theorem row_value (t : Fin cfg0.N) (q : Fin 512) (R : Fin 32768) (h0 : R.val = 512 * t.val + q.val) (d : Fin 1024) :
    BX (iblk m c 0 t) (iblk m c 1 t) (X0_2 m c t) (iblk m c 3 t) (iblk m c 4 t) (X0_5 m c t) (iblk m c 6 t) (X0_7 m c t)
      (iblk m c 8 t) (iblk m c 9 t) (iblk m c 10 t) (iblk m c 11 t) q d = RESX (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) R d := by
  have ht : t.val < 64 := t.isLt
  have hb : t.val / 8 = R.val / 4096 := by omega
  unfold BX RESX
  refine xrow_congr (fun k => ?_) (fun k => ?_) (fun k => ?_) (fun k => ?_) (fun k => ?_) (fun k => ?_) (fun k => ?_) (fun k => ?_)
    (fun k e => ?_) (fun k e => ?_) (fun k e => ?_) (fun k e => ?_) (fun k => ?_) (fun k => ?_) d
  · exact congrArg₂ (· + ·) ((blk_0 m c t q k (ix2 R k) h0 rfl).trans (v38 m c R k)) ((blk_1 m c t q k (ix2 R k) h0 rfl).trans (v40 m c R k))
  · exact (blk_2 m c t q k (ix2 R ⟨4096 + k.val, by omega⟩) h0 rfl).trans (v25_ga m c R k _ rfl)
  · exact congrArg₂ (· + ·) ((blk_3 m c t q k (ix2 R k) h0 rfl).trans (v42 m c R k)) ((blk_4 m c t q k (ix2 R k) h0 rfl).trans (v44 m c R k))
  · exact (blk_5 m c t q k (ix2 R ⟨7168 + k.val, by omega⟩) h0 rfl).trans (v25_hg m c R k _ rfl)
  · exact (blk_6 m c t q k (ix2 R k) h0 rfl).trans (v46 m c R k)
  · exact (blk_7 m c t q ⟨1024 * (0 : Fin 3).val + k.val, by omega⟩ (ix2 R ⟨1024 * (0 : Fin 3).val + k.val, by omega⟩) h0 rfl).trans (v25_mg m c R ⟨1024 * (0 : Fin 3).val + k.val, by omega⟩ _ rfl)
  · exact (blk_7 m c t q ⟨1024 * (1 : Fin 3).val + k.val, by omega⟩ (ix2 R ⟨1024 * (1 : Fin 3).val + k.val, by omega⟩) h0 rfl).trans (v25_mg m c R ⟨1024 * (1 : Fin 3).val + k.val, by omega⟩ _ rfl)
  · exact (blk_7 m c t q ⟨1024 * (2 : Fin 3).val + k.val, by omega⟩ (ix2 R ⟨1024 * (2 : Fin 3).val + k.val, by omega⟩) h0 rfl).trans (v25_mg m c R ⟨1024 * (2 : Fin 3).val + k.val, by omega⟩ _ rfl)
  · exact (blk_10 m c t 0 k e).trans (v52 m c 0 k e)
  · exact (blk_10 m c t 1 k e).trans (v52 m c 1 k e)
  · exact (blk_10 m c t 2 k e).trans (v52 m c 2 k e)
  · exact (blk_11 m c t k e).trans (v53 m c k e)
  · exact (blk_8 m c t q k (ix2 R k) h0 rfl).trans (v47 m c R k)
  · exact (blk_9 m c t ⟨2048 + k.val, by omega⟩ (ix3 (BAT R) 0 ⟨2048 + k.val, by omega⟩) hb.symm rfl rfl).trans (v48 m c (BAT R) _)

theorem stream_value : (dats m 0 c).arrAt 14 cfg0.N = fun i : S32768x1024.Idx => RESX (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (i 0) (i 1) := by
  refine out_x m c _ fun t q d i h0 h1 => ?_
  obtain ⟨R, d', rfl⟩ : ∃ R j, i = ix2 R j := ⟨i 0, i 1, (ix2_eta i).symm⟩
  obtain rfl : d' = d := Fin.ext h1
  exact (stepx_at m c t q d').trans (row_value m c t q R h0 d')

theorem norm_value : (dats m 0 c).arrAt 15 cfg0.N = fun i : S32768x1024.Idx => RESH (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (i 0) (i 1) := by
  refine out_h m c _ fun t q d i h0 h1 => ?_
  have ht : t.val < 64 := t.isLt
  obtain ⟨R, d', rfl⟩ : ∃ R j, i = ix2 R j := ⟨i 0, i 1, (ix2_eta i).symm⟩
  have h0 : R.val = 512 * t.val + q.val := h0
  obtain rfl : d' = d := Fin.ext h1
  have hb : t.val / 8 = R.val / 4096 := by omega
  refine (steph_at m c t q d').trans ?_
  refine nrow_congr (row_value m c t q R h0) (fun k => ?_) (fun k => ?_) (fun k => ?_) d'
  · exact (blk_12 m c t k).trans (v55 m c k)
  · exact (blk_13 m c t ⟨1024 + k.val, by omega⟩ (ix3 (BAT R) 0 ⟨1024 + k.val, by omega⟩) hb.symm rfl rfl).trans (v54 m c (BAT R) _)
  · exact (blk_13 m c t ⟨k.val, by omega⟩ (ix3 (BAT R) 0 ⟨k.val, by omega⟩) hb.symm rfl rfl).trans (v54 m c (BAT R) _)

end Cert.Nxt
end
-- ==== Proof.NextRef.lean ====
/-
  The reference of the merge before another layer: every entry of its two results is the same formula of the arguments.
-/
module

public import proofs.«01_k».proof.Proof.NextKernel
public import proofs.«01_k».proof.Proof.MergeRef
public import proofs.«01_k».proof.Proof.Gen.Reference5Ideal.Read

@[expose] public section
noncomputable section
namespace Cert.NxtRef
open Cert.Reference5Ideal Cert.Reference5Ideal.Gen Cert.Reference5Ideal.Read Idealize.ShloMosaic Cert.Nxt
open Cert.Mrg (BAT POS rows_at HN STR)
set_option maxHeartbeats 1000000

variable (A0 A1 A2 A3 A4 : S8x4096x1024.Idx → EReal) (A5 : S8x4096x13856.Idx → EReal) (A6 : S8x4096x1024.Idx → EReal) (A7 : S8x3072.Idx → EReal)
  (A8 : S256.Idx → EReal) (A9 : S128.Idx → EReal) (A10 : S3x1024x1024.Idx → EReal) (A11 : S1024x1024.Idx → EReal) (A12 : S1024.Idx → EReal)
  (A13 : S8x3072.Idx → EReal)

/-- Up to the stream, the two merges' references are the same operations. -/
theorem same_stream : val_main_v72 (F := Ideal) A0 A1 A2 A3 A4 A5 A6 A7 A8 A9 A10 A11 = Cert.Reference3Ideal.Read.val_main_v72 (F := Ideal) A0 A1 A2 A3 A4 A5 A6 A7 A8 A9 A10 A11 := rfl

theorem v72_at (R : Fin 32768) (d : Fin 1024) : val_main_v72 (F := Ideal) A0 A1 A2 A3 A4 A5 A6 A7 A8 A9 A10 A11 (ix3 (BAT R) (POS R) d) = RESX A0 A1 A2 A3 A4 A5 A6 A7 A8 A9 A10 A11 R d := by
  rw [same_stream, Cert.MrgRef.v72_at]
  unfold RESX XROW
  refine congrArg (fun g => STR g _ _ _ d) (funext fun e => ?_)
  rw [Cert.MrgRef.v64_at, Fin.sum_univ_three]
  refine congrArg₂ (· + ·) (congrArg₂ (· + ·) ?_ ?_) ?_
  · refine congrArg (_ * ·) (Finset.sum_congr rfl fun k _ => ?_)
    refine (congrArg (_ * ·) (Cert.MrgRef.v31_at A0 A1 A5 A8 _ _ k)).trans (Cert.MrgRef.swap _ _ _ _)
  · refine congrArg (_ * ·) (Finset.sum_congr rfl fun k _ => ?_)
    refine (congrArg (_ * ·) (Cert.MrgRef.v49_at A2 A3 A5 A9 _ _ k)).trans (Cert.MrgRef.swap _ _ _ _)
  · refine congrArg (_ * ·) (Finset.sum_congr rfl fun k _ => ?_)
    exact (mul_comm _ _).trans (congrArg (_ * ·) (mul_one _).symm)

theorem stream_value (R : Fin 32768) (d : Fin 1024) : val_main_v96 (F := Ideal) A0 A1 A2 A3 A4 A5 A6 A7 A8 A9 A10 A11 (ix2 R d) = RESX A0 A1 A2 A3 A4 A5 A6 A7 A8 A9 A10 A11 R d := by
  unfold val_main_v96
  exact (rows_at (val_main_v72 (F := Ideal) A0 A1 A2 A3 A4 A5 A6 A7 A8 A9 A10 A11) _ R d).trans (v72_at A0 A1 A2 A3 A4 A5 A6 A7 A8 A9 A10 A11 R d)

theorem v78_at (b : Fin 8) (t : Fin 4096) : val_main_v78 (F := Ideal) A0 A1 A2 A3 A4 A5 A6 A7 A8 A9 A10 A11 (ix2 b t)
    = ∑ d : Fin 1024, val_main_v72 (F := Ideal) A0 A1 A2 A3 A4 A5 A6 A7 A8 A9 A10 A11 (ix3 b t d) * val_main_v72 (F := Ideal) A0 A1 A2 A3 A4 A5 A6 A7 A8 A9 A10 A11 (ix3 b t d) := by
  rw [val_main_v78_apply]
  refine (congrArg (· + _) Cert.MrgRef.zero_word).trans ((zero_add _).trans (Finset.sum_congr rfl fun d _ => ?_))
  have e : idx_main_v78 (ix2 b t) d = ix3 b t d := by funext a; fin_cases a <;> rfl
  rw [e]
  rfl

theorem v89_at (b : Fin 8) (t : Fin 4096) (d : Fin 1024) : val_main_v89 (F := Ideal) A0 A1 A2 A3 A4 A5 A6 A7 A8 A9 A10 A11 A12 (ix3 b t d)
    = HN (n := 1024) 0x44800000#32 (fun d => val_main_v72 (F := Ideal) A0 A1 A2 A3 A4 A5 A6 A7 A8 A9 A10 A11 (ix3 b t d)) d * A12 (ix1 d) := by
  pointwise [val_main_v89, val_main_v88, val_main_v87, val_main_v86, val_main_v85, val_main_v84, val_main_v83, val_main_v82, val_main_v81, val_main_v80,
    val_main_v79, val_main_cst_9, val_main_cst_10]
  rw [v78_at]
  rfl

theorem v92_at (b : Fin 8) (t : Fin 4096) (d : Fin 1024) : val_main_v92 (F := Ideal) A13 (ix3 b t d)
    = Ideal.ofBits .f32 0x3F800000#32 + A13 (ix2 b ⟨1024 + d.val, by omega⟩) := by
  pointwise [val_main_v92, val_main_v91, val_main_v90, val_main_v75, val_main_v73, val_main_cst_11]

theorem v94_at (b : Fin 8) (t : Fin 4096) (d : Fin 1024) : val_main_v94 (F := Ideal) A13 (ix3 b t d) = A13 (ix2 b ⟨d.val, by omega⟩) := by
  pointwise [val_main_v94, val_main_v74, val_main_v73]

theorem v95_at (b : Fin 8) (t : Fin 4096) (d : Fin 1024) : val_main_v95 (F := Ideal) A0 A1 A2 A3 A4 A5 A6 A7 A8 A9 A10 A11 A12 A13 (ix3 b t d)
    = NROW (fun d => val_main_v72 (F := Ideal) A0 A1 A2 A3 A4 A5 A6 A7 A8 A9 A10 A11 (ix3 b t d)) (fun d => A12 (ix1 d)) (fun d => A13 (ix2 b ⟨1024 + d.val, by omega⟩))
        (fun d => A13 (ix2 b ⟨d.val, by omega⟩)) d :=
  congrArg₂ (· + ·) (congrArg₂ (· * ·) (v89_at A0 A1 A2 A3 A4 A5 A6 A7 A8 A9 A10 A11 A12 b t d) (v92_at A13 b t d)) (v94_at A13 b t d)

theorem norm_value (R : Fin 32768) (d : Fin 1024) : val_main_v98 (F := Ideal) A0 A1 A2 A3 A4 A5 A6 A7 A8 A9 A10 A11 A12 A13 (ix2 R d) = RESH A0 A1 A2 A3 A4 A5 A6 A7 A8 A9 A10 A11 A12 A13 R d := by
  have e : val_main_v97 (F := Ideal) A0 A1 A2 A3 A4 A5 A6 A7 A8 A9 A10 A11 A12 A13 (ix2 R d) = val_main_v95 (F := Ideal) A0 A1 A2 A3 A4 A5 A6 A7 A8 A9 A10 A11 A12 A13 (ix3 (BAT R) (POS R) d) := by
    unfold val_main_v97
    exact rows_at (val_main_v95 (F := Ideal) A0 A1 A2 A3 A4 A5 A6 A7 A8 A9 A10 A11 A12 A13) _ R d
  refine Eq.trans (show _ = val_main_v97 (F := Ideal) A0 A1 A2 A3 A4 A5 A6 A7 A8 A9 A10 A11 A12 A13 (ix2 R d) from rfl) (e.trans ?_)
  rw [v95_at]
  unfold RESH
  simp only [v72_at]

end Cert.NxtRef
end
-- ==== Proof.lean ====
/- The proof of the certificate's claim: the frames, the named constants, and the values of the attention, of
   the projection, of the two merges and of the forget gate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Precond
public import proofs.«01_k».proof.Proof.KernelValue
public import proofs.«01_k».proof.Proof.RefValue
public import proofs.«01_k».proof.Proof.ProjKernel
public import proofs.«01_k».proof.Proof.ProjRef
public import proofs.«01_k».proof.Proof.MergeRef
public import proofs.«01_k».proof.Proof.ForgetRef
public import proofs.«01_k».proof.Proof.FirstRef
public import proofs.«01_k».proof.Proof.NextRef
public import proofs.«01_k».proof.Proof.MergeKernel
public import Idealize.ShloMosaic.Lib.Claim
public import Idealize.ShloMosaic.Adequacy
public import Idealize.ShloMosaic.Init

@[expose] public section

noncomputable section

namespace Cert.Proof

open Idealize.ShloMosaic Idealize.SL.Sem

/-- The reference runs, keeps its arguments and leaves every counter at zero. -/
theorem reference_frame : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference leave the same array. -/
theorem same_value : @Cert.algebraic_KernelIdeal_ReferenceIdeal_pre_finite_scores Cert.KernelIdeal.Gen.facts
    Cert.ReferenceIdeal.Gen.facts Cert.Att.pre_facts := by
  intro m g m' g' hpre hagree
  refine ⟨fun c => fun i => Cert.Att.RES (Cert.Att.M0 m c) (Cert.Att.M1 m c) (Cert.Att.M2 m c) (i 0).val (i 1).val, ?_, ?_⟩
  · refine (θ_run Cert.KernelIdeal.defs _ _).mono (fun r h c => ⟨(h c).1.trans ?_, (h c).2⟩)
      (Cert.KernelIdeal.Value.run_blocks (F := Ideal) m g)
    exact Cert.Att.kernel_value m c (Cert.Att.finite_of_pre _ _ _ (hpre c))
  · refine (θ_run Cert.ReferenceIdeal.defs _ _).mono (fun r h c => ⟨(h c).1.trans ?_, (h c).2⟩)
      (Cert.ReferenceIdeal.Value.run (F := Ideal) m' g')
    refine (Cert.ReferenceIdeal.Read.val_main_v263_eq (StableHlo.launchContents m' c)).trans ?_
    have hf := Cert.Att.finite_of_pre _ _ _ (hpre c)
    obtain ⟨h0, h1, h2⟩ := hagree c
    funext i
    rw [StableHlo.launchContents_devRef, StableHlo.launchContents_devRef, StableHlo.launchContents_devRef, h0, h1, h2]
    obtain ⟨R, j, rfl⟩ : ∃ R j, i = ix2 R j := ⟨i 0, i 1, (ix2_eta i).symm⟩
    exact Cert.AttRef.reference_value hf R j

/-- The projection's reference runs, keeps its arguments and leaves every counter at zero. -/
theorem reference_frame2 : @Cert.quiescent_Reference2Ideal Cert.Reference2Ideal.Gen.facts := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The projection's kernel and reference leave the same array. -/
theorem same_value2 : @Cert.algebraic_Kernel2Ideal_Reference2Ideal Cert.Kernel2Ideal.Gen.facts
    Cert.Reference2Ideal.Gen.facts := by
  intro m g m' g' _ hagree
  refine ⟨fun c => fun i => Cert.Proj.PROJ (m (c, Proc.devRef .tc Cert.Kernel2Ideal.main_arg0))
    (m (c, Proc.devRef .tc Cert.Kernel2Ideal.main_arg1)) (m (c, Proc.devRef .tc Cert.Kernel2Ideal.main_arg2)) (i 0).val (i 1).val, ?_, ?_⟩
  · refine (θ_run Cert.Kernel2Ideal.defs _ _).mono (fun r h c => ⟨(h c).1.trans ?_, (h c).2⟩)
      (Cert.Kernel2Ideal.Value.run_blocks (F := Ideal) m g)
    exact Cert.Proj.kernel_value m c
  · refine (θ_run Cert.Reference2Ideal.defs _ _).mono (fun r h c => ⟨(h c).1.trans ?_, (h c).2⟩)
      (Cert.Reference2Ideal.Value.run (F := Ideal) m' g')
    refine (Cert.Reference2Ideal.Read.val_main_v39_eq m' c).trans ?_
    obtain ⟨h0, h1, h2⟩ := hagree c
    funext i
    rw [h0, h1, h2]
    obtain ⟨R, j, rfl⟩ : ∃ R j, i = ix2 R j := ⟨i 0, i 1, (ix2_eta i).symm⟩
    exact Cert.ProjRef.reference_value _ _ _ R j

/-- The merge's reference ends quietly, its arguments unchanged. -/
theorem reference_frame3 : @Cert.quiescent_Reference3Ideal Cert.Reference3Ideal.Gen.facts := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The merge's kernel and its reference compute the same rows. -/
theorem same_value3 : @Cert.algebraic_Kernel3Ideal_Reference3Ideal Cert.Kernel3Ideal.Gen.facts
    Cert.Reference3Ideal.Gen.facts := by
  intro m g m' g' _ hagree
  refine ⟨fun c => fun i => Cert.Mrg.RESM (m (c, Proc.devRef .tc Cert.Kernel3Ideal.main_arg0)) (m (c, Proc.devRef .tc
      Cert.Kernel3Ideal.main_arg1)) (m (c, Proc.devRef .tc Cert.Kernel3Ideal.main_arg2)) (m (c,
      Proc.devRef .tc Cert.Kernel3Ideal.main_arg3)) (m (c, Proc.devRef .tc Cert.Kernel3Ideal.main_arg4))
      (m (c, Proc.devRef .tc Cert.Kernel3Ideal.main_arg5)) (m (c, Proc.devRef .tc
      Cert.Kernel3Ideal.main_arg6)) (m (c, Proc.devRef .tc Cert.Kernel3Ideal.main_arg7)) (m (c,
      Proc.devRef .tc Cert.Kernel3Ideal.main_arg8)) (m (c, Proc.devRef .tc Cert.Kernel3Ideal.main_arg9))
      (m (c, Proc.devRef .tc Cert.Kernel3Ideal.main_arg10)) (m (c, Proc.devRef .tc
      Cert.Kernel3Ideal.main_arg11)) (m (c, Proc.devRef .tc Cert.Kernel3Ideal.main_arg12))
      (i 0) (i 1), ?_, ?_⟩
  · refine (θ_run Cert.Kernel3Ideal.defs _ _).mono (fun r h c => ⟨(h c).1.trans ?_, (h c).2⟩)
      (Cert.Kernel3Ideal.Value.run_blocks (F := Ideal) m g)
    exact Cert.Mrg.kernel_value m c
  · refine (θ_run Cert.Reference3Ideal.defs _ _).mono (fun r h c => ⟨(h c).1.trans ?_, (h c).2⟩)
      (Cert.Reference3Ideal.Value.run (F := Ideal) m' g')
    refine (Cert.Reference3Ideal.Read.val_main_v86_eq m' c).trans ?_
    obtain ⟨h0, h1, h2, h3, h4, h5, h6, h7, h8, h9, h10, h11, h12⟩ := hagree c
    funext i
    rw [h0, h1, h2, h3, h4, h5, h6, h7, h8, h9, h10, h11, h12]
    obtain ⟨R, d, rfl⟩ : ∃ R d, i = ix2 R d := ⟨i 0, i 1, (ix2_eta i).symm⟩
    exact Cert.MrgRef.reference_value _ _ _ _ _ _ _ _ _ _ _ _ _ R d

/-- The forget gate's reference ends quietly, its arguments unchanged. -/
theorem reference_frame4 : @Cert.quiescent_Reference4Ideal Cert.Reference4Ideal.Gen.facts := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The reference of the merge before another layer ends quietly, its arguments unchanged. -/
theorem reference_frame5 : @Cert.quiescent_Reference5Ideal Cert.Reference5Ideal.Gen.facts := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- The kernel of the merge before another layer and its reference compute the same stream and the same modulated norm. -/
theorem same_value5 : @Cert.algebraic_Kernel5Ideal_Reference5Ideal Cert.Kernel5Ideal.Gen.facts
    Cert.Reference5Ideal.Gen.facts := by
  intro m g m' g' _ hagree
  refine ⟨fun c => fun i => Cert.Nxt.RESX (m (c, Proc.devRef .tc Cert.Kernel5Ideal.main_arg0)) (m (c, Proc.devRef .tc Cert.Kernel5Ideal.main_arg1)) (m (c, Proc.devRef .tc Cert.Kernel5Ideal.main_arg2)) (m (c, Proc.devRef .tc Cert.Kernel5Ideal.main_arg3))
      (m (c, Proc.devRef .tc Cert.Kernel5Ideal.main_arg4)) (m (c, Proc.devRef .tc Cert.Kernel5Ideal.main_arg5)) (m (c, Proc.devRef .tc Cert.Kernel5Ideal.main_arg6)) (m (c, Proc.devRef .tc Cert.Kernel5Ideal.main_arg7))
      (m (c, Proc.devRef .tc Cert.Kernel5Ideal.main_arg8)) (m (c, Proc.devRef .tc Cert.Kernel5Ideal.main_arg9)) (m (c, Proc.devRef .tc Cert.Kernel5Ideal.main_arg10)) (m (c, Proc.devRef .tc Cert.Kernel5Ideal.main_arg11)) (i 0) (i 1),
    fun c => fun i => Cert.Nxt.RESH (m (c, Proc.devRef .tc Cert.Kernel5Ideal.main_arg0)) (m (c, Proc.devRef .tc Cert.Kernel5Ideal.main_arg1)) (m (c, Proc.devRef .tc Cert.Kernel5Ideal.main_arg2)) (m (c, Proc.devRef .tc Cert.Kernel5Ideal.main_arg3))
      (m (c, Proc.devRef .tc Cert.Kernel5Ideal.main_arg4)) (m (c, Proc.devRef .tc Cert.Kernel5Ideal.main_arg5)) (m (c, Proc.devRef .tc Cert.Kernel5Ideal.main_arg6)) (m (c, Proc.devRef .tc Cert.Kernel5Ideal.main_arg7))
      (m (c, Proc.devRef .tc Cert.Kernel5Ideal.main_arg8)) (m (c, Proc.devRef .tc Cert.Kernel5Ideal.main_arg9)) (m (c, Proc.devRef .tc Cert.Kernel5Ideal.main_arg10)) (m (c, Proc.devRef .tc Cert.Kernel5Ideal.main_arg11))
      (m (c, Proc.devRef .tc Cert.Kernel5Ideal.main_arg12)) (m (c, Proc.devRef .tc Cert.Kernel5Ideal.main_arg13)) (i 0) (i 1), ?_, ?_⟩
  · refine (θ_run Cert.Kernel5Ideal.defs _ _).mono (fun r h c => ⟨(h c).1.trans ?_, (h c).2.1.trans ?_, (h c).2.2⟩)
      (Cert.Kernel5Ideal.Value.run_blocks (F := Ideal) m g)
    · exact Cert.Nxt.stream_value m c
    · exact Cert.Nxt.norm_value m c
  · refine (θ_run Cert.Reference5Ideal.defs _ _).mono (fun r h c => ⟨(h c).1.trans ?_, (h c).2.1.trans ?_, (h c).2.2⟩)
      (Cert.Reference5Ideal.Value.run (F := Ideal) m' g')
    · refine (Cert.Reference5Ideal.Read.val_main_v96_eq m' c).trans ?_
      obtain ⟨h0, h1, h2, h3, h4, h5, h6, h7, h8, h9, h10, h11, h12, h13⟩ := hagree c
      funext i
      rw [h0, h1, h2, h3, h4, h5, h6, h7, h8, h9, h10, h11]
      obtain ⟨R, d, rfl⟩ : ∃ R d, i = ix2 R d := ⟨i 0, i 1, (ix2_eta i).symm⟩
      exact Cert.NxtRef.stream_value _ _ _ _ _ _ _ _ _ _ _ _ R d
    · refine (Cert.Reference5Ideal.Read.val_main_v98_eq m' c).trans ?_
      obtain ⟨h0, h1, h2, h3, h4, h5, h6, h7, h8, h9, h10, h11, h12, h13⟩ := hagree c
      funext i
      rw [h0, h1, h2, h3, h4, h5, h6, h7, h8, h9, h10, h11, h12, h13]
      obtain ⟨R, d, rfl⟩ : ∃ R d, i = ix2 R d := ⟨i 0, i 1, (ix2_eta i).symm⟩
      exact Cert.NxtRef.norm_value _ _ _ _ _ _ _ _ _ _ _ _ _ _ R d

/-- The forget projection's kernel and its reference compute the same logarithms, for bounds between 0 and 1. -/
theorem same_value4 : @Cert.algebraic_Kernel4Ideal_Reference4Ideal_pre_proper_bounds Cert.Kernel4Ideal.Gen.facts
    Cert.Reference4Ideal.Gen.facts Cert.FgtRef.pre_facts := by
  intro m g m' g' hpre hagree
  refine ⟨fun c => fun i => Cert.Fgt.RESF (m (c, Proc.devRef .tc Cert.Kernel4Ideal.main_arg0)) (m (c, Proc.devRef .tc Cert.Kernel4Ideal.main_arg1))
      (m (c, Proc.devRef .tc Cert.Kernel4Ideal.main_arg2)) (m (c, Proc.devRef .tc Cert.Kernel4Ideal.main_arg3)) (i 0).val (i 1), ?_, ?_⟩
  · refine (θ_run Cert.Kernel4Ideal.defs _ _).mono (fun r h c => ⟨(h c).1.trans ?_, (h c).2⟩)
      (Cert.Kernel4Ideal.Value.run_blocks (F := Ideal) m g)
    exact Cert.Fgt.kernel_value m c
  · refine (θ_run Cert.Reference4Ideal.defs _ _).mono (fun r h c => ⟨(h c).1.trans ?_, (h c).2⟩)
      (Cert.Reference4Ideal.Value.run (F := Ideal) m' g')
    refine (Cert.Reference4Ideal.Read.val_main_v76_eq m' c).trans ?_
    have hb := Cert.FgtRef.bounds_of_pre _ _ _ _ (hpre c)
    obtain ⟨h0, h1, h2, h3⟩ := hagree c
    funext i
    rw [h0, h1, h2, h3]
    obtain ⟨R, j, rfl⟩ : ∃ R j, i = ix2 R j := ⟨i 0, i 1, (ix2_eta i).symm⟩
    exact Cert.FgtRef.reference_value _ _ _ _ hb R j

/-- The first layer's forget projection computes the reference's logarithms, for bounds that are 0. -/
theorem same_value6 : @Cert.algebraic_Kernel6Ideal_Reference4Ideal_pre_zero_bounds Cert.Kernel6Ideal.Gen.facts
    Cert.Reference4Ideal.Gen.facts Cert.FstRef.pre_facts := by
  intro m g m' g' hpre hagree
  refine ⟨fun c => fun i => Cert.Fst.RES0 (m (c, Proc.devRef .tc Cert.Kernel6Ideal.main_arg0)) (m (c, Proc.devRef .tc Cert.Kernel6Ideal.main_arg1))
      (m (c, Proc.devRef .tc Cert.Kernel6Ideal.main_arg2)) (i 0).val (i 1), ?_, ?_⟩
  · refine (θ_run Cert.Kernel6Ideal.defs _ _).mono (fun r h c => ⟨(h c).1.trans ?_, (h c).2⟩)
      (Cert.Kernel6Ideal.Value.run_blocks (F := Ideal) m g)
    exact Cert.Fst.kernel_value m c
  · refine (θ_run Cert.Reference4Ideal.defs _ _).mono (fun r h c => ⟨(h c).1.trans ?_, (h c).2⟩)
      (Cert.Reference4Ideal.Value.run (F := Ideal) m' g')
    refine (Cert.Reference4Ideal.Read.val_main_v76_eq m' c).trans ?_
    have hb := Cert.FstRef.bounds_of_pre _ _ _ _ (hpre c)
    obtain ⟨h0, h1, h2, h3⟩ := hagree c
    funext i
    rw [h0, h1, h2, h3]
    obtain ⟨R, j, rfl⟩ : ∃ R j, i = ix2 R j := ⟨i 0, i 1, (ix2_eta i).symm⟩
    exact Cert.FstRef.reference_value _ _ _ _ hb R j

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts,
    Cert.Att.pre_facts, Cert.FgtRef.pre_facts, Cert.FstRef.pre_facts,
    fun m ρ _ => Cert.Kernel.Gen.frame m ρ, fun m ρ _ => Cert.KernelIdeal.Gen.frame m ρ,
    fun m ρ _ => Cert.KernelIdeal.Gen.frame m ρ, reference_frame,
    fun m ρ _ => reference_frame m ρ trivial,
    fun m ρ _ => Cert.Kernel2.Gen.frame m ρ, fun m ρ _ => Cert.Kernel2Ideal.Gen.frame m ρ, reference_frame2,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ,
    fun m ρ _ => Cert.Kernel4Ideal.Gen.frame m ρ, reference_frame4, fun m ρ _ => reference_frame4 m ρ trivial,
    fun m ρ _ => reference_frame4 m ρ trivial,
    fun m ρ _ => Cert.Kernel5.Gen.frame m ρ, fun m ρ _ => Cert.Kernel5Ideal.Gen.frame m ρ, reference_frame5,
    fun m ρ _ => Cert.Kernel6.Gen.frame m ρ, fun m ρ _ => Cert.Kernel6Ideal.Gen.frame m ρ,
    fun m ρ _ => Cert.Kernel6Ideal.Gen.frame m ρ,
    ⟨IdealRules.named_const.statement Cert.KernelIdeal.κ "scale" .f32 0x3E0293EE#32
        (((11863283 / 134217728) * (Real.log 2)⁻¹ : ℝ) : EReal) rfl,
      IdealRules.named_const.statement Cert.KernelIdeal.κ "log2e" .f32 0x3FB8AA3B#32 (((Real.log 2)⁻¹ : ℝ) : EReal) rfl⟩,
    same_value, trivial, same_value2, trivial, same_value3, trivial, same_value4, trivial, same_value5, trivial, same_value6⟩

end Cert.Proof

end
